-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 32768]⟩ (Layout.meshBlock [2, 2, 4] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)

variable [Facts]

def fn {F : FTy → Type} [FloatOps F] (main_arg0 : FVec F S512x1024 .f32) (main_arg1 : FVec F S1024x8192 .f32) : IVec S512x1024 1 × IVec S1024x8192 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  (main_v2, main_v5)
-- ==== Pre_finite_ReferenceIdeal.lean ====
abbrev S512x1024 : Shape := ⟨2, ![512, 1024]⟩
abbrev S1024x32768 : Shape := ⟨2, ![1024, 32768]⟩
abbrev S_ : Shape := ⟨0, ![]⟩

class Facts : Prop where
  bcast_S_S512x1024 : S_.BroadcastsInDim S512x1024 (![] : Fin 0 → Fin S512x1024.rank)
  bcast_S_S1024x32768 : S_.BroadcastsInDim S1024x32768 (![] : Fin 0 → Fin S1024x32768.rank)

variable [Facts]

def fn {F : FTy → Type} [FloatOps F] (main_arg0 : FVec F S512x1024 .f32) (main_arg1 : FVec F S1024x32768 .f32) : IVec S512x1024 1 × IVec S1024x32768 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x32768 .f32 := Host.absf main_arg1
  let main_cst_0 : FVec F S_ .f32 := constant S_ .f32 0x7F800000#32
  let main_v4 : FVec F S1024x32768 .f32 := broadcastInDim S1024x32768 ![] bcast_S_S1024x32768 main_cst_0
  let main_v5 : IVec S1024x32768 1 := cmpf .olt main_v3 main_v4
  (main_v2, main_v5)
-- ==== Kernel.lean ====
abbrev S512x1024 : Shape := ⟨2, ![512, 1024]⟩
abbrev S1024x8192 : Shape := ⟨2, ![1024, 8192]⟩
abbrev S512x8192 : Shape := ⟨2, ![512, 8192]⟩
abbrev S512x32768 : Shape := ⟨2, ![512, 32768]⟩
abbrev S4x512x4096 : Shape := ⟨3, ![4, 512, 4096]⟩
abbrev S2x512x1 : Shape := ⟨3, ![2, 512, 1]⟩
abbrev S3x2x512x1 : Shape := ⟨4, ![3, 2, 512, 1]⟩
abbrev S3 : Shape := ⟨1, ![3]⟩
abbrev S48 : Shape := ⟨1, ![48]⟩
abbrev S4 : Shape := ⟨1, ![4]⟩
abbrev S_ : Shape := ⟨0, ![]⟩
abbrev S512 : Shape := ⟨1, ![512]⟩
abbrev S512x1 : Shape := ⟨2, ![512, 1]⟩
abbrev S512x4096 : Shape := ⟨2, ![512, 4096]⟩
abbrev S1x512x1 : Shape := ⟨3, ![1, 512, 1]⟩
abbrev S1 : Shape := ⟨1, ![1]⟩
abbrev S1x2x512x1 : Shape := ⟨4, ![1, 2, 512, 1]⟩
abbrev S1x1x512x1 : Shape := ⟨4, ![1, 1, 512, 1]⟩
abbrev S1x512x4096 : Shape := ⟨3, ![1, 512, 4096]⟩
abbrev S1x512x256 : Shape := ⟨3, ![1, 512, 256]⟩
abbrev S512x256 : Shape := ⟨2, ![512, 256]⟩

abbrev nBuf : Space → Nat
  | .hbm => 4
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x8192, .f32⟩
  | .hbm, ⟨3, _⟩ => ⟨S512x32768, .f32⟩
  | .local _ .vmem, ⟨0, _⟩ => ⟨S512x8192, .f32⟩
  | .local _ .vmem, ⟨1, _⟩ => ⟨S4x512x4096, .f32⟩
  | .local _ .vmem, ⟨2, _⟩ => ⟨S2x512x1, .f32⟩
  | .local _ .vmem, ⟨3, _⟩ => ⟨S3x2x512x1, .f32⟩
  | _, _ => ⟨S512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 203 → Bool
  | ⟨i, _⟩ => dmaSemScopedAt i

abbrev sig : RefSig :=
  (ofTc nBuf bufTy 1 203 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v33 : BitVec 32 := Scalar.muli v2 c8_i32_17
  let v34 : BitVec 32 := Scalar.addi c0_i32_18 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v35 : BitVec 32 := Scalar.muli v5 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v22 : BitVec 32 := Scalar.addi v8 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_20 : BitVec 32 := 1#32
  let v37 : BitVec 32 := Scalar.muli v32 c1_i32_20
  let v38 : BitVec 32 := Scalar.addi v36 v37
  v38.toNat
def k0_dev2 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v50 : BitVec 32 := Scalar.muli v2 c8_i32_29
  let v51 : BitVec 32 := Scalar.addi c0_i32_30 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v52 : BitVec 32 := Scalar.muli v5 c4_i32_31
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_21 : BitVec 32 := 2#32
  let v39 : BitVec 32 := Scalar.addi v8 c2_i32_21
  let c4_i32_22 : BitVec 32 := 4#32
  let c0_i32_23 : BitVec 32 := 0#32
  let v40 : BitVec 1 := Scalar.cmpi .eq c4_i32_22 c0_i32_23
  let c1_i32_24 : BitVec 32 := 1#32
  let v41 : BitVec 32 := Scalar.select v40 c1_i32_24 c4_i32_22
  let v42 : BitVec 32 := Scalar.remsi v39 v41
  let c0_i32_26 : BitVec 32 := 0#32
  let v44 : BitVec 1 := Scalar.cmpi .slt v42 c0_i32_26
  let c0_i32_27 : BitVec 32 := 0#32
  let v45 : BitVec 1 := Scalar.cmpi .slt v41 c0_i32_27
  let v46 : BitVec 1 := Scalar.xori v44 v45
  let c0_i32_25 : BitVec 32 := 0#32
  let v43 : BitVec 1 := Scalar.cmpi .ne v42 c0_i32_25
  let v47 : BitVec 1 := Scalar.andi v46 v43
  let v48 : BitVec 32 := Scalar.addi v42 v41
  let v49 : BitVec 32 := Scalar.select v47 v48 v42
  let c1_i32_32 : BitVec 32 := 1#32
  let v54 : BitVec 32 := Scalar.muli v49 c1_i32_32
  let v55 : BitVec 32 := Scalar.addi v53 v54
  v55.toNat
def k0_dev3 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v67 : BitVec 32 := Scalar.muli v2 c8_i32_40
  let v68 : BitVec 32 := Scalar.addi c0_i32_41 v67
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v69 : BitVec 32 := Scalar.muli v5 c4_i32_42
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v56 : BitVec 32 := Scalar.addi v8 c3_i32
  let c4_i32_33 : BitVec 32 := 4#32
  let c0_i32_34 : BitVec 32 := 0#32
  let v57 : BitVec 1 := Scalar.cmpi .eq c4_i32_33 c0_i32_34
  let c1_i32_35 : BitVec 32 := 1#32
  let v58 : BitVec 32 := Scalar.select v57 c1_i32_35 c4_i32_33
  let v59 : BitVec 32 := Scalar.remsi v56 v58
  let c0_i32_37 : BitVec 32 := 0#32
  let v61 : BitVec 1 := Scalar.cmpi .slt v59 c0_i32_37
  let c0_i32_38 : BitVec 32 := 0#32
  let v62 : BitVec 1 := Scalar.cmpi .slt v58 c0_i32_38
  let v63 : BitVec 1 := Scalar.xori v61 v62
  let c0_i32_36 : BitVec 32 := 0#32
  let v60 : BitVec 1 := Scalar.cmpi .ne v59 c0_i32_36
  let v64 : BitVec 1 := Scalar.andi v63 v60
  let v65 : BitVec 32 := Scalar.addi v59 v58
  let v66 : BitVec 32 := Scalar.select v64 v65 v59
  let c1_i32_43 : BitVec 32 := 1#32
  let v71 : BitVec 32 := Scalar.muli v66 c1_i32_43
  let v72 : BitVec 32 := Scalar.addi v70 v71
  v72.toNat
def k0_dev4 (d0 : Dev nD) : Nat :=
  let c0_i32_46 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_45 : BitVec 32 := 8#32
  let v73 : BitVec 32 := Scalar.muli v9 c8_i32_45
  let v74 : BitVec 32 := Scalar.addi c0_i32_46 v73
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v75 : BitVec 32 := Scalar.muli v5 c4_i32_47
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v77 : BitVec 32 := Scalar.muli v8 c1_i32_48
  let v78 : BitVec 32 := Scalar.addi v76 v77
  v78.toNat
def k0_dev5 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v116 : BitVec 32 := Scalar.muli v2 c8_i32_76
  let v117 : BitVec 32 := Scalar.addi c0_i32_77 v116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_78 : BitVec 32 := 4#32
  let v118 : BitVec 32 := Scalar.muli v5 c4_i32_78
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v105 : BitVec 32 := Scalar.addi v8 c1_i32_66
  let c4_i32_67 : BitVec 32 := 4#32
  let c0_i32_68 : BitVec 32 := 0#32
  let v106 : BitVec 1 := Scalar.cmpi .eq c4_i32_67 c0_i32_68
  let c1_i32_69 : BitVec 32 := 1#32
  let v107 : BitVec 32 := Scalar.select v106 c1_i32_69 c4_i32_67
  let v108 : BitVec 32 := Scalar.remsi v105 v107
  let c0_i32_71 : BitVec 32 := 0#32
  let v110 : BitVec 1 := Scalar.cmpi .slt v108 c0_i32_71
  let c0_i32_72 : BitVec 32 := 0#32
  let v111 : BitVec 1 := Scalar.cmpi .slt v107 c0_i32_72
  let v112 : BitVec 1 := Scalar.xori v110 v111
  let c0_i32_70 : BitVec 32 := 0#32
  let v109 : BitVec 1 := Scalar.cmpi .ne v108 c0_i32_70
  let v113 : BitVec 1 := Scalar.andi v112 v109
  let v114 : BitVec 32 := Scalar.addi v108 v107
  let v115 : BitVec 32 := Scalar.select v113 v114 v108
  let c1_i32_79 : BitVec 32 := 1#32
  let v120 : BitVec 32 := Scalar.muli v115 c1_i32_79
  let v121 : BitVec 32 := Scalar.addi v119 v120
  v121.toNat
def k0_dev6 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v139 : BitVec 32 := Scalar.muli v2 c8_i32_93
  let v140 : BitVec 32 := Scalar.addi c0_i32_94 v139
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_95 : BitVec 32 := 4#32
  let v141 : BitVec 32 := Scalar.muli v5 c4_i32_95
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_83 : BitVec 32 := 2#32
  let v128 : BitVec 32 := Scalar.addi v8 c2_i32_83
  let c4_i32_84 : BitVec 32 := 4#32
  let c0_i32_85 : BitVec 32 := 0#32
  let v129 : BitVec 1 := Scalar.cmpi .eq c4_i32_84 c0_i32_85
  let c1_i32_86 : BitVec 32 := 1#32
  let v130 : BitVec 32 := Scalar.select v129 c1_i32_86 c4_i32_84
  let v131 : BitVec 32 := Scalar.remsi v128 v130
  let c0_i32_88 : BitVec 32 := 0#32
  let v133 : BitVec 1 := Scalar.cmpi .slt v131 c0_i32_88
  let c0_i32_89 : BitVec 32 := 0#32
  let v134 : BitVec 1 := Scalar.cmpi .slt v130 c0_i32_89
  let v135 : BitVec 1 := Scalar.xori v133 v134
  let c0_i32_87 : BitVec 32 := 0#32
  let v132 : BitVec 1 := Scalar.cmpi .ne v131 c0_i32_87
  let v136 : BitVec 1 := Scalar.andi v135 v132
  let v137 : BitVec 32 := Scalar.addi v131 v130
  let v138 : BitVec 32 := Scalar.select v136 v137 v131
  let c1_i32_96 : BitVec 32 := 1#32
  let v143 : BitVec 32 := Scalar.muli v138 c1_i32_96
  let v144 : BitVec 32 := Scalar.addi v142 v143
  v144.toNat
def k0_dev7 (d0 : Dev nD) : Nat :=
  let c0_i32_111 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_110 : BitVec 32 := 8#32
  let v162 : BitVec 32 := Scalar.muli v2 c8_i32_110
  let v163 : BitVec 32 := Scalar.addi c0_i32_111 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_112 : BitVec 32 := 4#32
  let v164 : BitVec 32 := Scalar.muli v5 c4_i32_112
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_100 : BitVec 32 := 3#32
  let v151 : BitVec 32 := Scalar.addi v8 c3_i32_100
  let c4_i32_101 : BitVec 32 := 4#32
  let c0_i32_102 : BitVec 32 := 0#32
  let v152 : BitVec 1 := Scalar.cmpi .eq c4_i32_101 c0_i32_102
  let c1_i32_103 : BitVec 32 := 1#32
  let v153 : BitVec 32 := Scalar.select v152 c1_i32_103 c4_i32_101
  let v154 : BitVec 32 := Scalar.remsi v151 v153
  let c0_i32_105 : BitVec 32 := 0#32
  let v156 : BitVec 1 := Scalar.cmpi .slt v154 c0_i32_105
  let c0_i32_106 : BitVec 32 := 0#32
  let v157 : BitVec 1 := Scalar.cmpi .slt v153 c0_i32_106
  let v158 : BitVec 1 := Scalar.xori v156 v157
  let c0_i32_104 : BitVec 32 := 0#32
  let v155 : BitVec 1 := Scalar.cmpi .ne v154 c0_i32_104
  let v159 : BitVec 1 := Scalar.andi v158 v155
  let v160 : BitVec 32 := Scalar.addi v154 v153
  let v161 : BitVec 32 := Scalar.select v159 v160 v154
  let c1_i32_113 : BitVec 32 := 1#32
  let v166 : BitVec 32 := Scalar.muli v161 c1_i32_113
  let v167 : BitVec 32 := Scalar.addi v165 v166
  v167.toNat
def k0_dev8 (d0 : Dev nD) : Nat :=
  let c0_i32_220 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_219 : BitVec 32 := 8#32
  let v273 : BitVec 32 := Scalar.muli v2 c8_i32_219
  let v274 : BitVec 32 := Scalar.addi c0_i32_220 v273
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_221 : BitVec 32 := 4#32
  let v275 : BitVec 32 := Scalar.muli v5 c4_i32_221
  let v276 : BitVec 32 := Scalar.addi v274 v275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_222 : BitVec 32 := 1#32
  let v277 : BitVec 32 := Scalar.muli v20 c1_i32_222
  let v278 : BitVec 32 := Scalar.addi v276 v277
  v278.toNat
def k0_dev9 (d0 : Dev nD) : Nat :=
  let c0_i32_232 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_231 : BitVec 32 := 8#32
  let v287 : BitVec 32 := Scalar.muli v2 c8_i32_231
  let v288 : BitVec 32 := Scalar.addi c0_i32_232 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_233 : BitVec 32 := 4#32
  let v289 : BitVec 32 := Scalar.muli v5 c4_i32_233
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_234 : BitVec 32 := 1#32
  let v291 : BitVec 32 := Scalar.muli v20 c1_i32_234
  let v292 : BitVec 32 := Scalar.addi v290 v291
  v292.toNat
def k0_dev10 (d0 : Dev nD) : Nat :=
  let c0_i32_243 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_242 : BitVec 32 := 8#32
  let v301 : BitVec 32 := Scalar.muli v2 c8_i32_242
  let v302 : BitVec 32 := Scalar.addi c0_i32_243 v301
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_244 : BitVec 32 := 4#32
  let v303 : BitVec 32 := Scalar.muli v5 c4_i32_244
  let v304 : BitVec 32 := Scalar.addi v302 v303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_245 : BitVec 32 := 1#32
  let v305 : BitVec 32 := Scalar.muli v20 c1_i32_245
  let v306 : BitVec 32 := Scalar.addi v304 v305
  v306.toNat
def k0_dev11 (d0 : Dev nD) : Nat :=
  let c0_i32_254 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_253 : BitVec 32 := 8#32
  let v315 : BitVec 32 := Scalar.muli v2 c8_i32_253
  let v316 : BitVec 32 := Scalar.addi c0_i32_254 v315
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_255 : BitVec 32 := 4#32
  let v317 : BitVec 32 := Scalar.muli v5 c4_i32_255
  let v318 : BitVec 32 := Scalar.addi v316 v317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_256 : BitVec 32 := 1#32
  let v319 : BitVec 32 := Scalar.muli v20 c1_i32_256
  let v320 : BitVec 32 := Scalar.addi v318 v319
  v320.toNat
def k0_dev12 (d0 : Dev nD) : Nat :=
  let c0_i32_265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_264 : BitVec 32 := 8#32
  let v329 : BitVec 32 := Scalar.muli v2 c8_i32_264
  let v330 : BitVec 32 := Scalar.addi c0_i32_265 v329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_266 : BitVec 32 := 4#32
  let v331 : BitVec 32 := Scalar.muli v5 c4_i32_266
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_267 : BitVec 32 := 1#32
  let v333 : BitVec 32 := Scalar.muli v20 c1_i32_267
  let v334 : BitVec 32 := Scalar.addi v332 v333
  v334.toNat
def k0_dev13 (d0 : Dev nD) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v343 : BitVec 32 := Scalar.muli v2 c8_i32_274
  let v344 : BitVec 32 := Scalar.addi c0_i32_275 v343
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v345 : BitVec 32 := Scalar.muli v5 c4_i32_276
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_277 : BitVec 32 := 1#32
  let v347 : BitVec 32 := Scalar.muli v20 c1_i32_277
  let v348 : BitVec 32 := Scalar.addi v346 v347
  v348.toNat
def k0_dev14 (d0 : Dev nD) : Nat :=
  let c0_i32_285 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_284 : BitVec 32 := 8#32
  let v357 : BitVec 32 := Scalar.muli v2 c8_i32_284
  let v358 : BitVec 32 := Scalar.addi c0_i32_285 v357
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_286 : BitVec 32 := 4#32
  let v359 : BitVec 32 := Scalar.muli v5 c4_i32_286
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_287 : BitVec 32 := 1#32
  let v361 : BitVec 32 := Scalar.muli v20 c1_i32_287
  let v362 : BitVec 32 := Scalar.addi v360 v361
  v362.toNat
def k0_dev15 (d0 : Dev nD) : Nat :=
  let c0_i32_295 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_294 : BitVec 32 := 8#32
  let v371 : BitVec 32 := Scalar.muli v2 c8_i32_294
  let v372 : BitVec 32 := Scalar.addi c0_i32_295 v371
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_296 : BitVec 32 := 4#32
  let v373 : BitVec 32 := Scalar.muli v5 c4_i32_296
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_297 : BitVec 32 := 1#32
  let v375 : BitVec 32 := Scalar.muli v20 c1_i32_297
  let v376 : BitVec 32 := Scalar.addi v374 v375
  v376.toNat
def k0_dev16 (d0 : Dev nD) : Nat :=
  let c0_i32_306 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_305 : BitVec 32 := 8#32
  let v385 : BitVec 32 := Scalar.muli v2 c8_i32_305
  let v386 : BitVec 32 := Scalar.addi c0_i32_306 v385
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_307 : BitVec 32 := 4#32
  let v387 : BitVec 32 := Scalar.muli v5 c4_i32_307
  let v388 : BitVec 32 := Scalar.addi v386 v387
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_308 : BitVec 32 := 1#32
  let v389 : BitVec 32 := Scalar.muli v20 c1_i32_308
  let v390 : BitVec 32 := Scalar.addi v388 v389
  v390.toNat
def k0_dev17 (d0 : Dev nD) : Nat :=
  let c0_i32_316 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_315 : BitVec 32 := 8#32
  let v399 : BitVec 32 := Scalar.muli v2 c8_i32_315
  let v400 : BitVec 32 := Scalar.addi c0_i32_316 v399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_317 : BitVec 32 := 4#32
  let v401 : BitVec 32 := Scalar.muli v5 c4_i32_317
  let v402 : BitVec 32 := Scalar.addi v400 v401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_318 : BitVec 32 := 1#32
  let v403 : BitVec 32 := Scalar.muli v20 c1_i32_318
  let v404 : BitVec 32 := Scalar.addi v402 v403
  v404.toNat
def k0_dev18 (d0 : Dev nD) : Nat :=
  let c0_i32_326 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_325 : BitVec 32 := 8#32
  let v413 : BitVec 32 := Scalar.muli v2 c8_i32_325
  let v414 : BitVec 32 := Scalar.addi c0_i32_326 v413
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_327 : BitVec 32 := 4#32
  let v415 : BitVec 32 := Scalar.muli v5 c4_i32_327
  let v416 : BitVec 32 := Scalar.addi v414 v415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_328 : BitVec 32 := 1#32
  let v417 : BitVec 32 := Scalar.muli v20 c1_i32_328
  let v418 : BitVec 32 := Scalar.addi v416 v417
  v418.toNat
def k0_dev19 (d0 : Dev nD) : Nat :=
  let c0_i32_336 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_335 : BitVec 32 := 8#32
  let v427 : BitVec 32 := Scalar.muli v2 c8_i32_335
  let v428 : BitVec 32 := Scalar.addi c0_i32_336 v427
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_337 : BitVec 32 := 4#32
  let v429 : BitVec 32 := Scalar.muli v5 c4_i32_337
  let v430 : BitVec 32 := Scalar.addi v428 v429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_338 : BitVec 32 := 1#32
  let v431 : BitVec 32 := Scalar.muli v20 c1_i32_338
  let v432 : BitVec 32 := Scalar.addi v430 v431
  v432.toNat
def k0_dev20 (d0 : Dev nD) : Nat :=
  let c0_i32_346 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_345 : BitVec 32 := 8#32
  let v441 : BitVec 32 := Scalar.muli v2 c8_i32_345
  let v442 : BitVec 32 := Scalar.addi c0_i32_346 v441
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_347 : BitVec 32 := 4#32
  let v443 : BitVec 32 := Scalar.muli v5 c4_i32_347
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_348 : BitVec 32 := 1#32
  let v445 : BitVec 32 := Scalar.muli v20 c1_i32_348
  let v446 : BitVec 32 := Scalar.addi v444 v445
  v446.toNat
def k0_dev21 (d0 : Dev nD) : Nat :=
  let c0_i32_356 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_355 : BitVec 32 := 8#32
  let v455 : BitVec 32 := Scalar.muli v2 c8_i32_355
  let v456 : BitVec 32 := Scalar.addi c0_i32_356 v455
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_357 : BitVec 32 := 4#32
  let v457 : BitVec 32 := Scalar.muli v5 c4_i32_357
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_358 : BitVec 32 := 1#32
  let v459 : BitVec 32 := Scalar.muli v20 c1_i32_358
  let v460 : BitVec 32 := Scalar.addi v458 v459
  v460.toNat
def k0_dev22 (d0 : Dev nD) : Nat :=
  let c0_i32_366 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_365 : BitVec 32 := 8#32
  let v469 : BitVec 32 := Scalar.muli v2 c8_i32_365
  let v470 : BitVec 32 := Scalar.addi c0_i32_366 v469
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_367 : BitVec 32 := 4#32
  let v471 : BitVec 32 := Scalar.muli v5 c4_i32_367
  let v472 : BitVec 32 := Scalar.addi v470 v471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_368 : BitVec 32 := 1#32
  let v473 : BitVec 32 := Scalar.muli v20 c1_i32_368
  let v474 : BitVec 32 := Scalar.addi v472 v473
  v474.toNat
def k0_dev23 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_375 : BitVec 32 := 8#32
  let v483 : BitVec 32 := Scalar.muli v2 c8_i32_375
  let v484 : BitVec 32 := Scalar.addi c0_i32_376 v483
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_377 : BitVec 32 := 4#32
  let v485 : BitVec 32 := Scalar.muli v5 c4_i32_377
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_378 : BitVec 32 := 1#32
  let v487 : BitVec 32 := Scalar.muli v20 c1_i32_378
  let v488 : BitVec 32 := Scalar.addi v486 v487
  v488.toNat
def k0_off1 (d0 : Dev nD) : Fin 2 → Nat :=
  let c0_i32_383 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v497 : BitVec 32 := Scalar.muli v8 c8192_i32
  ![0, v497.toNat]
def k0_dev24 (d0 : Dev nD) : Nat :=
  let c0_i32_409 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_408 : BitVec 32 := 8#32
  let v526 : BitVec 32 := Scalar.muli v2 c8_i32_408
  let v527 : BitVec 32 := Scalar.addi c0_i32_409 v526
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_410 : BitVec 32 := 4#32
  let v528 : BitVec 32 := Scalar.muli v5 c4_i32_410
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_411 : BitVec 32 := 1#32
  let v530 : BitVec 32 := Scalar.muli v20 c1_i32_411
  let v531 : BitVec 32 := Scalar.addi v529 v530
  v531.toNat
def k0_off2 (d0 : Dev nD) (c0_i32_384 : BitVec 32) (c0_i32_416 : BitVec 32) : Fin 2 → Nat :=
  let c0_i32_424 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v501 : BitVec 32 := Scalar.subi v8 c0_i32_384
  let c1_i32_385 : BitVec 32 := 1#32
  let v502 : BitVec 32 := Scalar.subi v501 c1_i32_385
  let c4_i32_386 : BitVec 32 := 4#32
  let c0_i32_387 : BitVec 32 := 0#32
  let v503 : BitVec 1 := Scalar.cmpi .eq c4_i32_386 c0_i32_387
  let c1_i32_388 : BitVec 32 := 1#32
  let v504 : BitVec 32 := Scalar.select v503 c1_i32_388 c4_i32_386
  let v505 : BitVec 32 := Scalar.remsi v502 v504
  let c0_i32_390 : BitVec 32 := 0#32
  let v507 : BitVec 1 := Scalar.cmpi .slt v505 c0_i32_390
  let c0_i32_391 : BitVec 32 := 0#32
  let v508 : BitVec 1 := Scalar.cmpi .slt v504 c0_i32_391
  let v509 : BitVec 1 := Scalar.xori v507 v508
  let c0_i32_389 : BitVec 32 := 0#32
  let v506 : BitVec 1 := Scalar.cmpi .ne v505 c0_i32_389
  let v510 : BitVec 1 := Scalar.andi v509 v506
  let v511 : BitVec 32 := Scalar.addi v505 v504
  let v512 : BitVec 32 := Scalar.select v510 v511 v505
  let c8192_i32_392 : BitVec 32 := 8192#32
  let v513 : BitVec 32 := Scalar.muli v512 c8192_i32_392
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v540 : BitVec 32 := Scalar.muli v2 c4096_i32
  let v541 : BitVec 32 := Scalar.addi v513 v540
  let v542 : BitVec 32 := Scalar.addi v541 c0_i32_416
  ![0, v542.toNat]
def k0_dev25 (d0 : Dev nD) : Nat :=
  let c0_i32_421 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_420 : BitVec 32 := 8#32
  let v543 : BitVec 32 := Scalar.muli v9 c8_i32_420
  let v544 : BitVec 32 := Scalar.addi c0_i32_421 v543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_422 : BitVec 32 := 4#32
  let v545 : BitVec 32 := Scalar.muli v5 c4_i32_422
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v547 : BitVec 32 := Scalar.muli v8 c1_i32_423
  let v548 : BitVec 32 := Scalar.addi v546 v547
  v548.toNat
def k0_dev26 (d0 : Dev nD) : Nat :=
  let c0_i32_446 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_445 : BitVec 32 := 8#32
  let v572 : BitVec 32 := Scalar.muli v2 c8_i32_445
  let v573 : BitVec 32 := Scalar.addi c0_i32_446 v572
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_447 : BitVec 32 := 4#32
  let v574 : BitVec 32 := Scalar.muli v5 c4_i32_447
  let v575 : BitVec 32 := Scalar.addi v573 v574
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_448 : BitVec 32 := 1#32
  let v576 : BitVec 32 := Scalar.muli v20 c1_i32_448
  let v577 : BitVec 32 := Scalar.addi v575 v576
  v577.toNat
def k0_dev27 (d0 : Dev nD) : Nat :=
  let c0_i32_459 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_458 : BitVec 32 := 8#32
  let v589 : BitVec 32 := Scalar.muli v9 c8_i32_458
  let v590 : BitVec 32 := Scalar.addi c0_i32_459 v589
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_460 : BitVec 32 := 4#32
  let v591 : BitVec 32 := Scalar.muli v5 c4_i32_460
  let v592 : BitVec 32 := Scalar.addi v590 v591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_461 : BitVec 32 := 1#32
  let v593 : BitVec 32 := Scalar.muli v8 c1_i32_461
  let v594 : BitVec 32 := Scalar.addi v592 v593
  v594.toNat
def k0_dev28 (d0 : Dev nD) : Nat :=
  let c0_i32_484 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_483 : BitVec 32 := 8#32
  let v618 : BitVec 32 := Scalar.muli v2 c8_i32_483
  let v619 : BitVec 32 := Scalar.addi c0_i32_484 v618
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_485 : BitVec 32 := 4#32
  let v620 : BitVec 32 := Scalar.muli v5 c4_i32_485
  let v621 : BitVec 32 := Scalar.addi v619 v620
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_486 : BitVec 32 := 1#32
  let v622 : BitVec 32 := Scalar.muli v20 c1_i32_486
  let v623 : BitVec 32 := Scalar.addi v621 v622
  v623.toNat
def k0_dev29 (d0 : Dev nD) : Nat :=
  let c0_i32_497 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_496 : BitVec 32 := 8#32
  let v635 : BitVec 32 := Scalar.muli v9 c8_i32_496
  let v636 : BitVec 32 := Scalar.addi c0_i32_497 v635
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_498 : BitVec 32 := 4#32
  let v637 : BitVec 32 := Scalar.muli v5 c4_i32_498
  let v638 : BitVec 32 := Scalar.addi v636 v637
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_499 : BitVec 32 := 1#32
  let v639 : BitVec 32 := Scalar.muli v8 c1_i32_499
  let v640 : BitVec 32 := Scalar.addi v638 v639
  v640.toNat
def k0_dev30 (d0 : Dev nD) : Nat :=
  let c0_i32_522 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_521 : BitVec 32 := 8#32
  let v664 : BitVec 32 := Scalar.muli v2 c8_i32_521
  let v665 : BitVec 32 := Scalar.addi c0_i32_522 v664
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_523 : BitVec 32 := 4#32
  let v666 : BitVec 32 := Scalar.muli v5 c4_i32_523
  let v667 : BitVec 32 := Scalar.addi v665 v666
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_524 : BitVec 32 := 1#32
  let v668 : BitVec 32 := Scalar.muli v20 c1_i32_524
  let v669 : BitVec 32 := Scalar.addi v667 v668
  v669.toNat
def k0_dev31 (d0 : Dev nD) : Nat :=
  let c0_i32_535 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_534 : BitVec 32 := 8#32
  let v681 : BitVec 32 := Scalar.muli v9 c8_i32_534
  let v682 : BitVec 32 := Scalar.addi c0_i32_535 v681
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_536 : BitVec 32 := 4#32
  let v683 : BitVec 32 := Scalar.muli v5 c4_i32_536
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_537 : BitVec 32 := 1#32
  let v685 : BitVec 32 := Scalar.muli v8 c1_i32_537
  let v686 : BitVec 32 := Scalar.addi v684 v685
  v686.toNat
def k0_dev32 (d0 : Dev nD) : Nat :=
  let c0_i32_560 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_559 : BitVec 32 := 8#32
  let v710 : BitVec 32 := Scalar.muli v2 c8_i32_559
  let v711 : BitVec 32 := Scalar.addi c0_i32_560 v710
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_561 : BitVec 32 := 4#32
  let v712 : BitVec 32 := Scalar.muli v5 c4_i32_561
  let v713 : BitVec 32 := Scalar.addi v711 v712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_562 : BitVec 32 := 1#32
  let v714 : BitVec 32 := Scalar.muli v20 c1_i32_562
  let v715 : BitVec 32 := Scalar.addi v713 v714
  v715.toNat
def k0_dev33 (d0 : Dev nD) : Nat :=
  let c0_i32_573 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_572 : BitVec 32 := 8#32
  let v727 : BitVec 32 := Scalar.muli v9 c8_i32_572
  let v728 : BitVec 32 := Scalar.addi c0_i32_573 v727
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_574 : BitVec 32 := 4#32
  let v729 : BitVec 32 := Scalar.muli v5 c4_i32_574
  let v730 : BitVec 32 := Scalar.addi v728 v729
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v731 : BitVec 32 := Scalar.muli v8 c1_i32_575
  let v732 : BitVec 32 := Scalar.addi v730 v731
  v732.toNat
def k0_dev34 (d0 : Dev nD) : Nat :=
  let c0_i32_598 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_597 : BitVec 32 := 8#32
  let v756 : BitVec 32 := Scalar.muli v2 c8_i32_597
  let v757 : BitVec 32 := Scalar.addi c0_i32_598 v756
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_599 : BitVec 32 := 4#32
  let v758 : BitVec 32 := Scalar.muli v5 c4_i32_599
  let v759 : BitVec 32 := Scalar.addi v757 v758
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_600 : BitVec 32 := 1#32
  let v760 : BitVec 32 := Scalar.muli v20 c1_i32_600
  let v761 : BitVec 32 := Scalar.addi v759 v760
  v761.toNat
def k0_dev35 (d0 : Dev nD) : Nat :=
  let c0_i32_611 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_610 : BitVec 32 := 8#32
  let v773 : BitVec 32 := Scalar.muli v9 c8_i32_610
  let v774 : BitVec 32 := Scalar.addi c0_i32_611 v773
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_612 : BitVec 32 := 4#32
  let v775 : BitVec 32 := Scalar.muli v5 c4_i32_612
  let v776 : BitVec 32 := Scalar.addi v774 v775
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_613 : BitVec 32 := 1#32
  let v777 : BitVec 32 := Scalar.muli v8 c1_i32_613
  let v778 : BitVec 32 := Scalar.addi v776 v777
  v778.toNat
def k0_dev36 (d0 : Dev nD) : Nat :=
  let c0_i32_636 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_635 : BitVec 32 := 8#32
  let v802 : BitVec 32 := Scalar.muli v2 c8_i32_635
  let v803 : BitVec 32 := Scalar.addi c0_i32_636 v802
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_637 : BitVec 32 := 4#32
  let v804 : BitVec 32 := Scalar.muli v5 c4_i32_637
  let v805 : BitVec 32 := Scalar.addi v803 v804
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_638 : BitVec 32 := 1#32
  let v806 : BitVec 32 := Scalar.muli v20 c1_i32_638
  let v807 : BitVec 32 := Scalar.addi v805 v806
  v807.toNat
def k0_dev37 (d0 : Dev nD) : Nat :=
  let c0_i32_649 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_648 : BitVec 32 := 8#32
  let v819 : BitVec 32 := Scalar.muli v9 c8_i32_648
  let v820 : BitVec 32 := Scalar.addi c0_i32_649 v819
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_650 : BitVec 32 := 4#32
  let v821 : BitVec 32 := Scalar.muli v5 c4_i32_650
  let v822 : BitVec 32 := Scalar.addi v820 v821
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_651 : BitVec 32 := 1#32
  let v823 : BitVec 32 := Scalar.muli v8 c1_i32_651
  let v824 : BitVec 32 := Scalar.addi v822 v823
  v824.toNat
def k0_dev38 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v848 : BitVec 32 := Scalar.muli v2 c8_i32_673
  let v849 : BitVec 32 := Scalar.addi c0_i32_674 v848
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v850 : BitVec 32 := Scalar.muli v5 c4_i32_675
  let v851 : BitVec 32 := Scalar.addi v849 v850
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_676 : BitVec 32 := 1#32
  let v852 : BitVec 32 := Scalar.muli v20 c1_i32_676
  let v853 : BitVec 32 := Scalar.addi v851 v852
  v853.toNat
def k0_dev39 (d0 : Dev nD) : Nat :=
  let c0_i32_687 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_686 : BitVec 32 := 8#32
  let v865 : BitVec 32 := Scalar.muli v9 c8_i32_686
  let v866 : BitVec 32 := Scalar.addi c0_i32_687 v865
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_688 : BitVec 32 := 4#32
  let v867 : BitVec 32 := Scalar.muli v5 c4_i32_688
  let v868 : BitVec 32 := Scalar.addi v866 v867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_689 : BitVec 32 := 1#32
  let v869 : BitVec 32 := Scalar.muli v8 c1_i32_689
  let v870 : BitVec 32 := Scalar.addi v868 v869
  v870.toNat
def k0_dev40 (d0 : Dev nD) : Nat :=
  let c0_i32_712 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_711 : BitVec 32 := 8#32
  let v894 : BitVec 32 := Scalar.muli v2 c8_i32_711
  let v895 : BitVec 32 := Scalar.addi c0_i32_712 v894
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_713 : BitVec 32 := 4#32
  let v896 : BitVec 32 := Scalar.muli v5 c4_i32_713
  let v897 : BitVec 32 := Scalar.addi v895 v896
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_714 : BitVec 32 := 1#32
  let v898 : BitVec 32 := Scalar.muli v20 c1_i32_714
  let v899 : BitVec 32 := Scalar.addi v897 v898
  v899.toNat
def k0_dev41 (d0 : Dev nD) : Nat :=
  let c0_i32_725 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_724 : BitVec 32 := 8#32
  let v911 : BitVec 32 := Scalar.muli v9 c8_i32_724
  let v912 : BitVec 32 := Scalar.addi c0_i32_725 v911
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_726 : BitVec 32 := 4#32
  let v913 : BitVec 32 := Scalar.muli v5 c4_i32_726
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_727 : BitVec 32 := 1#32
  let v915 : BitVec 32 := Scalar.muli v8 c1_i32_727
  let v916 : BitVec 32 := Scalar.addi v914 v915
  v916.toNat
def k0_dev42 (d0 : Dev nD) : Nat :=
  let c0_i32_750 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_749 : BitVec 32 := 8#32
  let v940 : BitVec 32 := Scalar.muli v2 c8_i32_749
  let v941 : BitVec 32 := Scalar.addi c0_i32_750 v940
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_751 : BitVec 32 := 4#32
  let v942 : BitVec 32 := Scalar.muli v5 c4_i32_751
  let v943 : BitVec 32 := Scalar.addi v941 v942
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_752 : BitVec 32 := 1#32
  let v944 : BitVec 32 := Scalar.muli v20 c1_i32_752
  let v945 : BitVec 32 := Scalar.addi v943 v944
  v945.toNat
def k0_dev43 (d0 : Dev nD) : Nat :=
  let c0_i32_763 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_762 : BitVec 32 := 8#32
  let v957 : BitVec 32 := Scalar.muli v9 c8_i32_762
  let v958 : BitVec 32 := Scalar.addi c0_i32_763 v957
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_764 : BitVec 32 := 4#32
  let v959 : BitVec 32 := Scalar.muli v5 c4_i32_764
  let v960 : BitVec 32 := Scalar.addi v958 v959
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v961 : BitVec 32 := Scalar.muli v8 c1_i32_765
  let v962 : BitVec 32 := Scalar.addi v960 v961
  v962.toNat
def k0_dev44 (d0 : Dev nD) : Nat :=
  let c0_i32_788 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_787 : BitVec 32 := 8#32
  let v986 : BitVec 32 := Scalar.muli v2 c8_i32_787
  let v987 : BitVec 32 := Scalar.addi c0_i32_788 v986
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_789 : BitVec 32 := 4#32
  let v988 : BitVec 32 := Scalar.muli v5 c4_i32_789
  let v989 : BitVec 32 := Scalar.addi v987 v988
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_790 : BitVec 32 := 1#32
  let v990 : BitVec 32 := Scalar.muli v20 c1_i32_790
  let v991 : BitVec 32 := Scalar.addi v989 v990
  v991.toNat
def k0_dev45 (d0 : Dev nD) : Nat :=
  let c0_i32_801 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_800 : BitVec 32 := 8#32
  let v1003 : BitVec 32 := Scalar.muli v9 c8_i32_800
  let v1004 : BitVec 32 := Scalar.addi c0_i32_801 v1003
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_802 : BitVec 32 := 4#32
  let v1005 : BitVec 32 := Scalar.muli v5 c4_i32_802
  let v1006 : BitVec 32 := Scalar.addi v1004 v1005
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_803 : BitVec 32 := 1#32
  let v1007 : BitVec 32 := Scalar.muli v8 c1_i32_803
  let v1008 : BitVec 32 := Scalar.addi v1006 v1007
  v1008.toNat
def k0_dev46 (d0 : Dev nD) : Nat :=
  let c0_i32_826 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_825 : BitVec 32 := 8#32
  let v1032 : BitVec 32 := Scalar.muli v2 c8_i32_825
  let v1033 : BitVec 32 := Scalar.addi c0_i32_826 v1032
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_827 : BitVec 32 := 4#32
  let v1034 : BitVec 32 := Scalar.muli v5 c4_i32_827
  let v1035 : BitVec 32 := Scalar.addi v1033 v1034
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_828 : BitVec 32 := 1#32
  let v1036 : BitVec 32 := Scalar.muli v20 c1_i32_828
  let v1037 : BitVec 32 := Scalar.addi v1035 v1036
  v1037.toNat
def k0_dev47 (d0 : Dev nD) : Nat :=
  let c0_i32_839 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_838 : BitVec 32 := 8#32
  let v1049 : BitVec 32 := Scalar.muli v9 c8_i32_838
  let v1050 : BitVec 32 := Scalar.addi c0_i32_839 v1049
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v1051 : BitVec 32 := Scalar.muli v5 c4_i32_840
  let v1052 : BitVec 32 := Scalar.addi v1050 v1051
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_841 : BitVec 32 := 1#32
  let v1053 : BitVec 32 := Scalar.muli v8 c1_i32_841
  let v1054 : BitVec 32 := Scalar.addi v1052 v1053
  v1054.toNat
def k0_dev48 (d0 : Dev nD) : Nat :=
  let c0_i32_864 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_863 : BitVec 32 := 8#32
  let v1078 : BitVec 32 := Scalar.muli v2 c8_i32_863
  let v1079 : BitVec 32 := Scalar.addi c0_i32_864 v1078
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_865 : BitVec 32 := 4#32
  let v1080 : BitVec 32 := Scalar.muli v5 c4_i32_865
  let v1081 : BitVec 32 := Scalar.addi v1079 v1080
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_866 : BitVec 32 := 1#32
  let v1082 : BitVec 32 := Scalar.muli v20 c1_i32_866
  let v1083 : BitVec 32 := Scalar.addi v1081 v1082
  v1083.toNat
def k0_dev49 (d0 : Dev nD) : Nat :=
  let c0_i32_877 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_876 : BitVec 32 := 8#32
  let v1095 : BitVec 32 := Scalar.muli v9 c8_i32_876
  let v1096 : BitVec 32 := Scalar.addi c0_i32_877 v1095
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_878 : BitVec 32 := 4#32
  let v1097 : BitVec 32 := Scalar.muli v5 c4_i32_878
  let v1098 : BitVec 32 := Scalar.addi v1096 v1097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_879 : BitVec 32 := 1#32
  let v1099 : BitVec 32 := Scalar.muli v8 c1_i32_879
  let v1100 : BitVec 32 := Scalar.addi v1098 v1099
  v1100.toNat
def k0_dev50 (d0 : Dev nD) : Nat :=
  let c0_i32_902 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_901 : BitVec 32 := 8#32
  let v1124 : BitVec 32 := Scalar.muli v2 c8_i32_901
  let v1125 : BitVec 32 := Scalar.addi c0_i32_902 v1124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_903 : BitVec 32 := 4#32
  let v1126 : BitVec 32 := Scalar.muli v5 c4_i32_903
  let v1127 : BitVec 32 := Scalar.addi v1125 v1126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_904 : BitVec 32 := 1#32
  let v1128 : BitVec 32 := Scalar.muli v20 c1_i32_904
  let v1129 : BitVec 32 := Scalar.addi v1127 v1128
  v1129.toNat
def k0_dev51 (d0 : Dev nD) : Nat :=
  let c0_i32_915 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_914 : BitVec 32 := 8#32
  let v1141 : BitVec 32 := Scalar.muli v9 c8_i32_914
  let v1142 : BitVec 32 := Scalar.addi c0_i32_915 v1141
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_916 : BitVec 32 := 4#32
  let v1143 : BitVec 32 := Scalar.muli v5 c4_i32_916
  let v1144 : BitVec 32 := Scalar.addi v1142 v1143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_917 : BitVec 32 := 1#32
  let v1145 : BitVec 32 := Scalar.muli v8 c1_i32_917
  let v1146 : BitVec 32 := Scalar.addi v1144 v1145
  v1146.toNat
def k0_dev52 (d0 : Dev nD) : Nat :=
  let c0_i32_940 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_939 : BitVec 32 := 8#32
  let v1170 : BitVec 32 := Scalar.muli v2 c8_i32_939
  let v1171 : BitVec 32 := Scalar.addi c0_i32_940 v1170
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_941 : BitVec 32 := 4#32
  let v1172 : BitVec 32 := Scalar.muli v5 c4_i32_941
  let v1173 : BitVec 32 := Scalar.addi v1171 v1172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_942 : BitVec 32 := 1#32
  let v1174 : BitVec 32 := Scalar.muli v20 c1_i32_942
  let v1175 : BitVec 32 := Scalar.addi v1173 v1174
  v1175.toNat
def k0_dev53 (d0 : Dev nD) : Nat :=
  let c0_i32_953 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_952 : BitVec 32 := 8#32
  let v1187 : BitVec 32 := Scalar.muli v9 c8_i32_952
  let v1188 : BitVec 32 := Scalar.addi c0_i32_953 v1187
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_954 : BitVec 32 := 4#32
  let v1189 : BitVec 32 := Scalar.muli v5 c4_i32_954
  let v1190 : BitVec 32 := Scalar.addi v1188 v1189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_955 : BitVec 32 := 1#32
  let v1191 : BitVec 32 := Scalar.muli v8 c1_i32_955
  let v1192 : BitVec 32 := Scalar.addi v1190 v1191
  v1192.toNat
def k0_dev54 (d0 : Dev nD) : Nat :=
  let c0_i32_978 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_977 : BitVec 32 := 8#32
  let v1216 : BitVec 32 := Scalar.muli v2 c8_i32_977
  let v1217 : BitVec 32 := Scalar.addi c0_i32_978 v1216
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_979 : BitVec 32 := 4#32
  let v1218 : BitVec 32 := Scalar.muli v5 c4_i32_979
  let v1219 : BitVec 32 := Scalar.addi v1217 v1218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_980 : BitVec 32 := 1#32
  let v1220 : BitVec 32 := Scalar.muli v20 c1_i32_980
  let v1221 : BitVec 32 := Scalar.addi v1219 v1220
  v1221.toNat
def k0_dev55 (d0 : Dev nD) : Nat :=
  let c0_i32_991 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_990 : BitVec 32 := 8#32
  let v1233 : BitVec 32 := Scalar.muli v9 c8_i32_990
  let v1234 : BitVec 32 := Scalar.addi c0_i32_991 v1233
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_992 : BitVec 32 := 4#32
  let v1235 : BitVec 32 := Scalar.muli v5 c4_i32_992
  let v1236 : BitVec 32 := Scalar.addi v1234 v1235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_993 : BitVec 32 := 1#32
  let v1237 : BitVec 32 := Scalar.muli v8 c1_i32_993
  let v1238 : BitVec 32 := Scalar.addi v1236 v1237
  v1238.toNat
def k0_off3 (d0 : Dev nD) (c0_i32_384 : BitVec 32) : Fin 2 → Nat :=
  let c0_i32_1003 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v501 : BitVec 32 := Scalar.subi v8 c0_i32_384
  let c1_i32_385 : BitVec 32 := 1#32
  let v502 : BitVec 32 := Scalar.subi v501 c1_i32_385
  let c4_i32_386 : BitVec 32 := 4#32
  let c0_i32_387 : BitVec 32 := 0#32
  let v503 : BitVec 1 := Scalar.cmpi .eq c4_i32_386 c0_i32_387
  let c1_i32_388 : BitVec 32 := 1#32
  let v504 : BitVec 32 := Scalar.select v503 c1_i32_388 c4_i32_386
  let v505 : BitVec 32 := Scalar.remsi v502 v504
  let c0_i32_390 : BitVec 32 := 0#32
  let v507 : BitVec 1 := Scalar.cmpi .slt v505 c0_i32_390
  let c0_i32_391 : BitVec 32 := 0#32
  let v508 : BitVec 1 := Scalar.cmpi .slt v504 c0_i32_391
  let v509 : BitVec 1 := Scalar.xori v507 v508
  let c0_i32_389 : BitVec 32 := 0#32
  let v506 : BitVec 1 := Scalar.cmpi .ne v505 c0_i32_389
  let v510 : BitVec 1 := Scalar.andi v509 v506
  let v511 : BitVec 32 := Scalar.addi v505 v504
  let v512 : BitVec 32 := Scalar.select v510 v511 v505
  let c8192_i32_392 : BitVec 32 := 8192#32
  let v513 : BitVec 32 := Scalar.muli v512 c8192_i32_392
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32_1000 : BitVec 32 := 4096#32
  let v1250 : BitVec 32 := Scalar.muli v2 c4096_i32_1000
  let v1251 : BitVec 32 := Scalar.addi v513 v1250
  ![0, v1251.toNat]
def k0_dev56 (d0 : Dev nD) : Nat :=
  let c0_i32_1031 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1030 : BitVec 32 := 8#32
  let v1282 : BitVec 32 := Scalar.muli v2 c8_i32_1030
  let v1283 : BitVec 32 := Scalar.addi c0_i32_1031 v1282
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1032 : BitVec 32 := 4#32
  let v1284 : BitVec 32 := Scalar.muli v5 c4_i32_1032
  let v1285 : BitVec 32 := Scalar.addi v1283 v1284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1033 : BitVec 32 := 1#32
  let v1286 : BitVec 32 := Scalar.muli v20 c1_i32_1033
  let v1287 : BitVec 32 := Scalar.addi v1285 v1286
  v1287.toNat
def k0_dev57 (d0 : Dev nD) : Nat :=
  let c0_i32_1044 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1043 : BitVec 32 := 8#32
  let v1299 : BitVec 32 := Scalar.muli v9 c8_i32_1043
  let v1300 : BitVec 32 := Scalar.addi c0_i32_1044 v1299
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1045 : BitVec 32 := 4#32
  let v1301 : BitVec 32 := Scalar.muli v5 c4_i32_1045
  let v1302 : BitVec 32 := Scalar.addi v1300 v1301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1046 : BitVec 32 := 1#32
  let v1303 : BitVec 32 := Scalar.muli v8 c1_i32_1046
  let v1304 : BitVec 32 := Scalar.addi v1302 v1303
  v1304.toNat
def k0_dev58 (d0 : Dev nD) : Nat :=
  let c0_i32_1069 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1068 : BitVec 32 := 8#32
  let v1328 : BitVec 32 := Scalar.muli v2 c8_i32_1068
  let v1329 : BitVec 32 := Scalar.addi c0_i32_1069 v1328
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1070 : BitVec 32 := 4#32
  let v1330 : BitVec 32 := Scalar.muli v5 c4_i32_1070
  let v1331 : BitVec 32 := Scalar.addi v1329 v1330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1071 : BitVec 32 := 1#32
  let v1332 : BitVec 32 := Scalar.muli v20 c1_i32_1071
  let v1333 : BitVec 32 := Scalar.addi v1331 v1332
  v1333.toNat
def k0_dev59 (d0 : Dev nD) : Nat :=
  let c0_i32_1082 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1081 : BitVec 32 := 8#32
  let v1345 : BitVec 32 := Scalar.muli v9 c8_i32_1081
  let v1346 : BitVec 32 := Scalar.addi c0_i32_1082 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1083 : BitVec 32 := 4#32
  let v1347 : BitVec 32 := Scalar.muli v5 c4_i32_1083
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1084 : BitVec 32 := 1#32
  let v1349 : BitVec 32 := Scalar.muli v8 c1_i32_1084
  let v1350 : BitVec 32 := Scalar.addi v1348 v1349
  v1350.toNat
def k0_dev60 (d0 : Dev nD) : Nat :=
  let c0_i32_1107 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1106 : BitVec 32 := 8#32
  let v1374 : BitVec 32 := Scalar.muli v2 c8_i32_1106
  let v1375 : BitVec 32 := Scalar.addi c0_i32_1107 v1374
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1108 : BitVec 32 := 4#32
  let v1376 : BitVec 32 := Scalar.muli v5 c4_i32_1108
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1109 : BitVec 32 := 1#32
  let v1378 : BitVec 32 := Scalar.muli v20 c1_i32_1109
  let v1379 : BitVec 32 := Scalar.addi v1377 v1378
  v1379.toNat
def k0_dev61 (d0 : Dev nD) : Nat :=
  let c0_i32_1120 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1119 : BitVec 32 := 8#32
  let v1391 : BitVec 32 := Scalar.muli v9 c8_i32_1119
  let v1392 : BitVec 32 := Scalar.addi c0_i32_1120 v1391
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1121 : BitVec 32 := 4#32
  let v1393 : BitVec 32 := Scalar.muli v5 c4_i32_1121
  let v1394 : BitVec 32 := Scalar.addi v1392 v1393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1122 : BitVec 32 := 1#32
  let v1395 : BitVec 32 := Scalar.muli v8 c1_i32_1122
  let v1396 : BitVec 32 := Scalar.addi v1394 v1395
  v1396.toNat
def k0_dev62 (d0 : Dev nD) : Nat :=
  let c0_i32_1145 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1144 : BitVec 32 := 8#32
  let v1420 : BitVec 32 := Scalar.muli v2 c8_i32_1144
  let v1421 : BitVec 32 := Scalar.addi c0_i32_1145 v1420
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1146 : BitVec 32 := 4#32
  let v1422 : BitVec 32 := Scalar.muli v5 c4_i32_1146
  let v1423 : BitVec 32 := Scalar.addi v1421 v1422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1147 : BitVec 32 := 1#32
  let v1424 : BitVec 32 := Scalar.muli v20 c1_i32_1147
  let v1425 : BitVec 32 := Scalar.addi v1423 v1424
  v1425.toNat
def k0_dev63 (d0 : Dev nD) : Nat :=
  let c0_i32_1158 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1157 : BitVec 32 := 8#32
  let v1437 : BitVec 32 := Scalar.muli v9 c8_i32_1157
  let v1438 : BitVec 32 := Scalar.addi c0_i32_1158 v1437
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1159 : BitVec 32 := 4#32
  let v1439 : BitVec 32 := Scalar.muli v5 c4_i32_1159
  let v1440 : BitVec 32 := Scalar.addi v1438 v1439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1160 : BitVec 32 := 1#32
  let v1441 : BitVec 32 := Scalar.muli v8 c1_i32_1160
  let v1442 : BitVec 32 := Scalar.addi v1440 v1441
  v1442.toNat
def k0_dev64 (d0 : Dev nD) : Nat :=
  let c0_i32_1183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1182 : BitVec 32 := 8#32
  let v1466 : BitVec 32 := Scalar.muli v2 c8_i32_1182
  let v1467 : BitVec 32 := Scalar.addi c0_i32_1183 v1466
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1184 : BitVec 32 := 4#32
  let v1468 : BitVec 32 := Scalar.muli v5 c4_i32_1184
  let v1469 : BitVec 32 := Scalar.addi v1467 v1468
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1185 : BitVec 32 := 1#32
  let v1470 : BitVec 32 := Scalar.muli v20 c1_i32_1185
  let v1471 : BitVec 32 := Scalar.addi v1469 v1470
  v1471.toNat
def k0_dev65 (d0 : Dev nD) : Nat :=
  let c0_i32_1196 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1195 : BitVec 32 := 8#32
  let v1483 : BitVec 32 := Scalar.muli v9 c8_i32_1195
  let v1484 : BitVec 32 := Scalar.addi c0_i32_1196 v1483
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1197 : BitVec 32 := 4#32
  let v1485 : BitVec 32 := Scalar.muli v5 c4_i32_1197
  let v1486 : BitVec 32 := Scalar.addi v1484 v1485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1198 : BitVec 32 := 1#32
  let v1487 : BitVec 32 := Scalar.muli v8 c1_i32_1198
  let v1488 : BitVec 32 := Scalar.addi v1486 v1487
  v1488.toNat
def k0_dev66 (d0 : Dev nD) : Nat :=
  let c0_i32_1221 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1220 : BitVec 32 := 8#32
  let v1512 : BitVec 32 := Scalar.muli v2 c8_i32_1220
  let v1513 : BitVec 32 := Scalar.addi c0_i32_1221 v1512
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1222 : BitVec 32 := 4#32
  let v1514 : BitVec 32 := Scalar.muli v5 c4_i32_1222
  let v1515 : BitVec 32 := Scalar.addi v1513 v1514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1223 : BitVec 32 := 1#32
  let v1516 : BitVec 32 := Scalar.muli v20 c1_i32_1223
  let v1517 : BitVec 32 := Scalar.addi v1515 v1516
  v1517.toNat
def k0_dev67 (d0 : Dev nD) : Nat :=
  let c0_i32_1234 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1233 : BitVec 32 := 8#32
  let v1529 : BitVec 32 := Scalar.muli v9 c8_i32_1233
  let v1530 : BitVec 32 := Scalar.addi c0_i32_1234 v1529
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1235 : BitVec 32 := 4#32
  let v1531 : BitVec 32 := Scalar.muli v5 c4_i32_1235
  let v1532 : BitVec 32 := Scalar.addi v1530 v1531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1236 : BitVec 32 := 1#32
  let v1533 : BitVec 32 := Scalar.muli v8 c1_i32_1236
  let v1534 : BitVec 32 := Scalar.addi v1532 v1533
  v1534.toNat
def k0_dev68 (d0 : Dev nD) : Nat :=
  let c0_i32_1259 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1258 : BitVec 32 := 8#32
  let v1558 : BitVec 32 := Scalar.muli v2 c8_i32_1258
  let v1559 : BitVec 32 := Scalar.addi c0_i32_1259 v1558
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1260 : BitVec 32 := 4#32
  let v1560 : BitVec 32 := Scalar.muli v5 c4_i32_1260
  let v1561 : BitVec 32 := Scalar.addi v1559 v1560
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1261 : BitVec 32 := 1#32
  let v1562 : BitVec 32 := Scalar.muli v20 c1_i32_1261
  let v1563 : BitVec 32 := Scalar.addi v1561 v1562
  v1563.toNat
def k0_dev69 (d0 : Dev nD) : Nat :=
  let c0_i32_1272 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1271 : BitVec 32 := 8#32
  let v1575 : BitVec 32 := Scalar.muli v9 c8_i32_1271
  let v1576 : BitVec 32 := Scalar.addi c0_i32_1272 v1575
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1273 : BitVec 32 := 4#32
  let v1577 : BitVec 32 := Scalar.muli v5 c4_i32_1273
  let v1578 : BitVec 32 := Scalar.addi v1576 v1577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1274 : BitVec 32 := 1#32
  let v1579 : BitVec 32 := Scalar.muli v8 c1_i32_1274
  let v1580 : BitVec 32 := Scalar.addi v1578 v1579
  v1580.toNat
def k0_dev70 (d0 : Dev nD) : Nat :=
  let c0_i32_1297 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1296 : BitVec 32 := 8#32
  let v1604 : BitVec 32 := Scalar.muli v2 c8_i32_1296
  let v1605 : BitVec 32 := Scalar.addi c0_i32_1297 v1604
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1298 : BitVec 32 := 4#32
  let v1606 : BitVec 32 := Scalar.muli v5 c4_i32_1298
  let v1607 : BitVec 32 := Scalar.addi v1605 v1606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1299 : BitVec 32 := 1#32
  let v1608 : BitVec 32 := Scalar.muli v20 c1_i32_1299
  let v1609 : BitVec 32 := Scalar.addi v1607 v1608
  v1609.toNat
def k0_dev71 (d0 : Dev nD) : Nat :=
  let c0_i32_1310 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1309 : BitVec 32 := 8#32
  let v1621 : BitVec 32 := Scalar.muli v9 c8_i32_1309
  let v1622 : BitVec 32 := Scalar.addi c0_i32_1310 v1621
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1311 : BitVec 32 := 4#32
  let v1623 : BitVec 32 := Scalar.muli v5 c4_i32_1311
  let v1624 : BitVec 32 := Scalar.addi v1622 v1623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1312 : BitVec 32 := 1#32
  let v1625 : BitVec 32 := Scalar.muli v8 c1_i32_1312
  let v1626 : BitVec 32 := Scalar.addi v1624 v1625
  v1626.toNat
def k0_dev72 (d0 : Dev nD) : Nat :=
  let c0_i32_1335 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1334 : BitVec 32 := 8#32
  let v1650 : BitVec 32 := Scalar.muli v2 c8_i32_1334
  let v1651 : BitVec 32 := Scalar.addi c0_i32_1335 v1650
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1336 : BitVec 32 := 4#32
  let v1652 : BitVec 32 := Scalar.muli v5 c4_i32_1336
  let v1653 : BitVec 32 := Scalar.addi v1651 v1652
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1337 : BitVec 32 := 1#32
  let v1654 : BitVec 32 := Scalar.muli v20 c1_i32_1337
  let v1655 : BitVec 32 := Scalar.addi v1653 v1654
  v1655.toNat
def k0_dev73 (d0 : Dev nD) : Nat :=
  let c0_i32_1348 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1347 : BitVec 32 := 8#32
  let v1667 : BitVec 32 := Scalar.muli v9 c8_i32_1347
  let v1668 : BitVec 32 := Scalar.addi c0_i32_1348 v1667
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1349 : BitVec 32 := 4#32
  let v1669 : BitVec 32 := Scalar.muli v5 c4_i32_1349
  let v1670 : BitVec 32 := Scalar.addi v1668 v1669
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1350 : BitVec 32 := 1#32
  let v1671 : BitVec 32 := Scalar.muli v8 c1_i32_1350
  let v1672 : BitVec 32 := Scalar.addi v1670 v1671
  v1672.toNat
def k0_dev74 (d0 : Dev nD) : Nat :=
  let c0_i32_1373 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1372 : BitVec 32 := 8#32
  let v1696 : BitVec 32 := Scalar.muli v2 c8_i32_1372
  let v1697 : BitVec 32 := Scalar.addi c0_i32_1373 v1696
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1374 : BitVec 32 := 4#32
  let v1698 : BitVec 32 := Scalar.muli v5 c4_i32_1374
  let v1699 : BitVec 32 := Scalar.addi v1697 v1698
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1375 : BitVec 32 := 1#32
  let v1700 : BitVec 32 := Scalar.muli v20 c1_i32_1375
  let v1701 : BitVec 32 := Scalar.addi v1699 v1700
  v1701.toNat
def k0_dev75 (d0 : Dev nD) : Nat :=
  let c0_i32_1386 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1385 : BitVec 32 := 8#32
  let v1713 : BitVec 32 := Scalar.muli v9 c8_i32_1385
  let v1714 : BitVec 32 := Scalar.addi c0_i32_1386 v1713
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1387 : BitVec 32 := 4#32
  let v1715 : BitVec 32 := Scalar.muli v5 c4_i32_1387
  let v1716 : BitVec 32 := Scalar.addi v1714 v1715
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1388 : BitVec 32 := 1#32
  let v1717 : BitVec 32 := Scalar.muli v8 c1_i32_1388
  let v1718 : BitVec 32 := Scalar.addi v1716 v1717
  v1718.toNat
def k0_dev76 (d0 : Dev nD) : Nat :=
  let c0_i32_1411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1410 : BitVec 32 := 8#32
  let v1742 : BitVec 32 := Scalar.muli v2 c8_i32_1410
  let v1743 : BitVec 32 := Scalar.addi c0_i32_1411 v1742
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1412 : BitVec 32 := 4#32
  let v1744 : BitVec 32 := Scalar.muli v5 c4_i32_1412
  let v1745 : BitVec 32 := Scalar.addi v1743 v1744
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1413 : BitVec 32 := 1#32
  let v1746 : BitVec 32 := Scalar.muli v20 c1_i32_1413
  let v1747 : BitVec 32 := Scalar.addi v1745 v1746
  v1747.toNat
def k0_dev77 (d0 : Dev nD) : Nat :=
  let c0_i32_1424 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1423 : BitVec 32 := 8#32
  let v1759 : BitVec 32 := Scalar.muli v9 c8_i32_1423
  let v1760 : BitVec 32 := Scalar.addi c0_i32_1424 v1759
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1425 : BitVec 32 := 4#32
  let v1761 : BitVec 32 := Scalar.muli v5 c4_i32_1425
  let v1762 : BitVec 32 := Scalar.addi v1760 v1761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1426 : BitVec 32 := 1#32
  let v1763 : BitVec 32 := Scalar.muli v8 c1_i32_1426
  let v1764 : BitVec 32 := Scalar.addi v1762 v1763
  v1764.toNat
def k0_dev78 (d0 : Dev nD) : Nat :=
  let c0_i32_1449 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1448 : BitVec 32 := 8#32
  let v1788 : BitVec 32 := Scalar.muli v2 c8_i32_1448
  let v1789 : BitVec 32 := Scalar.addi c0_i32_1449 v1788
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1450 : BitVec 32 := 4#32
  let v1790 : BitVec 32 := Scalar.muli v5 c4_i32_1450
  let v1791 : BitVec 32 := Scalar.addi v1789 v1790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1451 : BitVec 32 := 1#32
  let v1792 : BitVec 32 := Scalar.muli v20 c1_i32_1451
  let v1793 : BitVec 32 := Scalar.addi v1791 v1792
  v1793.toNat
def k0_dev79 (d0 : Dev nD) : Nat :=
  let c0_i32_1462 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1461 : BitVec 32 := 8#32
  let v1805 : BitVec 32 := Scalar.muli v9 c8_i32_1461
  let v1806 : BitVec 32 := Scalar.addi c0_i32_1462 v1805
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1463 : BitVec 32 := 4#32
  let v1807 : BitVec 32 := Scalar.muli v5 c4_i32_1463
  let v1808 : BitVec 32 := Scalar.addi v1806 v1807
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1464 : BitVec 32 := 1#32
  let v1809 : BitVec 32 := Scalar.muli v8 c1_i32_1464
  let v1810 : BitVec 32 := Scalar.addi v1808 v1809
  v1810.toNat
def k0_dev80 (d0 : Dev nD) : Nat :=
  let c0_i32_1487 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1486 : BitVec 32 := 8#32
  let v1834 : BitVec 32 := Scalar.muli v2 c8_i32_1486
  let v1835 : BitVec 32 := Scalar.addi c0_i32_1487 v1834
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1488 : BitVec 32 := 4#32
  let v1836 : BitVec 32 := Scalar.muli v5 c4_i32_1488
  let v1837 : BitVec 32 := Scalar.addi v1835 v1836
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1489 : BitVec 32 := 1#32
  let v1838 : BitVec 32 := Scalar.muli v20 c1_i32_1489
  let v1839 : BitVec 32 := Scalar.addi v1837 v1838
  v1839.toNat
def k0_dev81 (d0 : Dev nD) : Nat :=
  let c0_i32_1500 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1499 : BitVec 32 := 8#32
  let v1851 : BitVec 32 := Scalar.muli v9 c8_i32_1499
  let v1852 : BitVec 32 := Scalar.addi c0_i32_1500 v1851
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1501 : BitVec 32 := 4#32
  let v1853 : BitVec 32 := Scalar.muli v5 c4_i32_1501
  let v1854 : BitVec 32 := Scalar.addi v1852 v1853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1502 : BitVec 32 := 1#32
  let v1855 : BitVec 32 := Scalar.muli v8 c1_i32_1502
  let v1856 : BitVec 32 := Scalar.addi v1854 v1855
  v1856.toNat
def k0_dev82 (d0 : Dev nD) : Nat :=
  let c0_i32_1525 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1524 : BitVec 32 := 8#32
  let v1880 : BitVec 32 := Scalar.muli v2 c8_i32_1524
  let v1881 : BitVec 32 := Scalar.addi c0_i32_1525 v1880
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1526 : BitVec 32 := 4#32
  let v1882 : BitVec 32 := Scalar.muli v5 c4_i32_1526
  let v1883 : BitVec 32 := Scalar.addi v1881 v1882
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1527 : BitVec 32 := 1#32
  let v1884 : BitVec 32 := Scalar.muli v20 c1_i32_1527
  let v1885 : BitVec 32 := Scalar.addi v1883 v1884
  v1885.toNat
def k0_dev83 (d0 : Dev nD) : Nat :=
  let c0_i32_1538 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1537 : BitVec 32 := 8#32
  let v1897 : BitVec 32 := Scalar.muli v9 c8_i32_1537
  let v1898 : BitVec 32 := Scalar.addi c0_i32_1538 v1897
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1539 : BitVec 32 := 4#32
  let v1899 : BitVec 32 := Scalar.muli v5 c4_i32_1539
  let v1900 : BitVec 32 := Scalar.addi v1898 v1899
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1540 : BitVec 32 := 1#32
  let v1901 : BitVec 32 := Scalar.muli v8 c1_i32_1540
  let v1902 : BitVec 32 := Scalar.addi v1900 v1901
  v1902.toNat
def k0_dev84 (d0 : Dev nD) : Nat :=
  let c0_i32_1563 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1562 : BitVec 32 := 8#32
  let v1926 : BitVec 32 := Scalar.muli v2 c8_i32_1562
  let v1927 : BitVec 32 := Scalar.addi c0_i32_1563 v1926
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1564 : BitVec 32 := 4#32
  let v1928 : BitVec 32 := Scalar.muli v5 c4_i32_1564
  let v1929 : BitVec 32 := Scalar.addi v1927 v1928
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1565 : BitVec 32 := 1#32
  let v1930 : BitVec 32 := Scalar.muli v20 c1_i32_1565
  let v1931 : BitVec 32 := Scalar.addi v1929 v1930
  v1931.toNat
def k0_dev85 (d0 : Dev nD) : Nat :=
  let c0_i32_1576 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1575 : BitVec 32 := 8#32
  let v1943 : BitVec 32 := Scalar.muli v9 c8_i32_1575
  let v1944 : BitVec 32 := Scalar.addi c0_i32_1576 v1943
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1577 : BitVec 32 := 4#32
  let v1945 : BitVec 32 := Scalar.muli v5 c4_i32_1577
  let v1946 : BitVec 32 := Scalar.addi v1944 v1945
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1578 : BitVec 32 := 1#32
  let v1947 : BitVec 32 := Scalar.muli v8 c1_i32_1578
  let v1948 : BitVec 32 := Scalar.addi v1946 v1947
  v1948.toNat
def k0_dev86 (d0 : Dev nD) : Nat :=
  let c0_i32_1601 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1600 : BitVec 32 := 8#32
  let v1972 : BitVec 32 := Scalar.muli v2 c8_i32_1600
  let v1973 : BitVec 32 := Scalar.addi c0_i32_1601 v1972
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1602 : BitVec 32 := 4#32
  let v1974 : BitVec 32 := Scalar.muli v5 c4_i32_1602
  let v1975 : BitVec 32 := Scalar.addi v1973 v1974
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_1603 : BitVec 32 := 1#32
  let v1976 : BitVec 32 := Scalar.muli v20 c1_i32_1603
  let v1977 : BitVec 32 := Scalar.addi v1975 v1976
  v1977.toNat
def k0_dev87 (d0 : Dev nD) : Nat :=
  let c0_i32_1614 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1613 : BitVec 32 := 8#32
  let v1989 : BitVec 32 := Scalar.muli v9 c8_i32_1613
  let v1990 : BitVec 32 := Scalar.addi c0_i32_1614 v1989
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1615 : BitVec 32 := 4#32
  let v1991 : BitVec 32 := Scalar.muli v5 c4_i32_1615
  let v1992 : BitVec 32 := Scalar.addi v1990 v1991
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1616 : BitVec 32 := 1#32
  let v1993 : BitVec 32 := Scalar.muli v8 c1_i32_1616
  let v1994 : BitVec 32 := Scalar.addi v1992 v1993
  v1994.toNat
def k0_dev88 (d0 : Dev nD) : Nat :=
  let c0_i32_1656 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1655 : BitVec 32 := 8#32
  let v2041 : BitVec 32 := Scalar.muli v9 c8_i32_1655
  let v2042 : BitVec 32 := Scalar.addi c0_i32_1656 v2041
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1657 : BitVec 32 := 4#32
  let v2043 : BitVec 32 := Scalar.muli v5 c4_i32_1657
  let v2044 : BitVec 32 := Scalar.addi v2042 v2043
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1658 : BitVec 32 := 1#32
  let v2045 : BitVec 32 := Scalar.muli v8 c1_i32_1658
  let v2046 : BitVec 32 := Scalar.addi v2044 v2045
  v2046.toNat
def k0_dev89 (d0 : Dev nD) : Nat :=
  let c0_i32_1683 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1682 : BitVec 32 := 8#32
  let v2073 : BitVec 32 := Scalar.muli v9 c8_i32_1682
  let v2074 : BitVec 32 := Scalar.addi c0_i32_1683 v2073
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1684 : BitVec 32 := 4#32
  let v2075 : BitVec 32 := Scalar.muli v5 c4_i32_1684
  let v2076 : BitVec 32 := Scalar.addi v2074 v2075
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1685 : BitVec 32 := 1#32
  let v2077 : BitVec 32 := Scalar.muli v8 c1_i32_1685
  let v2078 : BitVec 32 := Scalar.addi v2076 v2077
  v2078.toNat
def k0_dev90 (d0 : Dev nD) : Nat :=
  let c0_i32_1710 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1709 : BitVec 32 := 8#32
  let v2105 : BitVec 32 := Scalar.muli v9 c8_i32_1709
  let v2106 : BitVec 32 := Scalar.addi c0_i32_1710 v2105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1711 : BitVec 32 := 4#32
  let v2107 : BitVec 32 := Scalar.muli v5 c4_i32_1711
  let v2108 : BitVec 32 := Scalar.addi v2106 v2107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1712 : BitVec 32 := 1#32
  let v2109 : BitVec 32 := Scalar.muli v8 c1_i32_1712
  let v2110 : BitVec 32 := Scalar.addi v2108 v2109
  v2110.toNat
def k0_dev91 (d0 : Dev nD) : Nat :=
  let c0_i32_1737 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1736 : BitVec 32 := 8#32
  let v2137 : BitVec 32 := Scalar.muli v9 c8_i32_1736
  let v2138 : BitVec 32 := Scalar.addi c0_i32_1737 v2137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1738 : BitVec 32 := 4#32
  let v2139 : BitVec 32 := Scalar.muli v5 c4_i32_1738
  let v2140 : BitVec 32 := Scalar.addi v2138 v2139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1739 : BitVec 32 := 1#32
  let v2141 : BitVec 32 := Scalar.muli v8 c1_i32_1739
  let v2142 : BitVec 32 := Scalar.addi v2140 v2141
  v2142.toNat
def k0_dev92 (d0 : Dev nD) : Nat :=
  let c0_i32_1764 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1763 : BitVec 32 := 8#32
  let v2169 : BitVec 32 := Scalar.muli v9 c8_i32_1763
  let v2170 : BitVec 32 := Scalar.addi c0_i32_1764 v2169
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1765 : BitVec 32 := 4#32
  let v2171 : BitVec 32 := Scalar.muli v5 c4_i32_1765
  let v2172 : BitVec 32 := Scalar.addi v2170 v2171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1766 : BitVec 32 := 1#32
  let v2173 : BitVec 32 := Scalar.muli v8 c1_i32_1766
  let v2174 : BitVec 32 := Scalar.addi v2172 v2173
  v2174.toNat
def k0_dev93 (d0 : Dev nD) : Nat :=
  let c0_i32_1791 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1790 : BitVec 32 := 8#32
  let v2201 : BitVec 32 := Scalar.muli v9 c8_i32_1790
  let v2202 : BitVec 32 := Scalar.addi c0_i32_1791 v2201
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1792 : BitVec 32 := 4#32
  let v2203 : BitVec 32 := Scalar.muli v5 c4_i32_1792
  let v2204 : BitVec 32 := Scalar.addi v2202 v2203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1793 : BitVec 32 := 1#32
  let v2205 : BitVec 32 := Scalar.muli v8 c1_i32_1793
  let v2206 : BitVec 32 := Scalar.addi v2204 v2205
  v2206.toNat
def k0_dev94 (d0 : Dev nD) : Nat :=
  let c0_i32_1818 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1817 : BitVec 32 := 8#32
  let v2233 : BitVec 32 := Scalar.muli v9 c8_i32_1817
  let v2234 : BitVec 32 := Scalar.addi c0_i32_1818 v2233
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1819 : BitVec 32 := 4#32
  let v2235 : BitVec 32 := Scalar.muli v5 c4_i32_1819
  let v2236 : BitVec 32 := Scalar.addi v2234 v2235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1820 : BitVec 32 := 1#32
  let v2237 : BitVec 32 := Scalar.muli v8 c1_i32_1820
  let v2238 : BitVec 32 := Scalar.addi v2236 v2237
  v2238.toNat
def k0_dev95 (d0 : Dev nD) : Nat :=
  let c0_i32_1845 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1844 : BitVec 32 := 8#32
  let v2265 : BitVec 32 := Scalar.muli v9 c8_i32_1844
  let v2266 : BitVec 32 := Scalar.addi c0_i32_1845 v2265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1846 : BitVec 32 := 4#32
  let v2267 : BitVec 32 := Scalar.muli v5 c4_i32_1846
  let v2268 : BitVec 32 := Scalar.addi v2266 v2267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1847 : BitVec 32 := 1#32
  let v2269 : BitVec 32 := Scalar.muli v8 c1_i32_1847
  let v2270 : BitVec 32 := Scalar.addi v2268 v2269
  v2270.toNat
def k0_dev96 (d0 : Dev nD) : Nat :=
  let c0_i32_1872 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1871 : BitVec 32 := 8#32
  let v2297 : BitVec 32 := Scalar.muli v9 c8_i32_1871
  let v2298 : BitVec 32 := Scalar.addi c0_i32_1872 v2297
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1873 : BitVec 32 := 4#32
  let v2299 : BitVec 32 := Scalar.muli v5 c4_i32_1873
  let v2300 : BitVec 32 := Scalar.addi v2298 v2299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1874 : BitVec 32 := 1#32
  let v2301 : BitVec 32 := Scalar.muli v8 c1_i32_1874
  let v2302 : BitVec 32 := Scalar.addi v2300 v2301
  v2302.toNat
def k0_dev97 (d0 : Dev nD) : Nat :=
  let c0_i32_1899 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1898 : BitVec 32 := 8#32
  let v2329 : BitVec 32 := Scalar.muli v9 c8_i32_1898
  let v2330 : BitVec 32 := Scalar.addi c0_i32_1899 v2329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1900 : BitVec 32 := 4#32
  let v2331 : BitVec 32 := Scalar.muli v5 c4_i32_1900
  let v2332 : BitVec 32 := Scalar.addi v2330 v2331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2333 : BitVec 32 := Scalar.muli v8 c1_i32_1901
  let v2334 : BitVec 32 := Scalar.addi v2332 v2333
  v2334.toNat
def k0_dev98 (d0 : Dev nD) : Nat :=
  let c0_i32_1926 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1925 : BitVec 32 := 8#32
  let v2361 : BitVec 32 := Scalar.muli v9 c8_i32_1925
  let v2362 : BitVec 32 := Scalar.addi c0_i32_1926 v2361
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1927 : BitVec 32 := 4#32
  let v2363 : BitVec 32 := Scalar.muli v5 c4_i32_1927
  let v2364 : BitVec 32 := Scalar.addi v2362 v2363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1928 : BitVec 32 := 1#32
  let v2365 : BitVec 32 := Scalar.muli v8 c1_i32_1928
  let v2366 : BitVec 32 := Scalar.addi v2364 v2365
  v2366.toNat
def k0_dev99 (d0 : Dev nD) : Nat :=
  let c0_i32_1953 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1952 : BitVec 32 := 8#32
  let v2393 : BitVec 32 := Scalar.muli v9 c8_i32_1952
  let v2394 : BitVec 32 := Scalar.addi c0_i32_1953 v2393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1954 : BitVec 32 := 4#32
  let v2395 : BitVec 32 := Scalar.muli v5 c4_i32_1954
  let v2396 : BitVec 32 := Scalar.addi v2394 v2395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1955 : BitVec 32 := 1#32
  let v2397 : BitVec 32 := Scalar.muli v8 c1_i32_1955
  let v2398 : BitVec 32 := Scalar.addi v2396 v2397
  v2398.toNat
def k0_dev100 (d0 : Dev nD) : Nat :=
  let c0_i32_1980 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1979 : BitVec 32 := 8#32
  let v2425 : BitVec 32 := Scalar.muli v9 c8_i32_1979
  let v2426 : BitVec 32 := Scalar.addi c0_i32_1980 v2425
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1981 : BitVec 32 := 4#32
  let v2427 : BitVec 32 := Scalar.muli v5 c4_i32_1981
  let v2428 : BitVec 32 := Scalar.addi v2426 v2427
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1982 : BitVec 32 := 1#32
  let v2429 : BitVec 32 := Scalar.muli v8 c1_i32_1982
  let v2430 : BitVec 32 := Scalar.addi v2428 v2429
  v2430.toNat
def k0_dev101 (d0 : Dev nD) : Nat :=
  let c0_i32_2007 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2006 : BitVec 32 := 8#32
  let v2457 : BitVec 32 := Scalar.muli v9 c8_i32_2006
  let v2458 : BitVec 32 := Scalar.addi c0_i32_2007 v2457
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2008 : BitVec 32 := 4#32
  let v2459 : BitVec 32 := Scalar.muli v5 c4_i32_2008
  let v2460 : BitVec 32 := Scalar.addi v2458 v2459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2009 : BitVec 32 := 1#32
  let v2461 : BitVec 32 := Scalar.muli v8 c1_i32_2009
  let v2462 : BitVec 32 := Scalar.addi v2460 v2461
  v2462.toNat
def k0_dev102 (d0 : Dev nD) : Nat :=
  let c0_i32_2034 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2033 : BitVec 32 := 8#32
  let v2489 : BitVec 32 := Scalar.muli v9 c8_i32_2033
  let v2490 : BitVec 32 := Scalar.addi c0_i32_2034 v2489
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2035 : BitVec 32 := 4#32
  let v2491 : BitVec 32 := Scalar.muli v5 c4_i32_2035
  let v2492 : BitVec 32 := Scalar.addi v2490 v2491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2036 : BitVec 32 := 1#32
  let v2493 : BitVec 32 := Scalar.muli v8 c1_i32_2036
  let v2494 : BitVec 32 := Scalar.addi v2492 v2493
  v2494.toNat
def k0_dev103 (d0 : Dev nD) : Nat :=
  let c0_i32_2061 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2060 : BitVec 32 := 8#32
  let v2521 : BitVec 32 := Scalar.muli v9 c8_i32_2060
  let v2522 : BitVec 32 := Scalar.addi c0_i32_2061 v2521
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2062 : BitVec 32 := 4#32
  let v2523 : BitVec 32 := Scalar.muli v5 c4_i32_2062
  let v2524 : BitVec 32 := Scalar.addi v2522 v2523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2063 : BitVec 32 := 1#32
  let v2525 : BitVec 32 := Scalar.muli v8 c1_i32_2063
  let v2526 : BitVec 32 := Scalar.addi v2524 v2525
  v2526.toNat
def k0_off4 (d0 : Dev nD) (c0_i32_384 : BitVec 32) (c0_i32_429 : BitVec 32) : Fin 2 → Nat :=
  let c0_i32_2868 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v501 : BitVec 32 := Scalar.subi v8 c0_i32_384
  let c1_i32_385 : BitVec 32 := 1#32
  let v502 : BitVec 32 := Scalar.subi v501 c1_i32_385
  let c4_i32_386 : BitVec 32 := 4#32
  let c0_i32_387 : BitVec 32 := 0#32
  let v503 : BitVec 1 := Scalar.cmpi .eq c4_i32_386 c0_i32_387
  let c1_i32_388 : BitVec 32 := 1#32
  let v504 : BitVec 32 := Scalar.select v503 c1_i32_388 c4_i32_386
  let v505 : BitVec 32 := Scalar.remsi v502 v504
  let c0_i32_390 : BitVec 32 := 0#32
  let v507 : BitVec 1 := Scalar.cmpi .slt v505 c0_i32_390
  let c0_i32_391 : BitVec 32 := 0#32
  let v508 : BitVec 1 := Scalar.cmpi .slt v504 c0_i32_391
  let v509 : BitVec 1 := Scalar.xori v507 v508
  let c0_i32_389 : BitVec 32 := 0#32
  let v506 : BitVec 1 := Scalar.cmpi .ne v505 c0_i32_389
  let v510 : BitVec 1 := Scalar.andi v509 v506
  let v511 : BitVec 32 := Scalar.addi v505 v504
  let v512 : BitVec 32 := Scalar.select v510 v511 v505
  let c8192_i32_392 : BitVec 32 := 8192#32
  let v513 : BitVec 32 := Scalar.muli v512 c8192_i32_392
  let c1_i32_427 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v556 : BitVec 32 := Scalar.subi c1_i32_427 v2
  let c4096_i32_428 : BitVec 32 := 4096#32
  let v557 : BitVec 32 := Scalar.muli v556 c4096_i32_428
  let v558 : BitVec 32 := Scalar.addi v513 v557
  let v559 : BitVec 32 := Scalar.addi v558 c0_i32_429
  ![0, v559.toNat]
-- ==== ReferenceIdeal.lean ====
abbrev S512x1024 : Shape := ⟨2, ![512, 1024]⟩
abbrev S1024x32768 : Shape := ⟨2, ![1024, 32768]⟩
abbrev S512x32768 : Shape := ⟨2, ![512, 32768]⟩
abbrev S_ : Shape := ⟨0, ![]⟩
abbrev S512 : Shape := ⟨1, ![512]⟩
abbrev S512x1 : Shape := ⟨2, ![512, 1]⟩

abbrev nBuf : Space → Nat
  | .hbm => 14
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x32768, .f32⟩
  | .hbm, ⟨2, _⟩ => ⟨S512x32768, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x32768, .f32⟩
  | .hbm, ⟨7, _⟩ => ⟨S512x32768, .f32⟩
  | .hbm, ⟨8, _⟩ => ⟨S512x32768, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x32768, .f32⟩
  | .hbm, ⟨13, _⟩ => ⟨S512x32768, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.KernelIdeal.Flat.lean ====
/-
  The kernel's body as one flat sequence of operations: every transfer, wait, load and store is an instruction
  defined once over its indices (hop `h`, block `s`, direction `d`), and the repeated ones are run over lists.
  `body_flat` states that the printed body is this sequence.
-/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Own

open Idealize.ShloMosaic Idealize.SL.Sem
open Cert.KernelIdeal Cert.KernelIdeal.Gen

variable {F : FTy → Type} [FloatOps F]

/-- A program of the kernel's body. -/
abbrev P (F : FTy → Type) [FloatOps F] : Type 1 := Prog (TpuEff nD τ sig (Elt F) Λ₀ .tc) PUnit

/-! ## Buffers and views -/

/-- The operand (the logits), the result, and the four scratch buffers. -/
abbrev inM : Memref sig .tc .hbm S512x8192 .f32 := Memref.whole main_v1
abbrev outM : Memref sig .tc .hbm S512x32768 .f32 := Memref.whole main_v2
abbrev lM : Memref sig .tc .vmem S512x8192 .f32 := Memref.whole cc0_scratch0
abbrev ringM : Memref sig .tc .vmem S4x512x4096 .f32 := Memref.whole cc0_scratch1
abbrev stM : Memref sig .tc .vmem S2x512x1 .f32 := Memref.whole cc0_scratch2
abbrev srM : Memref sig .tc .vmem S3x2x512x1 .f32 := Memref.whole cc0_scratch3

theorem inb_slot (k : Fin 4) (s : Fin 16) :
    ∀ a, (![k.val, 0, 256 * s.val] : Fin 3 → Nat) a + S1x512x256.size a ≤ S4x512x4096.size a := by
  revert k s; decide
theorem inb_slotW (k : Fin 4) : ∀ a, (![k.val, 0, 0] : Fin 3 → Nat) a + S1x512x4096.size a ≤ S4x512x4096.size a := by
  revert k; decide
theorem inb_sr (d : Fin 3) : ∀ a, (![d.val, 0, 0, 0] : Fin 4 → Nat) a + S1x2x512x1.size a ≤ S3x2x512x1.size a := by
  revert d; decide

/-- Block `s` of ring slot `k`; the whole ring slot `k`; slot `d` of the received statistics. -/
abbrev slot (k : Fin 4) (s : Fin 16) : Memref sig .tc .vmem S512x256 .f32 :=
  (ringM.slice (Rect.unit (s := S4x512x4096) ![k.val, 0, 256 * s.val] S1x512x256.size (inb_slot k s)) (fun _ => rfl)).squeeze
    S512x256 squeezes_S1x512x256_S512x256
abbrev slotW (k : Fin 4) : Memref sig .tc .vmem S512x4096 .f32 :=
  (ringM.slice (Rect.unit (s := S4x512x4096) ![k.val, 0, 0] S1x512x4096.size (inb_slotW k)) (fun _ => rfl)).squeeze
    S512x4096 squeezes_S1x512x4096_S512x4096
abbrev srSlot (d : Fin 3) : Memref sig .tc .vmem S2x512x1 .f32 :=
  (srM.slice (Rect.unit (s := S3x2x512x1) ![d.val, 0, 0, 0] S1x2x512x1.size (inb_sr d)) (fun _ => rfl)).squeeze
    S2x512x1 squeezes_S1x2x512x1_S2x512x1

/-- The result's regions: the device's own columns; the half of hop `h`'s columns the ring delivers; block `s` of that
    half, written by the device `c` into its partner's result; block `s` of the other half, written by the partner. -/
abbrev outZ (c : Dev nD) : Memref sig .tc .hbm S512x8192 .f32 :=
  outM.slice (Rect.unit (s := S512x32768) (k0_off1 c) S512x8192.size (k0_off1_inb c)) (fun _ => rfl)
abbrev outW (c : Dev nD) (h : Fin 3) : Memref sig .tc .hbm S512x4096 .f32 :=
  outM.slice (Rect.unit (s := S512x32768) (k0_off3 c (BitVec.ofNat 32 h.val)) S512x4096.size (k0_off3_inb c h)) (fun _ => rfl)
abbrev outC (c : Dev nD) (h : Fin 3) (s : Fin 16) : Memref sig .tc .hbm S512x256 .f32 :=
  outM.slice (Rect.unit (s := S512x32768) (k0_off2 c (BitVec.ofNat 32 h.val) (BitVec.ofNat 32 (256 * s.val))) S512x256.size
    (k0_off2_inb c h s)) (fun _ => rfl)
abbrev outR (c : Dev nD) (h : Fin 3) (s : Fin 16) : Memref sig .tc .hbm S512x256 .f32 :=
  outM.slice (Rect.unit (s := S512x32768) (k0_off4 c (BitVec.ofNat 32 h.val) (BitVec.ofNat 32 (256 * s.val))) S512x256.size
    (k0_off4_inb c h s)) (fun _ => rfl)

/-- The whole logits buffer, its left and right halves; the rows of the statistics; a received row; ring slot 0. -/
abbrev rL : Rect S512x8192 := Rect.unit (s := S512x8192) ![0, 0] S512x8192.size inb_S512x8192_S512x8192_0_0
abbrev rA : Rect S512x8192 := Rect.unit (s := S512x8192) ![0, 0] S512x4096.size inb_S512x8192_S512x4096_0_0
abbrev rB : Rect S512x8192 := Rect.unit (s := S512x8192) ![0, 4096] S512x4096.size inb_S512x8192_S512x4096_0_4096
abbrev rM : Rect S2x512x1 := Rect.unit (s := S2x512x1) ![0, 0, 0] S1x512x1.size inb_S2x512x1_S1x512x1_0_0_0
abbrev rS : Rect S2x512x1 := Rect.unit (s := S2x512x1) ![1, 0, 0] S1x512x1.size inb_S2x512x1_S1x512x1_1_0_0
theorem inb_row (d : Fin 3) (j : Fin 2) :
    ∀ a, (![d.val, j.val, 0, 0] : Fin 4 → Nat) a + S1x1x512x1.size a ≤ S3x2x512x1.size a := by
  revert d j; decide
abbrev rRow (d : Fin 3) (j : Fin 2) : Rect S3x2x512x1 :=
  Rect.unit (s := S3x2x512x1) ![d.val, j.val, 0, 0] S1x1x512x1.size (inb_row d j)
abbrev rSlot0 : Rect S4x512x4096 :=
  Rect.unit (s := S4x512x4096) ![0, 0, 0] S1x512x4096.size inb_S4x512x4096_S1x512x4096_0_0_0

/-! ## Semaphores -/

/-- The kernel's DMA semaphores, each by its place in its array. -/
def qSt (d : Fin 3) : DmaSem sig := ⟨d.val, by have := d.isLt; show _ < 203; omega⟩
def qSr (d : Fin 3) : DmaSem sig := ⟨3 + d.val, by have := d.isLt; show _ < 203; omega⟩
def qRs (h : Fin 3) (s : Fin 16) : DmaSem sig := ⟨6 + (16 * h.val + s.val), by have := h.isLt; have := s.isLt; show _ < 203; omega⟩
def qRr (h : Fin 3) (s : Fin 16) : DmaSem sig := ⟨54 + (16 * h.val + s.val), by have := h.isLt; have := s.isLt; show _ < 203; omega⟩
def qCs (h : Fin 3) (s : Fin 16) : DmaSem sig := ⟨102 + (16 * h.val + s.val), by have := h.isLt; have := s.isLt; show _ < 203; omega⟩
def qCr (h : Fin 3) (s : Fin 16) : DmaSem sig := ⟨150 + (16 * h.val + s.val), by have := h.isLt; have := s.isLt; show _ < 203; omega⟩
def qOut (k : Fin 4) : DmaSem sig := ⟨198 + k.val, by have := k.isLt; show _ < 203; omega⟩
def qIn : DmaSem sig := ⟨202, by show _ < 203; omega⟩

/-! ## Instructions -/

/-- Run an instruction over a list, then go on. -/
def seqs {ι : Type} (f : ι → P F → P F) : List ι → P F → P F
  | [], k => k
  | i :: l, k => f i (seqs f l k)

def all3 : List (Fin 3) := [0, 1, 2]
def all4 : List (Fin 4) := [0, 1, 2, 3]
def all16 : List (Fin 16) := [0, 1, 2, 3, 4, 5, 6, 7, 8, 9, 10, 11, 12, 13, 14, 15]

/-- Copy the operand into the scratch buffer and wait. -/
def stageI (k : P F) : P F :=
  .op (.enqueueDma inM (.here lM) (.dma qIn) (View.wordExact_bits rfl) (View.wordExact_bits rfl) ⟨Or.inl rfl, trivial⟩) fun _ =>
  .op (.waitDma2 qIn inM lM (View.wordExact_bits rfl) (View.wordExact_bits rfl)) fun _ => k

/-- Signal one unit to a device's barrier semaphore; wait for `4` units on the own one. -/
def sigI (p : Dev nD) (k : P F) : P F := .op (.semSignal (Dev.tc p) barrier0 ((1 : ℕ) : ℤ)) fun _ => k
def barWaitI (k : P F) : P F := .op (.semWait barrier0 ((4 : ℕ) : ℤ)) fun _ => k

/-- Send the statistics to device `p`'s slot `d`; wait for the send; wait for the own slot `d`. -/
def stSendI (p : Dev nD) (d : Fin 3) (k : P F) : P F :=
  .op (.enqueueDma stM (.remote (Dev.tc p) (srSlot d) (.dma (qSt d))) (.dma (qSr d)) (View.wordExact_bits rfl)
    ((View.wordExact_bits rfl).reshape _ _) ⟨⟨rfl, Or.inl rfl⟩, trivial⟩) fun _ => k
def stWaitI (d : Fin 3) (k : P F) : P F :=
  .op (.waitDma2 (qSt d) (srSlot d) stM ((View.wordExact_bits rfl).reshape _ _) (View.wordExact_bits rfl)) fun _ =>
  .op (.waitDma2 (qSr d) stM (srSlot d) (View.wordExact_bits rfl) ((View.wordExact_bits rfl).reshape _ _)) fun _ => k

/-- Send block `s` of ring slot `h` to slot `h + 1` of device `p`; wait for the block to arrive; wait for the send. -/
def ringSendI (p : Dev nD) (h : Fin 3) (s : Fin 16) (k : P F) : P F :=
  .op (.enqueueDma (slot h.castSucc s) (.remote (Dev.tc p) (slot h.succ s) (.dma (qRs h s))) (.dma (qRr h s))
    ((View.wordExact_bits rfl).reshape _ _) ((View.wordExact_bits rfl).reshape _ _) ⟨⟨rfl, Or.inl rfl⟩, trivial⟩) fun _ => k
def ringRecvI (h : Fin 3) (s : Fin 16) (k : P F) : P F :=
  .op (.waitDma2 (qRr h s) (slot h.castSucc s) (slot h.succ s) ((View.wordExact_bits rfl).reshape _ _)
    ((View.wordExact_bits rfl).reshape _ _)) fun _ => k
def ringDrainI (h : Fin 3) (s : Fin 16) (k : P F) : P F :=
  .op (.waitDma2 (qRs h s) (slot h.succ s) (slot h.castSucc s) ((View.wordExact_bits rfl).reshape _ _)
    ((View.wordExact_bits rfl).reshape _ _)) fun _ => k

/-- Send block `s` of ring slot `h + 1` into the result of device `p`; wait for the send; wait for the arrival. -/
def crossSendI (c p : Dev nD) (h : Fin 3) (s : Fin 16) (k : P F) : P F :=
  .op (.enqueueDma (slot h.succ s) (.remote (Dev.tc p) (outC c h s) (.dma (qCs h s))) (.dma (qCr h s))
    ((View.wordExact_bits rfl).reshape _ _) (View.wordExact_bits rfl) ⟨⟨rfl, Or.inl rfl⟩, trivial⟩) fun _ => k
def crossDrainI (c : Dev nD) (h : Fin 3) (s : Fin 16) (k : P F) : P F :=
  .op (.waitDma2 (qCs h s) (outC c h s) (slot h.succ s) (View.wordExact_bits rfl) ((View.wordExact_bits rfl).reshape _ _)) fun _ => k
def crossRecvI (c : Dev nD) (h : Fin 3) (s : Fin 16) (k : P F) : P F :=
  .op (.waitDma2 (qCr h s) (slot h.succ s) (outR c h s) ((View.wordExact_bits rfl).reshape _ _) (View.wordExact_bits rfl)) fun _ => k

/-- Copy the own columns, or ring slot `h + 1`, into the own result; wait for it. -/
def outZI (c : Dev nD) (k : P F) : P F :=
  .op (.enqueueDma lM (.here (outZ c)) (.dma (qOut 0)) (View.wordExact_bits rfl) (View.wordExact_bits rfl) ⟨Or.inl rfl, trivial⟩) fun _ => k
def outWI (c : Dev nD) (h : Fin 3) (k : P F) : P F :=
  .op (.enqueueDma (slotW h.succ) (.here (outW c h)) (.dma (qOut h.succ)) ((View.wordExact_bits rfl).reshape _ _)
    (View.wordExact_bits rfl) ⟨Or.inl rfl, trivial⟩) fun _ => k
def outZWaitI (c : Dev nD) (k : P F) : P F :=
  .op (.waitDma2 (qOut 0) lM (outZ c) (View.wordExact_bits rfl) (View.wordExact_bits rfl)) fun _ => k
def outWWaitI (c : Dev nD) (h : Fin 3) (k : P F) : P F :=
  .op (.waitDma2 (qOut h.succ) (slotW h.succ) (outW c h) ((View.wordExact_bits rfl).reshape _ _) (View.wordExact_bits rfl)) fun _ => k

/-- Load and store the logits, the statistics, a received row and ring slot 0. -/
def ldL (k : Vec F S512x8192 .f32 → P F) : P F := .op (.load lM rL.toLoadRect (View.loadsAt_vmem h_S512x8192)) k
def ldA (k : Vec F S512x4096 .f32 → P F) : P F := .op (.load lM rA.toLoadRect (View.loadsAt_vmem h_S512x4096)) k
def ldB (k : Vec F S512x4096 .f32 → P F) : P F := .op (.load lM rB.toLoadRect (View.loadsAt_vmem h_S512x4096)) k
def stA (v : FVec F S512x4096 .f32) (k : P F) : P F :=
  .op (.store lM rA v Finset.univ (View.stores_vmem_bits_univ h_S512x4096 rfl) (.inl rfl)) fun _ => k
def stB (v : FVec F S512x4096 .f32) (k : P F) : P F :=
  .op (.store lM rB v Finset.univ (View.stores_vmem_bits_univ h_S512x4096 rfl) (.inl rfl)) fun _ => k
def ldM (k : P F) : P F := .op (.load stM rM.toLoadRect (View.loadsAt_vmem h_S1x512x1)) fun _ => k
def ldS (k : P F) : P F := .op (.load stM rS.toLoadRect (View.loadsAt_vmem h_S1x512x1)) fun _ => k
def stMI (v : FVec F S1x512x1 .f32) (k : P F) : P F :=
  .op (.store stM rM v Finset.univ (View.stores_vmem_bits_univ h_S1x512x1 rfl) (.inl rfl)) fun _ => k
def stSI (v : FVec F S1x512x1 .f32) (k : P F) : P F :=
  .op (.store stM rS v Finset.univ (View.stores_vmem_bits_univ h_S1x512x1 rfl) (.inl rfl)) fun _ => k
def ldRow (d : Fin 3) (j : Fin 2) (k : Vec F S1x1x512x1 .f32 → P F) : P F :=
  .op (.load srM (rRow d j).toLoadRect (View.loadsAt_vmem h_S1x1x512x1)) k
def ldSlot0 (k : P F) : P F := .op (.load ringM rSlot0.toLoadRect (View.loadsAt_vmem h_S1x512x4096)) fun _ => k
def stSlot0 (v : FVec F S1x512x4096 .f32) (k : P F) : P F :=
  .op (.store ringM rSlot0 v Finset.univ (View.stores_vmem_bits_univ h_S1x512x4096 rfl) (.inl rfl)) fun _ => k

/-- The word the kernel compares with `1` to decide whether the device's first mesh coordinate is `j`. -/
def isX (c : Dev nD) (j : BitVec 32) : BitVec 1 :=
  Scalar.cmpi .ne (Scalar.extui (Scalar.cmpi .eq (Scalar.remsi (Scalar.divsi (Dev.word c) 8#32) 2#32) j) : BitVec 32) 0#32

/-- One step of hop `h`, the block going on to hop `h'`; one step of the last hop. -/
def hopI (c p q : Dev nD) (h h' : Fin 3) (s : Fin 16) (k : P F) : P F :=
  ringRecvI h s <| ringSendI p h' s <| crossSendI c q h s k
def lastI (c q : Dev nD) (h : Fin 3) (s : Fin 16) (k : P F) : P F :=
  ringRecvI h s <| crossSendI c q h s k

/-- The last part: all the waits. -/
def drains (c : Dev nD) : P F :=
  seqs (ringDrainI 0) all16 <| seqs (ringDrainI 1) all16 <| seqs (ringDrainI 2) all16 <|
  seqs (crossDrainI c 0) all16 <| seqs (crossDrainI c 1) all16 <| seqs (crossDrainI c 2) all16 <|
  outZWaitI c <| outWWaitI c 0 <| outWWaitI c 1 <| outWWaitI c 2 <|
  seqs (crossRecvI c 0) all16 <| seqs (crossRecvI c 1) all16 <| seqs (crossRecvI c 2) all16 <| Prog.ret ⟨⟩

/-- The part that forwards round the ring and across to the partner. -/
def hops (c p q : Dev nD) : P F :=
  seqs (ringSendI p 0) all16 <| outZI c <|
  seqs (hopI c p q 0 1) all16 <| outWI c 0 <|
  seqs (hopI c p q 1 2) all16 <| outWI c 1 <|
  seqs (lastI c q 2) all16 <| outWI c 2 <| drains c

/-- Fill ring slot 0 with the left half of the block where the device's first mesh coordinate is 0, with the right half
    where it is 1. -/
def fillA (c : Dev nD) (k : P F) : P F :=
  if isX c 0#32 = 1#1 then ldA fun v => ldSlot0 <| stSlot0 (k0_pay12 v) k else k
def fillB (c : Dev nD) (k : P F) : P F :=
  if isX c 1#32 = 1#1 then ldB fun v => ldSlot0 <| stSlot0 (k0_pay14 v) k else k

/-- The part that scales the device's own block and fills ring slot 0. -/
def scaleI (c : Dev nD) (v81 v98 : FVec F S512x1 .f32) (k : P F) : P F :=
  ldRow 0 0 fun v216 => ldRow 1 0 fun v219 => ldRow 2 0 fun v222 =>
  ldRow 0 1 fun v228 => ldRow 0 0 fun v230 => ldRow 1 1 fun v236 => ldRow 1 0 fun v238 => ldRow 2 1 fun v244 =>
  ldRow 2 0 fun v246 =>
  ldA fun v255 => ldA fun _ =>
  stA (k0_pay11 v81 (k0_pay7 v81 v216 v219 v222) (k0_pay8 v81 v98 v216 v219 v222 v228 v230 v236 v238) (k0_pay9 v244) v246 v255) <|
  fillA c <|
  ldB fun v264 => ldB fun _ =>
  stB (k0_pay13 v81 (k0_pay7 v81 v216 v219 v222) (k0_pay8 v81 v98 v216 v219 v222 v228 v230 v236 v238) (k0_pay9 v244) v246 v264) <|
  fillB c k

/-- The part that exponentiates the logits and fills the statistics to send. -/
def expI (k : FVec F S512x1 .f32 → FVec F S512x1 .f32 → P F) : P F :=
  ldL fun v79 => ldA fun v82 => ldA fun _ => stA (k0_pay2 v79 v82) <|
  ldB fun v89 => ldB fun _ => stB (k0_pay3 v79 v89) <|
  ldL fun v96 => ldM <| stMI (k0_pay5 (k0_pay1 v79)) <| ldS <| stSI (k0_pay6 (k0_pay4 v96)) <|
  k (k0_pay1 v79) (k0_pay4 v96)

/-- The body on device `c`, `p₁ p₂ p₃` the next three devices of its ring and `q` its partner. -/
def flat (c p₁ p₂ p₃ q : Dev nD) : P F :=
  stageI <| sigI p₁ <| sigI p₂ <| sigI p₃ <| sigI q <| barWaitI <|
  expI fun v81 v98 =>
  stSendI p₁ 0 <| stSendI p₂ 1 <| stSendI p₃ 2 <| stWaitI 0 <| stWaitI 1 <| stWaitI 2 <|
  scaleI c v81 v98 <| hops c p₁ q

/-- What a program that begins by reading its device does on device `c`. -/
def onDev : P F → Dev nD → P F
  | .op .deviceId k, c => k c
  | _, _ => Prog.ret ⟨⟩

/-- The printed body begins by reading its device, -/
theorem body_reads (t : Fin cfg0.N) : bodyAt0 (F := F) t = .op .deviceId (onDev (bodyAt0 t)) := by
  chain_rfl

/-- and goes on, on each device, as the flat sequence: on a given device the two tests of the first mesh coordinate
    compute. -/
theorem body_flat (t : Fin cfg0.N) (c : Dev nD) :
    onDev (F := F) (bodyAt0 t) c
      = flat c ⟨k0_dev1 c, k0_dev1_lt c⟩ ⟨k0_dev2 c, k0_dev2_lt c⟩ ⟨k0_dev3 c, k0_dev3_lt c⟩ ⟨k0_dev4 c, k0_dev4_lt c⟩ := by
  fin_cases c <;> chain_rfl

/-! ## The neighbours -/

/-- The device `d` places on in the ring of `c` (its third mesh coordinate moved by `d`), and the device across the first
    mesh axis. -/
def nxt (c : Dev nD) (d : Fin 4) : Dev nD :=
  ⟨4 * (c.val / 4) + (c.val + d.val) % 4, by have := c.isLt; have : nD = 16 := rfl; omega⟩
def across (c : Dev nD) : Dev nD := ⟨(c.val + 8) % 16, Nat.mod_lt _ (by decide)⟩

theorem dev1_eq (c : Dev nD) : (⟨k0_dev1 c, k0_dev1_lt c⟩ : Dev nD) = nxt c 1 := by revert c; decide +kernel
theorem dev2_eq (c : Dev nD) : (⟨k0_dev2 c, k0_dev2_lt c⟩ : Dev nD) = nxt c 2 := by revert c; decide +kernel
theorem dev3_eq (c : Dev nD) : (⟨k0_dev3 c, k0_dev3_lt c⟩ : Dev nD) = nxt c 3 := by revert c; decide +kernel
theorem dev4_eq (c : Dev nD) : (⟨k0_dev4 c, k0_dev4_lt c⟩ : Dev nD) = across c := by revert c; decide +kernel

/-- The body on device `c`. -/
abbrev run (c : Dev nD) : P F := flat c (nxt c 1) (nxt c 2) (nxt c 3) (across c)

theorem body_run (t : Fin cfg0.N) (c : Dev nD) : onDev (F := F) (bodyAt0 t) c = run c := by
  rw [body_flat, dev1_eq, dev2_eq, dev3_eq, dev4_eq]

theorem isX_left (c : Dev nD) : (isX c 0#32 = 1#1) ↔ c.val / 8 = 0 := by revert c; decide +kernel
theorem isX_right (c : Dev nD) : (isX c 1#32 = 1#1) ↔ c.val / 8 = 1 := by revert c; decide +kernel

end Cert.KernelIdeal.Own

end
-- ==== Proof.KernelIdeal.Views.lean ====
/-
  Where each view of the kernel lies: closed forms of the printed offsets, the coordinates under an index of each view,
  which elements each view holds, and how the views cut the ring, the result and the received statistics into disjoint
  parts that together are everything.
-/
module

public import proofs.«01_k».proof.Proof.KernelIdeal.Flat
public import Idealize.ShloMosaic.Lib.ValueLayout
public import Idealize.ShloMosaic.Lib.Pipeline.ValueKit.Geometry

@[expose] public section

noncomputable section

namespace Cert.KernelIdeal.Own

open Idealize.ShloMosaic Idealize.ShloMosaic.ValueIdx Idealize.SL.Sem
open Cert.KernelIdeal Cert.KernelIdeal.Gen

/-! ## Devices -/

/-- The device `k` places back in the ring of `c`. -/
def back (c : Dev nD) (k : Fin 4) : Dev nD :=
  ⟨4 * (c.val / 4) + (c.val + 4 - k.val) % 4, by have := c.isLt; have : nD = 16 := rfl; omega⟩

/-- The device whose block lands in column block `z'`, half `x'`, of the result on `c`: `c` itself for its own block,
    otherwise the device at first coordinate `x'`, third coordinate `z'`, the second coordinate being that of `c`. -/
def owner (c : Dev nD) (j : ℕ) (hj : j < 32768) : Dev nD :=
  if j / 8192 = c.val % 4 then c
  else ⟨8 * (j % 8192 / 4096) + 4 * (c.val / 4 % 2) + j / 8192, by have : nD = 16 := rfl; omega⟩

theorem dev_lt (c : Dev nD) : c.val < 16 := c.isLt

theorem nxt_nxt (c : Dev nD) (d : Fin 3) : nxt (nxt c d.succ) (Fin.rev d).succ = c := by revert c d; decide
theorem across_across (c : Dev nD) : across (across c) = c := by revert c; decide
theorem back_nxt (c : Dev nD) (d : Fin 3) : back (nxt c d.succ) d.succ = c := by revert c d; decide
theorem back_nxt_succ (c : Dev nD) (h : Fin 3) : back (nxt c 1) h.succ = back c h.castSucc := by revert c h; decide
theorem back_zero (c : Dev nD) : back c 0 = c := by revert c; decide

/-! ## Offsets -/

theorem off3_eq (c : Dev nD) (h : Fin 3) :
    k0_off3 c (BitVec.ofNat 32 h.val) = ![0, 8192 * ((c.val + 3 - h.val) % 4) + 4096 * (c.val / 8)] := by
  revert c h; decide +kernel
theorem off2_eq (c : Dev nD) (h : Fin 3) (s : Fin 16) :
    k0_off2 c (BitVec.ofNat 32 h.val) (BitVec.ofNat 32 (256 * s.val))
      = ![0, 8192 * ((c.val + 3 - h.val) % 4) + 4096 * (c.val / 8) + 256 * s.val] := by
  revert c h s; decide +kernel
theorem off4_eq (c : Dev nD) (h : Fin 3) (s : Fin 16) :
    k0_off4 c (BitVec.ofNat 32 h.val) (BitVec.ofNat 32 (256 * s.val))
      = ![0, 8192 * ((c.val + 3 - h.val) % 4) + 4096 * (1 - c.val / 8) + 256 * s.val] := by
  revert c h s; decide +kernel
theorem off1_eq (c : Dev nD) : k0_off1 c = ![0, 8192 * (c.val % 4)] := k0_off1_eq c

/-- Slices of the result at equal offsets are equal. -/
theorem outM_slice_congr {o o' sz : Fin 2 → ℕ} (e : o = o') (i : ∀ a, o a + sz a ≤ S512x32768.size a)
    (i' : ∀ a, o' a + sz a ≤ S512x32768.size a) :
    outM.slice (Rect.unit (s := S512x32768) o sz i) (fun _ => rfl) = outM.slice (Rect.unit (s := S512x32768) o' sz i') (fun _ => rfl) := by
  subst e; rfl

/-- What the device writes into its partner's result is what its partner receives there. -/
theorem outC_across (c : Dev nD) (h : Fin 3) (s : Fin 16) : outC (across c) h s = outR c h s := by
  have e : k0_off2 (across c) (BitVec.ofNat 32 h.val) (BitVec.ofNat 32 (256 * s.val))
      = k0_off4 c (BitVec.ofNat 32 h.val) (BitVec.ofNat 32 (256 * s.val)) := by
    revert c h s; decide +kernel
  exact outM_slice_congr e _ _

/-! ## Coordinates under an index -/

theorem slot_emb (k : Fin 4) (s : Fin 16) (x : S512x256.Idx) :
    (((slot k s).view.emb x : S4x512x4096.Idx) 0).val = k.val
    ∧ (((slot k s).view.emb x : S4x512x4096.Idx) 1).val = (x 0).val
    ∧ (((slot k s).view.emb x : S4x512x4096.Idx) 2).val = 256 * s.val + (x 1).val := by
  have e : (slot k s).view.emb x
      = (Rect.unit (s := S4x512x4096) ![k.val, 0, 256 * s.val] S1x512x256.size (inb_slot k s)).emb (ix3 (⟨0, Nat.one_pos⟩ : Fin 1) (x 0) (x 1)) :=
    congrArg (Rect.emb _) ((congrArg (Shape.reshapeEquiv squeezes_S1x512x256_S512x256.numel_eq) (eq_ix2 x)).trans (reshapeEquiv_ix2_1ab _ (x 0) (x 1)))
  rw [e]
  refine ⟨?_, ?_, ?_⟩
  · exact (ValueKit.rect_emb_unit_val _ _ _ _ 0).trans (by show k.val + 0 = _; omega)
  · exact (ValueKit.rect_emb_unit_val _ _ _ _ 1).trans (by show 0 + (x 0).val = _; rw [Nat.zero_add])
  · exact (ValueKit.rect_emb_unit_val _ _ _ _ 2)

theorem slotW_emb (k : Fin 4) (x : S512x4096.Idx) :
    (((slotW k).view.emb x : S4x512x4096.Idx) 0).val = k.val
    ∧ (((slotW k).view.emb x : S4x512x4096.Idx) 1).val = (x 0).val
    ∧ (((slotW k).view.emb x : S4x512x4096.Idx) 2).val = (x 1).val := by
  have e : (slotW k).view.emb x
      = (Rect.unit (s := S4x512x4096) ![k.val, 0, 0] S1x512x4096.size (inb_slotW k)).emb (ix3 (⟨0, Nat.one_pos⟩ : Fin 1) (x 0) (x 1)) :=
    congrArg (Rect.emb _) ((congrArg (Shape.reshapeEquiv squeezes_S1x512x4096_S512x4096.numel_eq) (eq_ix2 x)).trans (reshapeEquiv_ix2_1ab _ (x 0) (x 1)))
  rw [e]
  refine ⟨?_, ?_, ?_⟩
  · exact (ValueKit.rect_emb_unit_val _ _ _ _ 0).trans (by show k.val + 0 = _; omega)
  · exact (ValueKit.rect_emb_unit_val _ _ _ _ 1).trans (by show 0 + (x 0).val = _; rw [Nat.zero_add])
  · exact (ValueKit.rect_emb_unit_val _ _ _ _ 2).trans (by show 0 + (x 1).val = _; rw [Nat.zero_add])

theorem srSlot_emb (d : Fin 3) (x : S2x512x1.Idx) :
    (((srSlot d).view.emb x : S3x2x512x1.Idx) 0).val = d.val
    ∧ (((srSlot d).view.emb x : S3x2x512x1.Idx) 1).val = (x 0).val
    ∧ (((srSlot d).view.emb x : S3x2x512x1.Idx) 2).val = (x 1).val
    ∧ (((srSlot d).view.emb x : S3x2x512x1.Idx) 3).val = (x 2).val := by
  have e : (srSlot d).view.emb x
      = (Rect.unit (s := S3x2x512x1) ![d.val, 0, 0, 0] S1x2x512x1.size (inb_sr d)).emb (ix4 (⟨0, Nat.one_pos⟩ : Fin 1) (x 0) (x 1) (x 2)) :=
    congrArg (Rect.emb _) ((congrArg (Shape.reshapeEquiv squeezes_S1x2x512x1_S2x512x1.numel_eq) (eq_ix3 x)).trans (reshapeEquiv_ix3_1abc _ (x 0) (x 1) (x 2)))
  rw [e]
  refine ⟨?_, ?_, ?_, ?_⟩
  · exact (ValueKit.rect_emb_unit_val _ _ _ _ 0).trans (by show d.val + 0 = _; omega)
  · exact (ValueKit.rect_emb_unit_val _ _ _ _ 1).trans (by show 0 + (x 0).val = _; rw [Nat.zero_add])
  · exact (ValueKit.rect_emb_unit_val _ _ _ _ 2).trans (by show 0 + (x 1).val = _; rw [Nat.zero_add])
  · exact (ValueKit.rect_emb_unit_val _ _ _ _ 3).trans (by show 0 + (x 2).val = _; rw [Nat.zero_add])

theorem outC_emb (c : Dev nD) (h : Fin 3) (s : Fin 16) (x : S512x256.Idx) :
    (((outC c h s).view.emb x : S512x32768.Idx) 0).val = (x 0).val
    ∧ (((outC c h s).view.emb x : S512x32768.Idx) 1).val
        = 8192 * ((c.val + 3 - h.val) % 4) + 4096 * (c.val / 8) + 256 * s.val + (x 1).val := by
  have e := off2_eq c h s
  refine ⟨?_, ?_⟩
  · exact (ValueKit.rect_emb_unit_val _ _ _ _ 0).trans (by have e0 := congrFun e 0; exact (congrArg (· + (x 0).val) e0).trans (Nat.zero_add _))
  · exact (ValueKit.rect_emb_unit_val _ _ _ _ 1).trans (congrArg (· + (x 1).val) (congrFun e 1))

theorem outW_emb (c : Dev nD) (h : Fin 3) (x : S512x4096.Idx) :
    (((outW c h).view.emb x : S512x32768.Idx) 0).val = (x 0).val
    ∧ (((outW c h).view.emb x : S512x32768.Idx) 1).val = 8192 * ((c.val + 3 - h.val) % 4) + 4096 * (c.val / 8) + (x 1).val := by
  have e := off3_eq c h
  refine ⟨?_, ?_⟩
  · exact (ValueKit.rect_emb_unit_val _ _ _ _ 0).trans (by have e0 := congrFun e 0; exact (congrArg (· + (x 0).val) e0).trans (Nat.zero_add _))
  · exact (ValueKit.rect_emb_unit_val _ _ _ _ 1).trans (congrArg (· + (x 1).val) (congrFun e 1))

theorem outZ_emb (c : Dev nD) (x : S512x8192.Idx) :
    (((outZ c).view.emb x : S512x32768.Idx) 0).val = (x 0).val
    ∧ (((outZ c).view.emb x : S512x32768.Idx) 1).val = 8192 * (c.val % 4) + (x 1).val := by
  have e := off1_eq c
  refine ⟨?_, ?_⟩
  · exact (ValueKit.rect_emb_unit_val _ _ _ _ 0).trans (by have e0 := congrFun e 0; exact (congrArg (· + (x 0).val) e0).trans (Nat.zero_add _))
  · exact (ValueKit.rect_emb_unit_val _ _ _ _ 1).trans (congrArg (· + (x 1).val) (congrFun e 1))

/-! ## Which elements each view holds -/

/-- The elements of each view, as rectangles of its buffer. -/
def slotS (k : Fin 4) (s : Fin 16) : Finset S4x512x4096.Idx :=
  (Rect.unit (s := S4x512x4096) ![k.val, 0, 256 * s.val] S1x512x256.size (inb_slot k s)).set
def slotWS (k : Fin 4) : Finset S4x512x4096.Idx :=
  (Rect.unit (s := S4x512x4096) ![k.val, 0, 0] S1x512x4096.size (inb_slotW k)).set
def srS (d : Fin 3) : Finset S3x2x512x1.Idx :=
  (Rect.unit (s := S3x2x512x1) ![d.val, 0, 0, 0] S1x2x512x1.size (inb_sr d)).set
def outZS (c : Dev nD) : Finset S512x32768.Idx :=
  (Rect.unit (s := S512x32768) (k0_off1 c) S512x8192.size (k0_off1_inb c)).set
def outWS (c : Dev nD) (h : Fin 3) : Finset S512x32768.Idx :=
  (Rect.unit (s := S512x32768) (k0_off3 c (BitVec.ofNat 32 h.val)) S512x4096.size (k0_off3_inb c h)).set
def outRS (c : Dev nD) (h : Fin 3) (s : Fin 16) : Finset S512x32768.Idx :=
  (Rect.unit (s := S512x32768) (k0_off4 c (BitVec.ofNat 32 h.val) (BitVec.ofNat 32 (256 * s.val)))
    S512x256.size (k0_off4_inb c h s)).set

theorem slot_set (k : Fin 4) (s : Fin 16) : (slot k s).view.set = slotS k s :=
  (View.set_reshape _ _).trans (View.set_slice_whole _ _)
theorem slotW_set (k : Fin 4) : (slotW k).view.set = slotWS k := (View.set_reshape _ _).trans (View.set_slice_whole _ _)
theorem srSlot_set (d : Fin 3) : (srSlot d).view.set = srS d := (View.set_reshape _ _).trans (View.set_slice_whole _ _)
theorem outZ_set (c : Dev nD) : (outZ c).view.set = outZS c := View.set_slice_whole _ _
theorem outW_set (c : Dev nD) (h : Fin 3) : (outW c h).view.set = outWS c h := View.set_slice_whole _ _
theorem outR_set (c : Dev nD) (h : Fin 3) (s : Fin 16) : (outR c h s).view.set = outRS c h s := View.set_slice_whole _ _

theorem mem_slot (k : Fin 4) (s : Fin 16) (i : S4x512x4096.Idx) :
    i ∈ slotS k s ↔ (i 0).val = k.val ∧ (i 2).val / 256 = s.val := by
  rw [slotS, Rect.mem_set_unit, Fin.forall_fin_succ, Fin.forall_fin_two]
  have h1 : (i 1).val < 512 := (i 1).isLt
  show ((k.val ≤ (i 0).val ∧ (i 0).val < k.val + 1) ∧ (0 ≤ (i 1).val ∧ (i 1).val < 0 + 512)
    ∧ (256 * s.val ≤ (i 2).val ∧ (i 2).val < 256 * s.val + 256)) ↔ _
  omega

theorem mem_slotW (k : Fin 4) (i : S4x512x4096.Idx) : i ∈ slotWS k ↔ (i 0).val = k.val := by
  rw [slotWS, Rect.mem_set_unit, Fin.forall_fin_succ, Fin.forall_fin_two]
  have h1 : (i 1).val < 512 := (i 1).isLt
  have h2 : (i 2).val < 4096 := (i 2).isLt
  show ((k.val ≤ (i 0).val ∧ (i 0).val < k.val + 1) ∧ (0 ≤ (i 1).val ∧ (i 1).val < 0 + 512)
    ∧ (0 ≤ (i 2).val ∧ (i 2).val < 0 + 4096)) ↔ _
  omega

theorem mem_srSlot (d : Fin 3) (i : S3x2x512x1.Idx) : i ∈ srS d ↔ (i 0).val = d.val := by
  rw [srS, Rect.mem_set_unit, Fin.forall_fin_succ, Fin.forall_fin_succ, Fin.forall_fin_two]
  have h1 : (i 1).val < 2 := (i 1).isLt
  have h2 : (i 2).val < 512 := (i 2).isLt
  have h3 : (i 3).val < 1 := (i 3).isLt
  show ((d.val ≤ (i 0).val ∧ (i 0).val < d.val + 1) ∧ (0 ≤ (i 1).val ∧ (i 1).val < 0 + 2)
    ∧ (0 ≤ (i 2).val ∧ (i 2).val < 0 + 512) ∧ (0 ≤ (i 3).val ∧ (i 3).val < 0 + 1)) ↔ _
  omega

theorem mem_outZ (c : Dev nD) (i : S512x32768.Idx) : i ∈ outZS c ↔ (i 1).val / 8192 = c.val % 4 := by
  rw [outZS, Rect.mem_set_unit, off1_eq, Fin.forall_fin_two]
  have h1 : (i 0).val < 512 := (i 0).isLt
  show ((0 ≤ (i 0).val ∧ (i 0).val < 0 + 512) ∧ (8192 * (c.val % 4) ≤ (i 1).val ∧ (i 1).val < 8192 * (c.val % 4) + 8192)) ↔ _
  omega

theorem mem_outW (c : Dev nD) (h : Fin 3) (i : S512x32768.Idx) :
    i ∈ outWS c h ↔ (i 1).val / 8192 = (c.val + 3 - h.val) % 4 ∧ (i 1).val % 8192 / 4096 = c.val / 8 := by
  rw [outWS, Rect.mem_set_unit, off3_eq, Fin.forall_fin_two]
  have h1 : (i 0).val < 512 := (i 0).isLt
  have hc := dev_lt c
  show ((0 ≤ (i 0).val ∧ (i 0).val < 0 + 512) ∧ (8192 * ((c.val + 3 - h.val) % 4) + 4096 * (c.val / 8) ≤ (i 1).val
    ∧ (i 1).val < 8192 * ((c.val + 3 - h.val) % 4) + 4096 * (c.val / 8) + 4096)) ↔ _
  omega

theorem mem_outR (c : Dev nD) (h : Fin 3) (s : Fin 16) (i : S512x32768.Idx) :
    i ∈ outRS c h s ↔ (i 1).val / 8192 = (c.val + 3 - h.val) % 4 ∧ (i 1).val % 8192 / 4096 = 1 - c.val / 8
      ∧ (i 1).val % 4096 / 256 = s.val := by
  rw [outRS, Rect.mem_set_unit, off4_eq, Fin.forall_fin_two]
  have h1 : (i 0).val < 512 := (i 0).isLt
  have hc := dev_lt c
  have hs := s.isLt
  show ((0 ≤ (i 0).val ∧ (i 0).val < 0 + 512)
    ∧ (8192 * ((c.val + 3 - h.val) % 4) + 4096 * (1 - c.val / 8) + 256 * s.val ≤ (i 1).val
    ∧ (i 1).val < 8192 * ((c.val + 3 - h.val) % 4) + 4096 * (1 - c.val / 8) + 256 * s.val + 256)) ↔ _
  omega

/-! ## The cuts -/

/-- Two sets on which some quantity takes different values have no element in common. -/
theorem disjoint_of_key {α β : Type} [DecidableEq α] {A B : Finset α} (f : α → β) {a b : β} (hA : ∀ i ∈ A, f i = a) (hB : ∀ i ∈ B, f i = b)
    (h : a ≠ b) : Disjoint A B :=
  Finset.disjoint_left.mpr fun i hi hj => h ((hA i hi).symm.trans (hB i hj))

/-- A ring slot is its sixteen blocks, -/
theorem slotW_eq (k : Fin 4) :
    (slotWS k) = (Finset.univ : Finset (Fin 16)).biUnion fun s => (slotS k s) := by
  ext i
  have h2 : (i 2).val < 4096 := (i 2).isLt
  rw [mem_slotW, Finset.mem_biUnion]
  constructor
  · intro h
    exact ⟨⟨(i 2).val / 256, by omega⟩, Finset.mem_univ _, (mem_slot _ _ _).mpr ⟨h, rfl⟩⟩
  · rintro ⟨s, -, h⟩
    exact ((mem_slot _ _ _).mp h).1

theorem slot_disjoint (k : Fin 4) (s s' : Fin 16) (h : s ≠ s') :
    Disjoint (slotS k s) (slotS k s') :=
  disjoint_of_key (fun i : S4x512x4096.Idx => (i 2).val / 256) (fun i hi => ((mem_slot _ _ _).mp hi).2)
    (fun i hi => ((mem_slot _ _ _).mp hi).2) fun e => h (Fin.ext e)

/-- and the ring its four slots. -/
theorem ring_eq : (Finset.univ : Finset S4x512x4096.Idx) = (Finset.univ : Finset (Fin 4)).biUnion fun k => (slotWS k) := by
  ext i
  rw [Finset.mem_biUnion]
  exact ⟨fun _ => ⟨i 0, Finset.mem_univ _, (mem_slotW _ _).mpr rfl⟩, fun _ => Finset.mem_univ _⟩

theorem slotW_disjoint (k k' : Fin 4) (h : k ≠ k') :
    Disjoint (slotWS k) (slotWS k') :=
  disjoint_of_key (fun i : S4x512x4096.Idx => (i 0).val) (fun i hi => (mem_slotW _ _).mp hi)
    (fun i hi => (mem_slotW _ _).mp hi) fun e => h (Fin.ext e)

/-- The received statistics are their three slots. -/
theorem sr_eq : (Finset.univ : Finset S3x2x512x1.Idx) = (Finset.univ : Finset (Fin 3)).biUnion fun d => (srS d) := by
  ext i
  rw [Finset.mem_biUnion]
  exact ⟨fun _ => ⟨i 0, Finset.mem_univ _, (mem_srSlot _ _).mpr rfl⟩, fun _ => Finset.mem_univ _⟩

theorem srSlot_disjoint (d d' : Fin 3) (h : d ≠ d') :
    Disjoint (srS d) (srS d') :=
  disjoint_of_key (fun i : S3x2x512x1.Idx => (i 0).val) (fun i hi => (mem_srSlot _ _).mp hi)
    (fun i hi => (mem_srSlot _ _).mp hi) fun e => h (Fin.ext e)

/-- The result's parts: the own columns, the half blocks the ring delivers, the blocks the partner writes. -/
abbrev Part : Type := Unit ⊕ Fin 3 ⊕ (Fin 3 × Fin 16)
def part (c : Dev nD) : Part → Finset S512x32768.Idx
  | .inl _ => (outZS c)
  | .inr (.inl h) => (outWS c h)
  | .inr (.inr p) => (outRS c p.1 p.2)

theorem out_eq (c : Dev nD) : (Finset.univ : Finset S512x32768.Idx) = (Finset.univ : Finset Part).biUnion (part c) := by
  ext i
  have h1 : (i 1).val < 32768 := (i 1).isLt
  have hc := dev_lt c
  rw [Finset.mem_biUnion]
  refine ⟨fun _ => ?_, fun _ => Finset.mem_univ _⟩
  by_cases hz : (i 1).val / 8192 = c.val % 4
  · exact ⟨.inl (), Finset.mem_univ _, (mem_outZ _ _).mpr hz⟩
  · have hh : (c.val + 3 - (i 1).val / 8192) % 4 < 3 := by omega
    by_cases hx : (i 1).val % 8192 / 4096 = c.val / 8
    · refine ⟨.inr (.inl ⟨_, hh⟩), Finset.mem_univ _, (mem_outW _ _ _).mpr ⟨?_, hx⟩⟩
      show _ = (c.val + 3 - (c.val + 3 - (i 1).val / 8192) % 4) % 4
      omega
    · refine ⟨.inr (.inr (⟨_, hh⟩, ⟨(i 1).val % 4096 / 256, by omega⟩)), Finset.mem_univ _, (mem_outR _ _ _ _).mpr ⟨?_, ?_, rfl⟩⟩
      · show _ = (c.val + 3 - (c.val + 3 - (i 1).val / 8192) % 4) % 4
        omega
      · omega

/-- What an element of a part satisfies. -/
def InPart (c : Dev nD) (j : ℕ) : Part → Prop
  | .inl _ => j / 8192 = c.val % 4
  | .inr (.inl h) => j / 8192 = (c.val + 3 - h.val) % 4 ∧ j % 8192 / 4096 = c.val / 8
  | .inr (.inr (h, s)) => j / 8192 = (c.val + 3 - h.val) % 4 ∧ j % 8192 / 4096 = 1 - c.val / 8 ∧ j % 4096 / 256 = s.val

theorem mem_part (c : Dev nD) (p : Part) (i : S512x32768.Idx) : i ∈ part c p ↔ InPart c (i 1).val p := by
  rcases p with u | w | ⟨w, s⟩
  · exact mem_outZ c i
  · exact mem_outW c w i
  · exact mem_outR c w s i

/-- No column is in two parts. -/
theorem inPart_unique (c : Dev nD) (j : ℕ) (p p' : Part) (hi : InPart c j p) (hj : InPart c j p') : p = p' := by
  have hc := dev_lt c
  rcases p with u | w | ⟨w, s⟩ <;> rcases p' with u' | w' | ⟨w', s'⟩ <;> unfold InPart at hi hj
  · rfl
  · have := w'.isLt; omega
  · have := w'.isLt; omega
  · have := w.isLt; omega
  · have : w = w' := Fin.ext (by have := w.isLt; have := w'.isLt; omega)
    rw [this]
  · omega
  · have := w.isLt; omega
  · omega
  · have e1 : w = w' := Fin.ext (by have := w.isLt; have := w'.isLt; omega)
    have e2 : s = s' := Fin.ext (by omega)
    rw [e1, e2]

theorem part_disjoint (c : Dev nD) (p p' : Part) (h : p ≠ p') : Disjoint (part c p) (part c p') :=
  Finset.disjoint_left.mpr fun i hi hj => h (inPart_unique c _ p p' ((mem_part c p i).mp hi) ((mem_part c p' i).mp hj))

end Cert.KernelIdeal.Own

end
-- ==== Proof.KernelIdeal.Contents.lean ====
/-
  What every buffer holds at the end of each part of the body, as functions of the logits of all devices, and that each
  transfer carries exactly these: what a transfer's source view reads is what its destination view is to read.
-/
module

public import proofs.«01_k».proof.Proof.KernelIdeal.Views

@[expose] public section

noncomputable section

namespace Cert.KernelIdeal.Own

open Idealize.ShloMosaic Idealize.ShloMosaic.ValueIdx Idealize.SL.Sem
open Cert.KernelIdeal Cert.KernelIdeal.Gen

variable {F : FTy → Type} [FloatOps F]

/-- An array of one shape of the kernel's numbers. -/
abbrev Arr (F : FTy → Type) (s : Shape) : Type := s.Idx → F .f32

variable (X : Dev nD → Arr F S512x8192)

/-! ## The device's own block -/

/-- The logits read whole, and the row maxima. -/
def lAll (c : Dev nD) : Vec F S512x8192 .f32 := (lM.access rL).read (Elt F) (X c)
def rowMax (c : Dev nD) : FVec F S512x1 .f32 := k0_pay1 (lAll X c)
/-- The block with its left half, then both halves, exponentiated. -/
def l1 (c : Dev nD) : Arr F S512x8192 :=
  (lM.access rA).write (Elt F) (X c) (k0_pay2 (lAll X c) ((lM.access rA).read (Elt F) (X c))) Finset.univ
def l2 (c : Dev nD) : Arr F S512x8192 :=
  (lM.access rB).write (Elt F) (l1 X c) (k0_pay3 (lAll X c) ((lM.access rB).read (Elt F) (l1 X c))) Finset.univ
/-- The row sums of the exponentials. -/
def rowSum (c : Dev nD) : FVec F S512x1 .f32 := k0_pay4 ((lM.access rL).read (Elt F) (l2 X c))

/-- The statistics to send: the maxima, then the sums. -/
def stFin (c : Dev nD) : Arr F S2x512x1 := fun i =>
  if (i 0).val = 0 then k0_pay5 (rowMax X c) (ix3 (⟨0, Nat.one_pos⟩ : Fin 1) (i 1) (i 2))
  else k0_pay6 (rowSum X c) (ix3 (⟨0, Nat.one_pos⟩ : Fin 1) (i 1) (i 2))
/-- The statistics received: slot `d` comes from the device `d + 1` places back. -/
def srFin (c : Dev nD) : Arr F S3x2x512x1 := fun i => stFin X (back c (Fin.succ (i 0))) (ix3 (i 1) (i 2) (i 3))
/-- A row of them. -/
def row (c : Dev nD) (d : Fin 3) (j : Fin 2) : Vec F S1x1x512x1 .f32 := (srM.access (rRow d j)).read (Elt F) (srFin X c)

/-- The maximum over the whole row, and the parts of the sum over it. -/
def gMax (c : Dev nD) : FVec F S512x1 .f32 := k0_pay7 (rowMax X c) (row X c 0 0) (row X c 1 0) (row X c 2 0)
def gSum (c : Dev nD) : FVec F S512x1 .f32 :=
  k0_pay8 (rowMax X c) (rowSum X c) (row X c 0 0) (row X c 1 0) (row X c 2 0) (row X c 0 1) (row X c 0 0) (row X c 1 1) (row X c 1 0)

/-- The block with its left half, then both halves, scaled: what the device sends. -/
def l3 (c : Dev nD) : Arr F S512x8192 :=
  (lM.access rA).write (Elt F) (l2 X c) (k0_pay11 (rowMax X c) (gMax X c) (gSum X c) (k0_pay9 (row X c 2 1)) (row X c 2 0)
    ((lM.access rA).read (Elt F) (l2 X c))) Finset.univ
def lFin (c : Dev nD) : Arr F S512x8192 :=
  (lM.access rB).write (Elt F) (l3 X c) (k0_pay13 (rowMax X c) (gMax X c) (gSum X c) (k0_pay9 (row X c 2 1)) (row X c 2 0)
    ((lM.access rB).read (Elt F) (l3 X c))) Finset.univ

/-! ## The ring and the result -/

/-- Ring slot `k`: the half block (the half is the device's first coordinate) of the device `k` places back. -/
def ringFin (c : Dev nD) : Arr F S4x512x4096 := fun i =>
  lFin X (back c (i 0)) (ix2 (i 1) (⟨4096 * (c.val / 8) + (i 2).val, by
    have := dev_lt c; have h : (i 2).val < 4096 := (i 2).isLt; omega⟩ : Fin 8192))
/-- The result: each column block from its owner. -/
def outFin (c : Dev nD) : Arr F S512x32768 := fun i =>
  lFin X (owner c (i 1).val (i 1).isLt) (ix2 (i 0) (⟨(i 1).val % 8192, Nat.mod_lt _ (by decide)⟩ : Fin 8192))

/-- Two entries of final blocks agree where the devices and the two coordinates do. -/
theorem lFin_congr {a b : Dev nD} {r r' : Fin 512} {j j' : Fin 8192} (h : a.val = b.val) (hr : r.val = r'.val) (hj : j.val = j'.val) :
    lFin X a (ix2 r j) = lFin X b (ix2 r' j') := by
  rw [Fin.ext h, Fin.ext hr, Fin.ext hj]

/-- The owner of a column the ring brings to `c`: on `c`, and on its partner. -/
theorem owner_ring (c b : Dev nD) (hb : b.val = c.val ∨ b.val = (c.val + 8) % 16) (h : Fin 3) (j : ℕ) (hj : j < 32768)
    (hz : j / 8192 = (c.val + 3 - h.val) % 4) (hx : j % 8192 / 4096 = c.val / 8) :
    (owner b j hj).val = (back c h.succ).val := by
  have hc := dev_lt c
  have hh := h.isLt
  unfold owner back
  have hzb : b.val % 4 = c.val % 4 := by rcases hb with hb | hb <;> rw [hb]; clear hz hx hh hj; omega
  rw [if_neg (by rw [hzb]; omega)]
  show 8 * (j % 8192 / 4096) + 4 * (b.val / 4 % 2) + j / 8192 = 4 * (c.val / 4) + (c.val + 4 - (h.val + 1)) % 4
  have k1 : b.val / 4 % 2 = c.val / 4 % 2 := by
    rcases hb with hb | hb
    · rw [hb]
    · rw [hb]; clear hz hx hh hj; omega
  have k2 : 2 * (c.val / 8) + c.val / 4 % 2 = c.val / 4 := by omega
  rw [show c.val + 4 - (h.val + 1) = c.val + 3 - h.val by omega, hz, hx, k1]
  omega

/-! ## What each transfer carries -/

/-- Round the ring: slot `h` here is slot `h + 1` on the next device. -/
theorem carry_ring (c : Dev nD) (h : Fin 3) (s : Fin 16) :
    (slot h.succ s).view.read (Elt F) (ringFin X (nxt c 1)) = (slot h.castSucc s).view.read (Elt F) (ringFin X c) := by
  funext x
  obtain ⟨a0, a1, a2⟩ := slot_emb h.succ s x
  obtain ⟨b0, b1, b2⟩ := slot_emb h.castSucc s x
  refine lFin_congr X ?_ (a1.trans b1.symm) ?_
  · have e := congrArg Fin.val (back_nxt_succ c h)
    rw [← Fin.ext a0, ← Fin.ext b0] at e
    exact e
  · show 4096 * ((nxt c 1).val / 8) + _ = 4096 * (c.val / 8) + _
    have e : (nxt c 1).val / 8 = c.val / 8 := by revert c; decide
    rw [e]
    exact congrArg (4096 * (c.val / 8) + ·) (a2.trans b2.symm)

/-- Across: slot `h + 1` here is a block of the partner's result. -/
theorem carry_cross (c : Dev nD) (h : Fin 3) (s : Fin 16) :
    (outC c h s).view.read (Elt F) (outFin X (across c)) = (slot h.succ s).view.read (Elt F) (ringFin X c) := by
  funext x
  obtain ⟨a0, a1⟩ := outC_emb c h s x
  obtain ⟨b0, b1, b2⟩ := slot_emb h.succ s x
  have hx : (x 1).val < 256 := (x 1).isLt
  have hs := s.isLt
  have hh := h.isLt
  have hc := dev_lt c
  refine lFin_congr X ?_ (a0.trans b1.symm) ?_
  · have e : (owner (across c) _ (((outC c h s).view.emb x : S512x32768.Idx) 1).isLt).val = (back c h.succ).val :=
      owner_ring c _ (.inr rfl) h _ _ (by rw [a1]; omega) (by rw [a1]; omega)
    rw [← Fin.ext b0] at e
    exact e
  · show _ % 8192 = 4096 * (c.val / 8) + _
    rw [a1, b2]; omega

/-- Into the own result: ring slot `h + 1`, -/
theorem carry_outW (c : Dev nD) (h : Fin 3) :
    (outW c h).view.read (Elt F) (outFin X c) = (slotW h.succ).view.read (Elt F) (ringFin X c) := by
  funext x
  obtain ⟨a0, a1⟩ := outW_emb c h x
  obtain ⟨b0, b1, b2⟩ := slotW_emb h.succ x
  have hx : (x 1).val < 4096 := (x 1).isLt
  have hh := h.isLt
  have hc := dev_lt c
  refine lFin_congr X ?_ (a0.trans b1.symm) ?_
  · have e : (owner c _ (((outW c h).view.emb x : S512x32768.Idx) 1).isLt).val = (back c h.succ).val :=
      owner_ring c _ (.inl rfl) h _ _ (by rw [a1]; omega) (by rw [a1]; omega)
    rw [← Fin.ext b0] at e
    exact e
  · show _ % 8192 = 4096 * (c.val / 8) + _
    rw [a1, b2]; omega

/-- and the own block. -/
theorem carry_outZ (c : Dev nD) : (outZ c).view.read (Elt F) (outFin X c) = lM.view.read (Elt F) (lFin X c) := by
  funext x
  obtain ⟨a0, a1⟩ := outZ_emb c x
  have hx : (x 1).val < 8192 := (x 1).isLt
  have e : lM.view.read (Elt F) (lFin X c) x = lFin X c (ix2 (x 0) (x 1)) := congrArg (lFin X c) (eq_ix2 x)
  rw [e]
  refine lFin_congr X ?_ a0 ?_
  · unfold owner
    rw [if_pos (by rw [a1]; omega)]
  · show _ % 8192 = _
    rw [a1]; omega

/-- The statistics. -/
theorem carry_st (c : Dev nD) (d : Fin 3) :
    (srSlot d).view.read (Elt F) (srFin X (nxt c d.succ)) = stM.view.read (Elt F) (stFin X c) := by
  funext x
  obtain ⟨a0, a1, a2, a3⟩ := srSlot_emb d x
  have e : stM.view.read (Elt F) (stFin X c) x = stFin X c (ix3 (x 0) (x 1) (x 2)) := congrArg (stFin X c) (eq_ix3 x)
  have e' : (srSlot d).view.read (Elt F) (srFin X (nxt c d.succ)) x
      = stFin X (back (nxt c d.succ) (Fin.succ (((srSlot d).view.emb x : S3x2x512x1.Idx) 0)))
          (ix3 (((srSlot d).view.emb x : S3x2x512x1.Idx) 1) (((srSlot d).view.emb x : S3x2x512x1.Idx) 2)
            (((srSlot d).view.emb x : S3x2x512x1.Idx) 3)) := rfl
  rw [e, e', Fin.ext a0, Fin.ext a1, Fin.ext a2, Fin.ext a3]
  exact congrArg (fun b => stFin X b _) (back_nxt c d)

end Cert.KernelIdeal.Own

end
-- ==== Proof.KernelIdeal.Sched.lean ====
/-
  The schedule of the kernel's semaphores: which device pays each of them, with how much, and what the payment hands to
  the semaphore's owner. Every semaphore is used for one round. A DMA semaphore has one duty; the barrier has four, one
  from each device that signals it.

  A device opens its receiving semaphores before it signals. Its four signals hand out the memory the other devices write:
  the signal to the device `d` places on hands it the slot of the received statistics that this device fills, the signal
  to the previous device hands it also the ring slots 1 to 3, and the signal to the partner hands it the regions of the
  result that the partner fills.
-/
module

public import proofs.«01_k».proof.Proof.KernelIdeal.Contents
public import Idealize.ShloMosaic.Lib.Pipeline.RegionTalk
public import Idealize.ShloMosaic.Lib.Pipeline.TalkSites
public import Idealize.ShloMosaic.Lib.Pipeline.BigSepL
public import Idealize.ShloMosaic.Lib.Pipeline.Kit
public import Idealize.ShloMosaic.Lib.Ring.Trips
public import Idealize.ShloMosaic.Lib.Rounds

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The duties -/

/-- A hop and a block. -/
abbrev HS : Type := Fin 3 × Fin 16

/-- The DMA semaphores: the staging copy's, the four copies into the own result, the statistics' sends and receipts, the
    ring's, and the partner transfers'. -/
inductive NK : Type
  | nIn
  | nOut (k : Fin 4)
  | nStS (d : Fin 3)
  | nStR (d : Fin 3)
  | nRgS (h : Fin 3) (s : Fin 16)
  | nRgR (h : Fin 3) (s : Fin 16)
  | nCrS (h : Fin 3) (s : Fin 16)
  | nCrR (h : Fin 3) (s : Fin 16)
  deriving DecidableEq
/-- The duties: the four signals of the barrier, and one at each DMA semaphore. -/
inductive Duty : Type
  | kBar (d : Fin 4)
  | kN (k : NK)
  deriving DecidableEq

open NK Duty

/-- The same as sums, by which they are finite. -/
def eNK : (Unit ⊕ Fin 4 ⊕ Fin 3 ⊕ Fin 3) ⊕ (HS ⊕ HS) ⊕ (HS ⊕ HS) ≃ NK where
  toFun
    | .inl (.inl _) => nIn
    | .inl (.inr (.inl k)) => nOut k
    | .inl (.inr (.inr (.inl d))) => nStS d
    | .inl (.inr (.inr (.inr d))) => nStR d
    | .inr (.inl (.inl x)) => nRgS x.1 x.2
    | .inr (.inl (.inr x)) => nRgR x.1 x.2
    | .inr (.inr (.inl x)) => nCrS x.1 x.2
    | .inr (.inr (.inr x)) => nCrR x.1 x.2
  invFun
    | nIn => .inl (.inl ())
    | nOut k => .inl (.inr (.inl k))
    | nStS d => .inl (.inr (.inr (.inl d)))
    | nStR d => .inl (.inr (.inr (.inr d)))
    | nRgS h s => .inr (.inl (.inl (h, s)))
    | nRgR h s => .inr (.inl (.inr (h, s)))
    | nCrS h s => .inr (.inr (.inl (h, s)))
    | nCrR h s => .inr (.inr (.inr (h, s)))
  left_inv x := by rcases x with (_ | _ | _ | _) | (_ | _) | (_ | _) <;> rfl
  right_inv x := by cases x <;> rfl
def eDuty : Fin 4 ⊕ NK ≃ Duty where
  toFun
    | .inl d => kBar d
    | .inr k => kN k
  invFun
    | kBar d => .inl d
    | kN k => .inr k
  left_inv x := by rcases x with _ | _ <;> rfl
  right_inv x := by cases x <;> rfl

instance instFinNK : Fintype NK := Fintype.ofEquiv _ eNK
instance instFinDuty : Fintype Duty := Fintype.ofEquiv _ eDuty

/-- The place of each DMA semaphore. -/
def semN : NK → DmaSem sig
  | nIn => qIn
  | nOut k => qOut k
  | nStS d => qSt d
  | nStR d => qSr d
  | nRgS h s => qRs h s
  | nRgR h s => qRr h s
  | nCrS h s => qCs h s
  | nCrR h s => qCr h s

/-- Which semaphore a place is, by its interval. -/
def codeN : NK → ℕ
  | nIn => 202
  | nOut k => 198 + k.val
  | nStS d => d.val
  | nStR d => 3 + d.val
  | nRgS h s => 6 + (16 * h.val + s.val)
  | nRgR h s => 54 + (16 * h.val + s.val)
  | nCrS h s => 102 + (16 * h.val + s.val)
  | nCrR h s => 150 + (16 * h.val + s.val)

theorem semN_val (k : NK) : (semN k).val = codeN k := by
  rcases k with _ | k | d | d | ⟨h, s⟩ | ⟨h, s⟩ | ⟨h, s⟩ | ⟨h, s⟩ <;> rfl

theorem semN_injective : Function.Injective semN := fun a b e => by
  have e : codeN a = codeN b := by rw [← semN_val, ← semN_val, e]
  rcases a with _ | k | d | d | ⟨h, s⟩ | ⟨h, s⟩ | ⟨h, s⟩ | ⟨h, s⟩ <;>
    rcases b with _ | k' | d' | d' | ⟨h', s'⟩ | ⟨h', s'⟩ | ⟨h', s'⟩ | ⟨h', s'⟩ <;>
    simp only [codeN] at e <;>
    first
      | rfl
      | (exfalso; omega)
      | (have : k = k' := Fin.ext (by omega)
         subst this; rfl)
      | (have : d = d' := Fin.ext (by omega)
         subst this; rfl)
      | (have : h = h' := Fin.ext (by omega)
         subst this
         have : s = s' := Fin.ext (by omega)
         subst this; rfl)

/-- The semaphore of a duty, and its cell on a device. -/
@[reducible] def semOf : Duty → SemLoc sig
  | kBar _ => .reg barrier0
  | kN k => .dma (semN k)
abbrev cell (c : Dev nD) (k : Duty) : GSem nD τ sig := ((c : Thread nD τ), semOf k)

/-- What a duty pays: a unit at the barrier, otherwise what the transfer credits. -/
def amt : Duty → ℕ
  | kBar _ => 1
  | kN nIn => lM.view.dmaCredit
  | kN (nOut k) => if k = 0 then lM.view.dmaCredit else (slotW 0).view.dmaCredit
  | kN (nStS _) => stM.view.dmaCredit
  | kN (nStR _) => stM.view.dmaCredit
  | kN (nRgS _ _) => (slot 0 0).view.dmaCredit
  | kN (nRgR _ _) => (slot 0 0).view.dmaCredit
  | kN (nCrS _ _) => (slot 0 0).view.dmaCredit
  | kN (nCrR _ _) => (slot 0 0).view.dmaCredit

theorem amt_pos (k : Duty) : 0 < amt k := by
  rcases k with d | ⟨_ | k | d | d | ⟨h, s⟩ | ⟨h, s⟩ | ⟨h, s⟩ | ⟨h, s⟩⟩
  case kN.nOut => unfold amt; dsimp only; split <;> exact View.dmaCredit_pos _ (by decide)
  case kBar => exact Nat.one_pos
  all_goals exact View.dmaCredit_pos _ (by decide)

/-- The level of a duty: a device waits only for what lies below everything it still owes. -/
def ix : Duty → ℕ
  | kBar _ => 1
  | kN (nStR _) => 2
  | kN (nRgR h _) => 3 + h.val
  | kN (nCrR _ _) => 10
  | _ => 0

theorem ix_lt (k : Duty) : ix k < 16 := by
  rcases k with d | ⟨_ | k | d | d | ⟨h, s⟩ | ⟨h, s⟩ | ⟨h, s⟩ | ⟨h, s⟩⟩ <;> simp only [ix] <;> omega

theorem nxt_back (c : Dev nD) (d : Fin 4) : nxt (back c d) d = c := by revert c d; decide
theorem back_nxt4 (c : Dev nD) (d : Fin 4) : back (nxt c d) d = c := by revert c d; decide

/-- The device `d` places on, and the partner, as permutations of the devices. -/
def eNxt (d : Fin 4) : Dev nD ≃ Dev nD := ⟨fun c => nxt c d, fun c => back c d, fun c => back_nxt4 c d, fun c => nxt_back c d⟩
def eAcross : Dev nD ≃ Dev nD := ⟨across, across, across_across, across_across⟩

/-- The device at whose cell the device pays a duty. The duty `d ≠ 0` of a barrier is paid by the device `d` places on, the
    duty `0` by the partner. -/
def tgt : Duty → Dev nD ≃ Dev nD
  | kBar d => if d = 0 then eAcross else (eNxt d).symm
  | kN (nStR d) => eNxt d.succ
  | kN (nRgR _ _) => eNxt 1
  | kN (nCrR _ _) => eAcross
  | _ => Equiv.refl _

/-! ## The resources -/

abbrev UU : Type := UR sig nD τ × URounds (GSem nD τ sig) Duty

local notation "𝕄" => MT nD τ sig ℕ (Elt F) ℕ UU ℕ

abbrev EP : Emb (UR sig nD τ) (MT nD τ sig ℕ (Elt F) ℕ UU ℕ) := embL
abbrev ER : Emb (URounds (GSem nD τ sig) Duty) (MT nD τ sig ℕ (Elt F) ℕ UU ℕ) := embR

/-- Shares of a device's buffers. -/
abbrev inPt (c : Dev nD) (f : Arr F S512x8192) : sProp 𝕄 := inM.view.loc (c : Thread nD τ) ↦{fullShare} f
abbrev lPt (c : Dev nD) (f : Arr F S512x8192) : sProp 𝕄 := lM.view.loc (c : Thread nD τ) ↦{fullShare} f
abbrev stPt (c : Dev nD) (q : PosShare TreeShare) (f : Arr F S2x512x1) : sProp 𝕄 := stM.view.loc (c : Thread nD τ) ↦{q} f
abbrev srPt (c : Dev nD) (S : Finset S3x2x512x1.Idx) (f : Arr F S3x2x512x1) : sProp 𝕄 :=
  srM.view.loc (c : Thread nD τ) ↦[S]{fullShare} f
abbrev ringPt (c : Dev nD) (S : Finset S4x512x4096.Idx) (q : PosShare TreeShare) (f : Arr F S4x512x4096) : sProp 𝕄 :=
  ringM.view.loc (c : Thread nD τ) ↦[S]{q} f
abbrev outPt (c : Dev nD) (S : Finset S512x32768.Idx) (f : Arr F S512x32768) : sProp 𝕄 :=
  outM.view.loc (c : Thread nD τ) ↦[S]{fullShare} f

/-- The three shares of a ring block: for the ring's transfer, the partner's, the copy into the own result. -/
abbrev qRing : PosShare TreeShare := Ring.shares3 fullShare 0
abbrev qCross : PosShare TreeShare := Ring.shares3 fullShare 1
abbrev qOwn : PosShare TreeShare := Ring.shares3 fullShare 2

variable (X : Dev nD → Arr F S512x8192)

/-- The own slots of the received statistics, the own ring slots 1 to 3 and the own result's partner regions at some
    contents, each with the record that its semaphore has been opened: what the signals hand out. -/
def gapSt (p : Dev nD) (d : Fin 3) : sProp 𝕄 :=
  iprop((∃ f, srPt (F := F) p (srS d) f) ∗ reached ER (cell p (kN (nStR d))) 0)
def gapRing (p : Dev nD) (x : HS) : sProp 𝕄 :=
  iprop((∃ f, ringPt (F := F) p (slotS x.1.succ x.2) fullShare f) ∗ reached ER (cell p (kN (nRgR x.1 x.2))) 0)
def gapOut (p : Dev nD) (x : HS) : sProp 𝕄 :=
  iprop((∃ f, outPt (F := F) p (outRS p x.1 x.2) f) ∗ reached ER (cell p (kN (nCrR x.1 x.2))) 0)

/-- What the barrier's duty `d` hands to its owner `c`. -/
def payBar (c : Dev nD) : Fin 4 → sProp (MT nD τ sig ℕ (Elt F) ℕ UU ℕ)
  | 0 => bigSep Finset.univ fun x : HS => gapOut (F := F) (across c) x
  | 1 => iprop(gapSt (F := F) (nxt c 1) 0 ∗ bigSep Finset.univ fun x : HS => gapRing (F := F) (nxt c 1) x)
  | 2 => gapSt (F := F) (nxt c 2) 1
  | 3 => gapSt (F := F) (nxt c 3) 2

/-- What the duty at a DMA semaphore hands to its owner `c`. -/
def payN (c : Dev nD) : NK → sProp (MT nD τ sig ℕ (Elt F) ℕ UU ℕ)
  | nIn => iprop(inPt c (X c) ∗ lPt c (X c))
  | nOut k => Fin.cases (motive := fun _ => sProp (MT nD τ sig ℕ (Elt F) ℕ UU ℕ))
      iprop(outPt c (outZS c) (outFin X c) ∗ lPt c (lFin X c))
      (fun h => iprop(outPt c (outWS c h) (outFin X c) ∗ ringPt c (slotWS h.succ) qOwn (ringFin X c))) k
  | nStS d => stPt c (Ring.shares3 fullShare d) (stFin X c)
  | nStR d => srPt c (srS d) (srFin X c)
  | nRgS h s => ringPt c (slotS h.castSucc s) qRing (ringFin X c)
  | nRgR h s => ringPt c (slotS h.succ s) fullShare (ringFin X c)
  | nCrS h s => ringPt c (slotS h.succ s) qCross (ringFin X c)
  | nCrR h s => outPt c (outRS c h s) (outFin X c)

/-- What a duty hands to its owner. -/
def pay (c : Dev nD) : Duty → sProp (MT nD τ sig ℕ (Elt F) ℕ UU ℕ)
  | kBar d => payBar c d
  | kN k => payN X c k

instance gapSt_storable (p : Dev nD) (d : Fin 3) : BI.Storable (upEmb : UEmb _ 𝕄) (gapSt (F := F) p d) := by
  unfold gapSt; infer_instance
instance gapRing_storable (p : Dev nD) (x : HS) : BI.Storable (upEmb : UEmb _ 𝕄) (gapRing (F := F) p x) := by
  unfold gapRing; infer_instance
instance gapOut_storable (p : Dev nD) (x : HS) : BI.Storable (upEmb : UEmb _ 𝕄) (gapOut (F := F) p x) := by
  unfold gapOut; infer_instance

instance payBar_storable (c : Dev nD) (d : Fin 4) : BI.Storable (upEmb : UEmb _ 𝕄) (payBar (F := F) c d) := by
  fin_cases d <;> (unfold payBar; dsimp only; infer_instance)

instance payN_storable (c : Dev nD) (k : NK) : BI.Storable (upEmb : UEmb _ 𝕄) (payN X c k) := by
  rcases k with _ | k | d | d | ⟨h, s⟩ | ⟨h, s⟩ | ⟨h, s⟩ | ⟨h, s⟩
  case nOut => refine Fin.cases ?_ (fun h => ?_) k <;> (unfold payN; dsimp only [Fin.cases_zero, Fin.cases_succ]; infer_instance)
  all_goals (unfold payN; dsimp only; infer_instance)

instance pay_storable (c : Dev nD) (k : Duty) : BI.Storable (upEmb : UEmb _ 𝕄) (pay X c k) := by
  rcases k with d | k <;> (unfold pay; dsimp only; infer_instance)

/-- The schedule. -/
def Rd : Schedule (GSem nD τ sig) Duty 𝕄 where
  duties g r := if r = 0 ∧ g.1.2 = .tc then Finset.univ.filter (fun k => semOf k = g.2) else ∅
  amount _ _ k := amt k
  payload g _ k := pay X g.1.1 k
  amount_pos _ _ k _ := amt_pos k
  unitless _ := False

instance Rd_storable (g : GSem nD τ sig) (r : ℕ) (k : Duty) :
    BI.Storable (upEmb : UEmb _ 𝕄) ((Rd X).payload g r k) := pay_storable X g.1.1 k

theorem duties_eq (c : Dev nD) (k : Duty) :
    (Rd X).duties (cell c k) 0 = Finset.univ.filter (fun k' => semOf k' = semOf k) := by
  dsimp only [Rd]; exact if_pos ⟨rfl, rfl⟩
theorem mem_duties (c : Dev nD) (k : Duty) : k ∈ (Rd X).duties (cell c k) 0 := by
  rw [duties_eq]; exact Finset.mem_filter.mpr ⟨Finset.mem_univ _, rfl⟩
theorem duties_later (g : GSem nD τ sig) (r : ℕ) (hr : 1 ≤ r) : (Rd X).duties g r = ∅ := by
  dsimp only [Rd]; exact if_neg fun h => by omega

theorem duties_N (c : Dev nD) (k : NK) : (Rd X).duties (cell c (kN k)) 0 = {kN k} := by
  rw [duties_eq]
  ext k'
  rw [Finset.mem_filter, Finset.mem_singleton]
  refine ⟨fun h => ?_, fun h => ⟨Finset.mem_univ _, by rw [h]⟩⟩
  rcases k' with d | k'
  · exact absurd h.2 (by intro e; cases e)
  · have e : semN k' = semN k := by have := h.2; injection this
    rw [semN_injective e]
theorem duties_bar (c : Dev nD) (d : Fin 4) :
    (Rd X).duties (cell c (kBar d)) 0 = {kBar 0, kBar 1, kBar 2, kBar 3} := by
  rw [duties_eq]
  ext k'
  rw [Finset.mem_filter]
  refine ⟨fun h => ?_, fun h => ⟨Finset.mem_univ _, ?_⟩⟩
  · rcases k' with d' | k'
    · fin_cases d' <;> simp
    · exact absurd h.2 (by intro e; cases e)
  · simp only [Finset.mem_insert, Finset.mem_singleton] at h
    rcases h with rfl | rfl | rfl | rfl <;> rfl

theorem expect_N (c : Dev nD) (k : NK) : (Rd X).expect (cell c (kN k)) 0 = amt (kN k) := by
  unfold Schedule.expect Schedule.amountOf; rw [duties_N, Finset.sum_singleton]; rfl
theorem expect_bar (c : Dev nD) (d : Fin 4) : (Rd X).expect (cell c (kBar d)) 0 = 4 := by
  unfold Schedule.expect Schedule.amountOf; rw [duties_bar]; rfl

theorem rest_N (c : Dev nD) (k : NK) :
    bigSep ((Rd X).duties (cell c (kN k)) 0 \ ∅) (fun u => (Rd X).payload (cell c (kN k)) 0 u) = payN X c k := by
  rw [Finset.sdiff_empty, duties_N, bigSep_singleton]; rfl
theorem rest_bar (c : Dev nD) (d : Fin 4) :
    bigSep ((Rd X).duties (cell c (kBar d)) 0 \ ∅) (fun u => (Rd X).payload (cell c (kBar d)) 0 u)
      = iprop(payBar c 0 ∗ payBar c 1 ∗ payBar c 2 ∗ payBar c 3) := by
  rw [Finset.sdiff_empty, duties_bar, bigSep_insert (by simp), bigSep_insert (by simp), bigSep_insert (by simp),
    bigSep_singleton]
  rfl

/-! ## What is owed -/

open Idealize.ShloMosaic.TalkSites (tallyL tallyL_pos tallyL_append)

/-- A duty as a payment that device `c` makes. -/
abbrev dueOf (c : Dev nD) (k : Duty) : TalkSites.Pay nD τ sig := (cell (tgt k c) k, ix k, amt k)
/-- The tally of the duties of a list that device `c` has still to pay. -/
def owe (c : Dev nD) (l : List Duty) : CellTallies nD τ sig ℕ := tallyL (l.map (dueOf c))
/-- What the device still owes, whatever it has waited for. -/
def owing (c : Dev nD) (l : List Duty) : sProp 𝕄 := iprop(∃ W, owes (c : Thread nD τ) (owe c l) W)

theorem owe_cons (c : Dev nD) (k : Duty) (l : List Duty) :
    owe c (k :: l) = owe c l + tallyAt (cell (tgt k c) k) (ix k) (amt k) := by
  show _ + _ = _
  rw [add_comm]; rfl

/-- The device may wait at level `n` while every duty it owes lies above `n`. -/
theorem mayWait (c : Dev nD) (s : SemLoc sig) (n : ℕ) (hn : n < 16) (l : List Duty) (hl : ∀ x ∈ l, n < ix x) :
    (levAts (SiteBlocks.L 16) SiteBlocks.lv : sProp 𝕄) ⊢ MayWait (c : Thread nD τ) s n (owe c l) :=
  SiteBlocks.mayWait_of hn c s _ fun g k h => by
    obtain ⟨x, hx, rfl, rfl⟩ := tallyL_pos h
    obtain ⟨y, hy, rfl⟩ := List.mem_map.mp hx
    exact ⟨SiteBlocks.mem_L' rfl (ix_lt y), hl y hy⟩

/-- The duties in the order the device pays them: from hop `h`'s loop on. -/
def dueHop (h h' : Fin 3) : List Duty := all16.flatMap fun s => [kN (nRgR h' s), kN (nCrR h s)]
def dueRing0 : List Duty := all16.map fun s => kN (nRgR 0 s)
def dueLast : List Duty := all16.map fun s => kN (nCrR 2 s)
def due5 : List Duty := dueRing0 ++ (dueHop 0 1 ++ (dueHop 1 2 ++ dueLast))
def due3 : List Duty := kN (nStR 0) :: kN (nStR 1) :: kN (nStR 2) :: due5
def dueAll : List Duty := kBar 3 :: kBar 2 :: kBar 1 :: kBar 0 :: due3

end Cert.KernelIdeal.Own

end
-- ==== Proof.KernelIdeal.Steps.lean ====
/-
  One lemma for each kind of instruction of the body: what a device must hold to run it and what it holds afterwards.
  `wp_waitN` is every wait for a transfer; `wp_sendN` every transfer to another device; `wp_copyN` every copy inside the
  device; `seqs_step` runs an instruction over a list.
-/
module

public import proofs.«01_k».proof.Proof.KernelIdeal.Sched
public import Idealize.ShloMosaic.Lib.ViewIndex

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open NK Duty

variable {F : FTy → Type} [FloatOps F]

local notation "𝕄" => MT nD τ sig ℕ (Elt F) ℕ UU ℕ

variable (X : Dev nD → Arr F S512x8192)

/-! ## The family of semaphores -/

theorem tokOf_injective (c : Dev nD) : Function.Injective fun k : Duty => ((cell (tgt k c) k, 0, k) : GSem nD τ sig × ℕ × Duty) :=
  fun _ _ e => (Prod.ext_iff.mp (Prod.ext_iff.mp e).2).2

/-- The cells and tokens of the launch: the barrier, open from the start; the DMA semaphores, opened where the kernel
    begins; each device's tokens for the duties it pays. -/
def fam : TalkSites.Fam nD τ sig Duty 1 where
  bar := .reg barrier0
  dorm _ := Finset.univ.map ⟨fun k : NK => (SemLoc.dma (semN k) : SemLoc sig), fun a b e => semN_injective (by injection e)⟩
  toks c _ := Finset.univ.map ⟨fun k : Duty => (cell (tgt k c) k, 0, k), tokOf_injective c⟩
  semKey _ := 0
  hsem j _ _ := (Subsingleton.elim j 0).symm
  hbar _ h := by
    obtain ⟨k, -, e⟩ := Finset.mem_map.mp h
    cases e
  tokKey x := ((tgt x.2.2).symm x.1.1.1, 0)
  htok c j x h := by
    obtain ⟨k, -, rfl⟩ := Finset.mem_map.mp h
    exact Prod.ext ((tgt k).symm_apply_apply c) (Subsingleton.elim _ _)

/-- A semaphore's invariant out of the family's. -/
theorem invOf (κ : GSem nD τ sig → ℕ) (c : Dev nD) (k : Duty) :
    fam.cellInvs ER (Rd X) κ ⊢ cellInv ER (Rd X) (κ (cell c k)) (cell c k) := by
  cases k with
  | kBar d => exact fam.cellInvs_bar ER (Rd X) κ c
  | kN k => exact fam.cellInvs_dorm ER (Rd X) κ c (j := 0) (Finset.mem_map_of_mem _ (Finset.mem_univ k))

/-- What stays with a device throughout the body: the invariants, the levels, and that its own semaphores are open. -/
def ctx (κ : GSem nD τ sig → ℕ) (c : Dev nD) : sProp 𝕄 :=
  iprop(fam.cellInvs ER (Rd X) κ ∗ levAts (SiteBlocks.L 16) SiteBlocks.lv ∗ bigSep Finset.univ fun k : NK => reached ER (cell c (kN k)) 0)

instance ctx_persistent (κ : GSem nD τ sig → ℕ) (c : Dev nD) : BI.Persistent (ctx X κ c) := by unfold ctx; infer_instance

theorem ctx_inv (κ : GSem nD τ sig → ℕ) (c c' : Dev nD) (k : Duty) :
    ctx X κ c ⊢ cellInv ER (Rd X) (κ (cell c' k)) (cell c' k) := by
  unfold ctx
  iintro ⟨#HI, -⟩
  iapply (invOf X κ c' k); iexact HI
theorem ctx_reached (κ : GSem nD τ sig → ℕ) (c : Dev nD) (k : NK) : ctx X κ c ⊢ reached ER (cell c (kN k)) 0 := by
  unfold ctx
  iintro ⟨-, -, #H⟩
  have h : (bigSep Finset.univ fun k : NK => reached ER (cell c (kN k)) 0) ⊢ (reached ER (cell c (kN k)) 0 : sProp 𝕄) :=
    bigSep_elim (Finset.mem_univ k)
  iapply h; iexact H

/-- The token of a duty the device pays; the credit with which it waits for a duty of its own; its place at a DMA
    semaphore of its own that it has still to wait for. -/
abbrev tok (c : Dev nD) (k : Duty) : sProp 𝕄 := dutyTok ER (cell (tgt k c) k) 0 k
abbrev crd (c : Dev nD) (k : Duty) : sProp 𝕄 := cred (tallyAt (cell c k) (ix k) (amt k))
abbrev hold (c : Dev nD) (k : NK) : sProp 𝕄 := atPos ER (cell c (kN k)) 0 ∅ 0
/-- A DMA semaphore of its own that it is done with. -/
abbrev done (c : Dev nD) (k : NK) : sProp 𝕄 := semVal (cell c (kN k)) 0

abbrev 𝒱₀ : Variants := Variants.none
/-- Running a program of the body on device `c`. -/
abbrev WP (c : Dev nD) (p : P F) (Q : PUnit → sProp (MT nD τ sig ℕ (Elt F) ℕ UU ℕ)) : sProp 𝕄 :=
  wp frame (wpE (defs₀ (F := F)) 𝒱₀ (c : Thread nD τ) none) Set.univ p Q

/-! ## The instructions in general -/

set_option maxHeartbeats 800000 in
/-- A wait for a DMA semaphore of the device's own: the payload comes back and the semaphore is done with. -/
theorem wp_waitN (κ : GSem nD τ sig → ℕ) (c : Dev nD) (k : NK) (l : List Duty) (hl : ∀ x ∈ l, ix (kN k) < ix x)
    {sp sp' : Space} {s s' : Shape} {e e' : EltTy} {src : Memref sig .tc sp' s' e'} {dst : Memref sig .tc sp s e}
    {hs : src.view.WordExact} {hd : dst.view.WordExact} (ha : dst.view.dmaCredit = amt (kN k)) (K : P F)
    (Q : PUnit → sProp (MT nD τ sig ℕ (Elt F) ℕ UU ℕ)) :
    iprop(ctx X κ c ∗ crd c (kN k) ∗ hold c k ∗ owing c l ∗ ((owing c l ∗ done c k ∗ payN X c k) -∗ WP c K Q))
      ⊢ WP c (.op (.waitDma2 (semN k) src dst hs hd) fun _ => K) Q := by
  unfold owing
  iintro ⟨#Hc, Hcr, Hat, ⟨%W, HO⟩, Hk⟩
  iapply (Rounds.wp_wait_rest_token 𝒱₀ ER (Rd X) (c : Thread nD τ) none (κ := κ (cell c (kN k)))
      (wpE_waitDma2_eq (src := src) (dst := dst) 𝒱₀ (c : Thread nD τ) none Set.univ) (Set.mem_univ _) (ix (kN k)) (O := owe c l) (W := W)
      (R := 0) (m := 0) (T := ∅) ((Nat.zero_add _).trans (ha.trans (expect_N X c k).symm))) $$ [Hcr HO Hat]
  · isplitr; · iapply (ctx_inv X κ c c (kN k)); iexact Hc
    isplitl [Hcr]; · rw [ha]; iexact Hcr
    isplitl [HO]; · iexact HO
    isplitr
    · iapply (mayWait c _ (ix (kN k)) (ix_lt _) l hl)
      unfold ctx; icases Hc with ⟨-, H, -⟩; iexact H
    iexact Hat
  iintro ⟨HO, Hat, -, Hpay⟩
  ihave Hp := (Entails.of_eq (rest_N X c k)) $$ Hpay
  imod (Rounds.cell_close ER (Rd X) (g := cell c (kN k)) (κ := κ (cell c (kN k))) (R := 0 + 1) (Set.mem_univ _) id
    (fun r hr => duties_later X _ r hr)) $$ [Hat] with Hv
  · isplitr; · iapply (ctx_inv X κ c c (kN k)); iexact Hc
    iexact Hat
  iapply Hk
  isplitl [HO]; · iexists _; iexact HO
  isplitl [Hv]; · iexact Hv
  iexact Hp

/-- Writing what a view reads of `g` makes the view's elements those of `g`. -/
theorem write_read {sp : Space} {s : Shape} {e : EltTy} (v : View sig .tc sp s e) (f g : v.ty.Contents (Elt F)) (w : s.Idx → Elt F e)
    (h : v.read (Elt F) g = w) : ∀ i ∈ v.set, v.write (Elt F) f w Finset.univ i = g i := fun i hi => by
  obtain ⟨x, -, rfl⟩ := Finset.mem_map.mp hi
  refine View.eq_of_read_eq ?_
  rw [View.read_write_univ, h]

set_option maxHeartbeats 800000 in
/-- A transfer to device `p`, paying the duty `k₁` at a semaphore of the device's own with the source and `k₂` at one of
    `p` with the destination, which then reads what the source does. -/
theorem wp_sendN (κ : GSem nD τ sig → ℕ) (c p : Dev nD) (k₁ k₂ : NK) (l : List Duty) (h₂ : tgt (kN k₂) c = p) (h₁ : tgt (kN k₁) c = c)
    {sp sp' : Space} {s : Shape} {e : EltTy} {src : Memref sig .tc sp s e} {dst : Memref sig .tc sp' s e}
    {hsc : dst.view.ref.isScScratch = false} {hs : src.view.WordExact} {hd : dst.view.WordExact}
    {hsem : DmaTarget.Typed sp (.dma (semN k₂)) (.remote (Dev.tc p) dst (.dma (semN k₁)) hsc)}
    {q : PosShare TreeShare} {fs : Buf (Elt F) (src.view.loc (c : Thread nD τ))} (g : Buf (Elt F) (dst.view.loc (p : Thread nD τ)))
    (ha : dst.view.dmaCredit = amt (kN k₂)) (ha' : amt (kN k₁) = amt (kN k₂))
    (hg : dst.view.read (Elt F) g = src.view.read (Elt F) fs)
    (hp₁ : (src.view.loc (c : Thread nD τ) ↦[src.view.set]{q} fs) ⊢ payN X c k₁)
    (hp₂ : (dst.view.loc (p : Thread nD τ) ↦[dst.view.set]{fullShare} g) ⊢ payN X p k₂) (K : P F)
    (Q : PUnit → sProp (MT nD τ sig ℕ (Elt F) ℕ UU ℕ)) :
    iprop(ctx X κ c ∗ (src.view.loc (c : Thread nD τ) ↦[src.view.set]{q} fs)
        ∗ (∃ fd, dst.view.loc (p : Thread nD τ) ↦[dst.view.set]{fullShare} fd)
        ∗ reached ER (cell p (kN k₂)) 0 ∗ tok c (kN k₁) ∗ tok c (kN k₂) ∗ owing c (kN k₂ :: l)
        ∗ ((crd c (kN k₁) ∗ owing c l) -∗ WP c K Q))
      ⊢ WP c (.op (.enqueueDma src (.remote (Dev.tc p) dst (.dma (semN k₁)) hsc) (.dma (semN k₂)) hs hd hsem) fun _ => K) Q := by
  subst h₂
  unfold owing crd tok
  rw [h₁]
  iintro ⟨#Hc, Hs, ⟨%fd, Hd⟩, #Hr, Ht1, Ht2, ⟨%W, HO⟩, Hk⟩
  iapply (Rounds.wp_send_pointsTo 𝒱₀ ER (Rd X) (c : Thread nD τ) none (c' := ((tgt (kN k₂) c : Dev nD) : Thread nD τ)) (src := src) (dst := dst)
      (sS := .dma (semN k₁)) (sem := .dma (semN k₂)) (q := q) (fs := fs) (κ₁ := κ (cell c (kN k₁))) (κ₂ := κ (cell (tgt (kN k₂) c) (kN k₂)))
      (r₁ := 0) (r₂ := 0) (d₁ := kN k₁) (d₂ := kN k₂) (fd := fd)
      (mem_duties X c (kN k₁)) (mem_duties X (tgt (kN k₂) c) (kN k₂)) (ix (kN k₂)) (ix (kN k₁)) (amt (kN k₂)) ha ha' rfl
      (owe c l) (owe_cons c (kN k₂) l) (W := W) hp₁
      (by rw [pointsTo_congr (write_read dst.view fd g _ hg)]; exact hp₂)) $$ [Hs Hd HO Ht1 Ht2]
  · isplitr; · iapply (ctx_inv X κ c c (kN k₁)); iexact Hc
    isplitr; · iapply (ctx_inv X κ c _ (kN k₂)); iexact Hc
    isplitl [Hs]; · iexact Hs
    isplitl [Hd]; · iexact Hd
    isplitl [HO]; · iexact HO
    isplitl [Ht1]; · iexact Ht1
    isplitr; · iapply (ctx_reached X κ c k₁); iexact Hc
    isplitl [Ht2]; · iexact Ht2
    iexact Hr
  iintro ⟨Hcr, HO⟩
  iapply Hk
  isplitl [Hcr]; · rw [ha']; iexact Hcr
  iexists W; iexact HO

set_option maxHeartbeats 800000 in
/-- A copy inside the device, paying the duty `k` at a semaphore of its own. -/
theorem wp_copyN (κ : GSem nD τ sig → ℕ) (c : Dev nD) (k : NK) (h₁ : tgt (kN k) c = c)
    {sp sp' : Space} {s : Shape} {e : EltTy} {src : Memref sig .tc sp s e} {dst : Memref sig .tc sp' s e}
    {hs : src.view.WordExact} {hd : dst.view.WordExact} {hsem : DmaTarget.Typed sp (.dma (semN k)) (.here dst : DmaTarget nD τ sig (.tc : Proc τ) sp' s e)}
    {q : PosShare TreeShare} {fs : Buf (Elt F) (src.view.loc (c : Thread nD τ))} (g : Buf (Elt F) (dst.view.loc (c : Thread nD τ)))
    (ha : dst.view.dmaCredit = amt (kN k)) (hg : dst.view.read (Elt F) g = src.view.read (Elt F) fs)
    (hp : iprop((dst.view.loc (c : Thread nD τ) ↦[dst.view.set]{fullShare} g) ∗ (src.view.loc (c : Thread nD τ) ↦[src.view.set]{q} fs))
      ⊢ payN X c k) (K : P F) (Q : PUnit → sProp (MT nD τ sig ℕ (Elt F) ℕ UU ℕ)) :
    iprop(ctx X κ c ∗ (src.view.loc (c : Thread nD τ) ↦[src.view.set]{q} fs)
        ∗ (∃ fd, dst.view.loc (c : Thread nD τ) ↦[dst.view.set]{fullShare} fd) ∗ tok c (kN k) ∗ (crd c (kN k) -∗ WP c K Q))
      ⊢ WP c (.op (.enqueueDma src (.here dst) (.dma (semN k)) hs hd hsem) fun _ => K) Q := by
  unfold crd tok
  rw [h₁]
  iintro ⟨#Hc, Hs, ⟨%fd, Hd⟩, Ht, Hk⟩
  iapply (Rounds.wp_copy_pointsTo 𝒱₀ ER (Rd X) (c : Thread nD τ) none (src := src) (dst := dst) (sem := .dma (semN k)) (q := q)
      (fs := fs) (fd := fd) (r := 0) (d := kN k) (κ := κ (cell c (kN k)))
      (mem_duties X c (kN k)) (ix (kN k)) (amt (kN k)) ha rfl
      (by rw [pointsTo_congr (write_read dst.view fd g _ hg)]; exact hp)) $$ [Hs Hd Ht]
  · isplitr; · iapply (ctx_inv X κ c c (kN k)); iexact Hc
    isplitl [Hs]; · iexact Hs
    isplitl [Hd]; · iexact Hd
    isplitl [Ht]; · iexact Ht
    iapply (ctx_reached X κ c k); iexact Hc
  iintro Hcr
  iapply Hk; iexact Hcr

/-- An instruction run over a list: each run spends its own `A i` and the common `O`, and leaves `B i`. -/
theorem seqs_step {I : Type} (C : sProp 𝕄) [BI.Persistent C] (c : Dev nD) (f : I → P F → P F) (A B : I → sProp 𝕄) (O : List I → sProp 𝕄)
    (Q : PUnit → sProp (MT nD τ sig ℕ (Elt F) ℕ UU ℕ))
    (step : ∀ i l k, iprop(C ∗ A i ∗ O (i :: l) ∗ ((B i ∗ O l) -∗ WP c k Q)) ⊢ WP c (f i k) Q) (k : P F) :
    ∀ l : List I, iprop(C ∗ bigSepL l A ∗ O l ∗ ((bigSepL l B ∗ O []) -∗ WP c k Q)) ⊢ WP c (seqs f l k) Q
  | [] => by
    iintro ⟨-, -, HO, Hk⟩
    iapply Hk
    isplitr; · iempintro
    iexact HO
  | i :: l => by
    rw [bigSepL_cons', bigSepL_cons']
    show _ ⊢ WP c (f i (seqs f l k)) Q
    iintro ⟨#HC, ⟨HA, HAl⟩, HO, Hk⟩
    iapply (step i l (seqs f l k))
    isplitr; · iexact HC
    isplitl [HA]; · iexact HA
    isplitl [HO]; · iexact HO
    iintro ⟨HB, HO⟩
    iapply (seqs_step C c f A B O Q step k l)
    isplitr; · iexact HC
    isplitl [HAl]; · iexact HAl
    isplitl [HO]; · iexact HO
    iintro ⟨HBl, HO⟩
    iapply Hk
    isplitl [HB HBl]
    · isplitl [HB] <;> iassumption
    iexact HO

end Cert.KernelIdeal.Own

end
-- ==== Proof.KernelIdeal.Moves.lean ====
/-
  The transfers and waits of the body, one lemma for each instruction of the flat sequence: the general rules of Steps.lean
  at the kernel's own buffers and named contents.
-/
module

public import proofs.«01_k».proof.Proof.KernelIdeal.Steps

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open NK Duty

variable {F : FTy → Type} [FloatOps F]

local notation "𝕄" => MT nD τ sig ℕ (Elt F) ℕ UU ℕ

variable (X : Dev nD → Arr F S512x8192)

/-! ## The views as shares of the buffers -/

theorem in_view (c : Dev nD) (q : PosShare TreeShare) (f : Arr F S512x8192) :
    (inM.view.loc (c : Thread nD τ) ↦[inM.view.set]{q} f : sProp 𝕄) = inM.view.loc (c : Thread nD τ) ↦{q} f :=
  congrArg (fun S : Finset S512x8192.Idx => (inM.view.loc (c : Thread nD τ) ↦[S]{q} f : sProp 𝕄)) (View.set_whole _)
theorem l_view (c : Dev nD) (q : PosShare TreeShare) (f : Arr F S512x8192) :
    (lM.view.loc (c : Thread nD τ) ↦[lM.view.set]{q} f : sProp 𝕄) = lM.view.loc (c : Thread nD τ) ↦{q} f :=
  congrArg (fun S : Finset S512x8192.Idx => (lM.view.loc (c : Thread nD τ) ↦[S]{q} f : sProp 𝕄)) (View.set_whole _)
theorem st_view (c : Dev nD) (q : PosShare TreeShare) (f : Arr F S2x512x1) :
    (stM.view.loc (c : Thread nD τ) ↦[stM.view.set]{q} f : sProp 𝕄) = stPt c q f :=
  congrArg (fun S : Finset S2x512x1.Idx => (stM.view.loc (c : Thread nD τ) ↦[S]{q} f : sProp 𝕄)) (View.set_whole _)
theorem sr_view (c : Dev nD) (d : Fin 3) (f : Arr F S3x2x512x1) :
    ((srSlot d).view.loc (c : Thread nD τ) ↦[(srSlot d).view.set]{fullShare} f : sProp 𝕄) = srPt c (srS d) f :=
  congrArg (fun S : Finset S3x2x512x1.Idx => srPt (F := F) c S f) (srSlot_set d)
theorem slot_view (c : Dev nD) (k : Fin 4) (s : Fin 16) (q : PosShare TreeShare) (f : Arr F S4x512x4096) :
    ((slot k s).view.loc (c : Thread nD τ) ↦[(slot k s).view.set]{q} f : sProp 𝕄) = ringPt c (slotS k s) q f :=
  congrArg (fun S : Finset S4x512x4096.Idx => ringPt (F := F) c S q f) (slot_set k s)
theorem slotW_view (c : Dev nD) (k : Fin 4) (q : PosShare TreeShare) (f : Arr F S4x512x4096) :
    ((slotW k).view.loc (c : Thread nD τ) ↦[(slotW k).view.set]{q} f : sProp 𝕄) = ringPt c (slotWS k) q f :=
  congrArg (fun S : Finset S4x512x4096.Idx => ringPt (F := F) c S q f) (slotW_set k)
theorem outZ_view (c b : Dev nD) (f : Arr F S512x32768) :
    ((outZ b).view.loc (c : Thread nD τ) ↦[(outZ b).view.set]{fullShare} f : sProp 𝕄) = outPt c (outZS b) f :=
  congrArg (fun S : Finset S512x32768.Idx => outPt (F := F) c S f) (outZ_set b)
theorem outW_view (c b : Dev nD) (h : Fin 3) (f : Arr F S512x32768) :
    ((outW b h).view.loc (c : Thread nD τ) ↦[(outW b h).view.set]{fullShare} f : sProp 𝕄) = outPt c (outWS b h) f :=
  congrArg (fun S : Finset S512x32768.Idx => outPt (F := F) c S f) (outW_set b h)
/-- The region of the partner's result that the device fills is the partner's own partner region. -/
theorem outC_set (c : Dev nD) (h : Fin 3) (s : Fin 16) : (outC c h s).view.set = outRS (across c) h s := by
  have e : k0_off2 c (BitVec.ofNat 32 h.val) (BitVec.ofNat 32 (256 * s.val))
      = k0_off4 (across c) (BitVec.ofNat 32 h.val) (BitVec.ofNat 32 (256 * s.val)) := by
    revert c h s; decide +kernel
  have congr : ∀ {o o' : Fin 2 → ℕ} (_ : o = o') (i : ∀ a, o a + S512x256.size a ≤ S512x32768.size a)
      (i' : ∀ a, o' a + S512x256.size a ≤ S512x32768.size a),
      (Rect.unit (s := S512x32768) o S512x256.size i).set = (Rect.unit (s := S512x32768) o' S512x256.size i').set :=
    fun e _ _ => by subst e; rfl
  exact (View.set_slice_whole _ _).trans (congr e _ _)
theorem outC_view (c b : Dev nD) (h : Fin 3) (s : Fin 16) (f : Arr F S512x32768) :
    ((outC c h s).view.loc (b : Thread nD τ) ↦[(outC c h s).view.set]{fullShare} f : sProp 𝕄) = outPt b (outRS (across c) h s) f :=
  congrArg (fun S : Finset S512x32768.Idx => outPt (F := F) b S f) (outC_set c h s)

variable (κ : GSem nD τ sig → ℕ) (c : Dev nD) (Q : PUnit → sProp (MT nD τ sig ℕ (Elt F) ℕ UU ℕ))

/-! ## Staging -/

theorem stage_step (l : List Duty) (hl : ∀ x ∈ l, 0 < ix x) (K : P F) :
    iprop(ctx X κ c ∗ inPt c (X c) ∗ (∃ f, lPt (F := F) c f) ∗ tok c (kN nIn) ∗ hold c nIn ∗ owing c l
        ∗ ((owing c l ∗ done c nIn ∗ inPt c (X c) ∗ lPt c (X c)) -∗ WP c K Q))
      ⊢ WP c (stageI K) Q := by
  iintro ⟨#Hc, Hi, ⟨%f, Hl⟩, Ht, Hh, HO, Hk⟩
  iapply (wp_copyN X κ c nIn rfl (src := inM) (dst := lM) (q := fullShare) (fs := X c) (X c) rfl rfl
    (by rw [in_view, l_view]; unfold payN; exact sep_comm.1))
  isplitr; · iexact Hc
  isplitl [Hi]; · rw [in_view]; iexact Hi
  isplitl [Hl]; · iexists f; rw [l_view]; iexact Hl
  isplitl [Ht]; · iexact Ht
  iintro Hcr
  iapply (wp_waitN X κ c nIn l hl (src := inM) (dst := lM) rfl)
  isplitr; · iexact Hc
  isplitl [Hcr]; · iexact Hcr
  isplitl [Hh]; · iexact Hh
  isplitl [HO]; · iexact HO
  unfold payN
  iexact Hk

/-! ## The statistics -/

theorem stSend_step (d : Fin 3) (l : List Duty) (K : P F) :
    iprop(ctx X κ c ∗ stPt c (Ring.shares3 fullShare d) (stFin X c) ∗ gapSt (F := F) (nxt c d.succ) d
        ∗ tok c (kN (nStS d)) ∗ tok c (kN (nStR d)) ∗ owing c (kN (nStR d) :: l)
        ∗ ((crd c (kN (nStS d)) ∗ owing c l) -∗ WP c K Q))
      ⊢ WP c (stSendI (nxt c d.succ) d K) Q := by
  unfold gapSt
  iintro ⟨#Hc, Hs, ⟨⟨%f, Hd⟩, #Hr⟩, Ht1, Ht2, HO, Hk⟩
  iapply (wp_sendN X κ c (nxt c d.succ) (nStS d) (nStR d) l rfl rfl (src := stM) (dst := srSlot d) (q := Ring.shares3 fullShare d)
    (fs := stFin X c) (srFin X (nxt c d.succ)) rfl rfl (carry_st X c d) (by rw [st_view]; exact .rfl) (by rw [sr_view]; exact .rfl))
  isplitr; · iexact Hc
  isplitl [Hs]; · rw [st_view]; iexact Hs
  isplitl [Hd]; · iexists f; rw [sr_view]; iexact Hd
  isplitr; · iexact Hr
  isplitl [Ht1]; · iexact Ht1
  isplitl [Ht2]; · iexact Ht2
  isplitl [HO]; · iexact HO
  iexact Hk

theorem stWait_step (d : Fin 3) (l : List Duty) (hl : ∀ x ∈ l, 2 < ix x) (K : P F) :
    iprop(ctx X κ c ∗ crd c (kN (nStS d)) ∗ hold c (nStS d) ∗ crd c (kN (nStR d)) ∗ hold c (nStR d) ∗ owing c l
        ∗ ((owing c l ∗ done c (nStS d) ∗ stPt c (Ring.shares3 fullShare d) (stFin X c) ∗ done c (nStR d) ∗ srPt c (srS d) (srFin X c)) -∗ WP c K Q))
      ⊢ WP c (stWaitI d K) Q := by
  iintro ⟨#Hc, Hcs, Hhs, Hcr, Hhr, HO, Hk⟩
  iapply (wp_waitN X κ c (nStS d) l (fun x hx => Nat.lt_of_le_of_lt (Nat.zero_le 2) (hl x hx)) (src := srSlot d) (dst := stM) rfl)
  isplitr; · iexact Hc
  isplitl [Hcs]; · iexact Hcs
  isplitl [Hhs]; · iexact Hhs
  isplitl [HO]; · iexact HO
  iintro ⟨HO, Hd1, Hp1⟩
  iapply (wp_waitN X κ c (nStR d) l hl (src := stM) (dst := srSlot d) rfl)
  isplitr; · iexact Hc
  isplitl [Hcr]; · iexact Hcr
  isplitl [Hhr]; · iexact Hhr
  isplitl [HO]; · iexact HO
  iintro ⟨HO, Hd2, Hp2⟩
  unfold payN
  iapply Hk
  isplitl [HO]; · iexact HO
  isplitl [Hd1]; · iexact Hd1
  isplitl [Hp1]; · iexact Hp1
  isplitl [Hd2]; · iexact Hd2
  iexact Hp2

/-! ## The ring -/

theorem ringSend_step (h : Fin 3) (s : Fin 16) (l : List Duty) (K : P F) :
    iprop(ctx X κ c ∗ (ringPt c (slotS h.castSucc s) qRing (ringFin X c) ∗ gapRing (F := F) (nxt c 1) (h, s)
          ∗ tok c (kN (nRgS h s)) ∗ tok c (kN (nRgR h s)))
        ∗ owing c (kN (nRgR h s) :: l) ∗ ((crd c (kN (nRgS h s)) ∗ owing c l) -∗ WP c K Q))
      ⊢ WP c (ringSendI (nxt c 1) h s K) Q := by
  unfold gapRing
  iintro ⟨#Hc, ⟨Hs, ⟨⟨%f, Hd⟩, #Hr⟩, Ht1, Ht2⟩, HO, Hk⟩
  iapply (wp_sendN X κ c (nxt c 1) (nRgS h s) (nRgR h s) l rfl rfl (src := slot h.castSucc s) (dst := slot h.succ s) (q := qRing)
    (fs := ringFin X c) (ringFin X (nxt c 1)) rfl rfl (carry_ring X c h s) (by rw [slot_view]; exact .rfl) (by rw [slot_view]; exact .rfl))
  isplitr; · iexact Hc
  isplitl [Hs]; · rw [slot_view]; iexact Hs
  isplitl [Hd]; · iexists f; rw [slot_view]; iexact Hd
  isplitr; · iexact Hr
  isplitl [Ht1]; · iexact Ht1
  isplitl [Ht2]; · iexact Ht2
  isplitl [HO]; · iexact HO
  iexact Hk

theorem ringRecv_step (h : Fin 3) (s : Fin 16) (l : List Duty) (hl : ∀ x ∈ l, 3 + h.val < ix x) (K : P F) :
    iprop(ctx X κ c ∗ (crd c (kN (nRgR h s)) ∗ hold c (nRgR h s)) ∗ owing c l
        ∗ ((owing c l ∗ done c (nRgR h s) ∗ ringPt c (slotS h.succ s) qRing (ringFin X c) ∗ ringPt c (slotS h.succ s) qCross (ringFin X c)
            ∗ ringPt c (slotS h.succ s) qOwn (ringFin X c)) -∗ WP c K Q))
      ⊢ WP c (ringRecvI h s K) Q := by
  iintro ⟨#Hc, ⟨Hcr, Hh⟩, HO, Hk⟩
  iapply (wp_waitN X κ c (nRgR h s) l hl (src := slot h.castSucc s) (dst := slot h.succ s) rfl)
  isplitr; · iexact Hc
  isplitl [Hcr]; · iexact Hcr
  isplitl [Hh]; · iexact Hh
  isplitl [HO]; · iexact HO
  iintro ⟨HO, Hd, Hp⟩
  unfold payN
  ihave Hp' := (Ring.pointsTo_thirds fullShare (ringFin X c)).1 $$ Hp
  iapply Hk
  isplitl [HO]; · iexact HO
  isplitl [Hd]; · iexact Hd
  iexact Hp'

theorem ringDrain_step (h : Fin 3) (l : List Duty) (hl : ∀ x ∈ l, 0 < ix x) (s : Fin 16) (K : P F) :
    iprop(ctx X κ c ∗ (crd c (kN (nRgS h s)) ∗ hold c (nRgS h s)) ∗ owing c l
        ∗ (((done c (nRgS h s) ∗ ringPt c (slotS h.castSucc s) qRing (ringFin X c)) ∗ owing c l) -∗ WP c K Q))
      ⊢ WP c (ringDrainI h s K) Q := by
  iintro ⟨#Hc, ⟨Hcr, Hh⟩, HO, Hk⟩
  iapply (wp_waitN X κ c (nRgS h s) l hl (src := slot h.succ s) (dst := slot h.castSucc s) rfl)
  isplitr; · iexact Hc
  isplitl [Hcr]; · iexact Hcr
  isplitl [Hh]; · iexact Hh
  isplitl [HO]; · iexact HO
  iintro ⟨HO, Hd, Hp⟩
  unfold payN
  iapply Hk
  isplitr [HO]
  · isplitl [Hd] <;> iassumption
  iexact HO

/-! ## The partner -/

theorem crossSend_step (h : Fin 3) (s : Fin 16) (l : List Duty) (K : P F) :
    iprop(ctx X κ c ∗ (ringPt c (slotS h.succ s) qCross (ringFin X c) ∗ gapOut (F := F) (across c) (h, s)
          ∗ tok c (kN (nCrS h s)) ∗ tok c (kN (nCrR h s)))
        ∗ owing c (kN (nCrR h s) :: l) ∗ ((crd c (kN (nCrS h s)) ∗ owing c l) -∗ WP c K Q))
      ⊢ WP c (crossSendI c (across c) h s K) Q := by
  unfold gapOut
  iintro ⟨#Hc, ⟨Hs, ⟨⟨%f, Hd⟩, #Hr⟩, Ht1, Ht2⟩, HO, Hk⟩
  iapply (wp_sendN X κ c (across c) (nCrS h s) (nCrR h s) l rfl rfl (src := slot h.succ s) (dst := outC c h s) (q := qCross)
    (fs := ringFin X c) (outFin X (across c)) rfl rfl (carry_cross X c h s) (by rw [slot_view]; exact .rfl) (by rw [outC_view]; exact .rfl))
  isplitr; · iexact Hc
  isplitl [Hs]; · rw [slot_view]; iexact Hs
  isplitl [Hd]; · iexists f; rw [outC_view]; iexact Hd
  isplitr; · iexact Hr
  isplitl [Ht1]; · iexact Ht1
  isplitl [Ht2]; · iexact Ht2
  isplitl [HO]; · iexact HO
  iexact Hk

theorem crossDrain_step (h : Fin 3) (l : List Duty) (hl : ∀ x ∈ l, 0 < ix x) (s : Fin 16) (K : P F) :
    iprop(ctx X κ c ∗ (crd c (kN (nCrS h s)) ∗ hold c (nCrS h s)) ∗ owing c l
        ∗ (((done c (nCrS h s) ∗ ringPt c (slotS h.succ s) qCross (ringFin X c)) ∗ owing c l) -∗ WP c K Q))
      ⊢ WP c (crossDrainI c h s K) Q := by
  iintro ⟨#Hc, ⟨Hcr, Hh⟩, HO, Hk⟩
  iapply (wp_waitN X κ c (nCrS h s) l hl (src := outC c h s) (dst := slot h.succ s) rfl)
  isplitr; · iexact Hc
  isplitl [Hcr]; · iexact Hcr
  isplitl [Hh]; · iexact Hh
  isplitl [HO]; · iexact HO
  iintro ⟨HO, Hd, Hp⟩
  unfold payN
  iapply Hk
  isplitr [HO]
  · isplitl [Hd] <;> iassumption
  iexact HO

theorem crossRecv_step (h : Fin 3) (l : List Duty) (hl : ∀ x ∈ l, 10 < ix x) (s : Fin 16) (K : P F) :
    iprop(ctx X κ c ∗ (crd c (kN (nCrR h s)) ∗ hold c (nCrR h s)) ∗ owing c l
        ∗ (((done c (nCrR h s) ∗ outPt c (outRS c h s) (outFin X c)) ∗ owing c l) -∗ WP c K Q))
      ⊢ WP c (crossRecvI c h s K) Q := by
  iintro ⟨#Hc, ⟨Hcr, Hh⟩, HO, Hk⟩
  iapply (wp_waitN X κ c (nCrR h s) l hl (src := slot h.succ s) (dst := outR c h s) rfl)
  isplitr; · iexact Hc
  isplitl [Hcr]; · iexact Hcr
  isplitl [Hh]; · iexact Hh
  isplitl [HO]; · iexact HO
  iintro ⟨HO, Hd, Hp⟩
  unfold payN
  iapply Hk
  isplitr [HO]
  · isplitl [Hd] <;> iassumption
  iexact HO

/-! ## The loops -/

/-- A step of a hop: the block received is split in three, sent on round the ring and across, a third kept for the own
    result. -/
theorem hop_step (h h' : Fin 3) (hh : h'.castSucc = h.succ) (s : Fin 16) (l : List Duty)
    (hl : ∀ x ∈ kN (nRgR h' s) :: kN (nCrR h s) :: l, 3 + h.val < ix x) (K : P F) :
    iprop(ctx X κ c ∗ ((crd c (kN (nRgR h s)) ∗ hold c (nRgR h s))
          ∗ (gapRing (F := F) (nxt c 1) (h', s) ∗ tok c (kN (nRgS h' s)) ∗ tok c (kN (nRgR h' s)))
          ∗ (gapOut (F := F) (across c) (h, s) ∗ tok c (kN (nCrS h s)) ∗ tok c (kN (nCrR h s))))
        ∗ owing c (kN (nRgR h' s) :: kN (nCrR h s) :: l)
        ∗ (((done c (nRgR h s) ∗ crd c (kN (nRgS h' s)) ∗ crd c (kN (nCrS h s)) ∗ ringPt c (slotS h.succ s) qOwn (ringFin X c)) ∗ owing c l)
            -∗ WP c K Q))
      ⊢ WP c (hopI c (nxt c 1) (across c) h h' s K) Q := by
  iintro ⟨#Hc, ⟨HR, Hg, Hx⟩, HO, Hk⟩
  iapply (ringRecv_step X κ c Q h s _ hl)
  isplitr; · iexact Hc
  isplitl [HR]; · iexact HR
  isplitl [HO]; · iexact HO
  iintro ⟨HO, Hd, H0, H1, H2⟩
  iapply (ringSend_step X κ c Q h' s)
  isplitr; · iexact Hc
  isplitl [H0 Hg]
  · rw [hh]; isplitl [H0] <;> iassumption
  isplitl [HO]; · iexact HO
  iintro ⟨Hc1, HO⟩
  iapply (crossSend_step X κ c Q h s)
  isplitr; · iexact Hc
  isplitl [H1 Hx]
  · isplitl [H1] <;> iassumption
  isplitl [HO]; · iexact HO
  iintro ⟨Hc2, HO⟩
  iapply Hk
  isplitr [HO]
  · isplitl [Hd]; · iexact Hd
    isplitl [Hc1]; · iexact Hc1
    isplitl [Hc2]; · iexact Hc2
    iexact H2
  iexact HO

/-- A step of the last hop. -/
theorem last_step (s : Fin 16) (l : List Duty) (hl : ∀ x ∈ kN (nCrR 2 s) :: l, 5 < ix x) (K : P F) :
    iprop(ctx X κ c ∗ ((crd c (kN (nRgR 2 s)) ∗ hold c (nRgR 2 s))
          ∗ (gapOut (F := F) (across c) (2, s) ∗ tok c (kN (nCrS 2 s)) ∗ tok c (kN (nCrR 2 s))))
        ∗ owing c (kN (nCrR 2 s) :: l)
        ∗ (((done c (nRgR 2 s) ∗ ringPt c (slotS 3 s) qRing (ringFin X c) ∗ crd c (kN (nCrS 2 s)) ∗ ringPt c (slotS 3 s) qOwn (ringFin X c))
            ∗ owing c l) -∗ WP c K Q))
      ⊢ WP c (lastI c (across c) 2 s K) Q := by
  iintro ⟨#Hc, ⟨HR, Hx⟩, HO, Hk⟩
  iapply (ringRecv_step X κ c Q 2 s _ hl)
  isplitr; · iexact Hc
  isplitl [HR]; · iexact HR
  isplitl [HO]; · iexact HO
  iintro ⟨HO, Hd, H0, H1, H2⟩
  iapply (crossSend_step X κ c Q 2 s)
  isplitr; · iexact Hc
  isplitl [H1 Hx]
  · isplitl [H1] <;> iassumption
  isplitl [HO]; · iexact HO
  iintro ⟨Hc2, HO⟩
  iapply Hk
  isplitr [HO]
  · isplitl [Hd]; · iexact Hd
    isplitl [H0]; · iexact H0
    isplitl [Hc2]; · iexact Hc2
    iexact H2
  iexact HO

/-! ## The copies into the own result -/

theorem amt_nOut (k : Fin 4) : amt (kN (nOut k)) = if k = 0 then lM.view.dmaCredit else (slotW 0).view.dmaCredit := rfl
theorem amt_outZ : lM.view.dmaCredit = amt (kN (nOut 0)) := by rw [amt_nOut, if_pos rfl]
theorem amt_outW (h : Fin 3) : (slotW 0).view.dmaCredit = amt (kN (nOut h.succ)) := by
  rw [amt_nOut, if_neg (Fin.succ_ne_zero h)]
theorem payN_outZ : payN X c (nOut 0) = iprop(outPt c (outZS c) (outFin X c) ∗ lPt c (lFin X c)) := rfl
theorem payN_outW (h : Fin 3) :
    payN X c (nOut h.succ) = iprop(outPt c (outWS c h) (outFin X c) ∗ ringPt c (slotWS h.succ) qOwn (ringFin X c)) := rfl

theorem outZ_step (K : P F) :
    iprop(ctx X κ c ∗ lPt c (lFin X c) ∗ (∃ f, outPt (F := F) c (outZS c) f) ∗ tok c (kN (nOut 0)) ∗ (crd c (kN (nOut 0)) -∗ WP c K Q))
      ⊢ WP c (outZI c K) Q := by
  iintro ⟨#Hc, Hl, ⟨%f, Ho⟩, Ht, Hk⟩
  iapply (wp_copyN X κ c (nOut 0) rfl (src := lM) (dst := outZ c) (q := fullShare) (fs := lFin X c) (outFin X c) amt_outZ (carry_outZ X c)
    (by rw [outZ_view, l_view, payN_outZ]))
  isplitr; · iexact Hc
  isplitl [Hl]; · rw [l_view]; iexact Hl
  isplitl [Ho]; · iexists f; rw [outZ_view]; iexact Ho
  isplitl [Ht]; · iexact Ht
  iexact Hk

theorem outW_step (h : Fin 3) (K : P F) :
    iprop(ctx X κ c ∗ ringPt c (slotWS h.succ) qOwn (ringFin X c) ∗ (∃ f, outPt (F := F) c (outWS c h) f) ∗ tok c (kN (nOut h.succ))
        ∗ (crd c (kN (nOut h.succ)) -∗ WP c K Q))
      ⊢ WP c (outWI c h K) Q := by
  iintro ⟨#Hc, Hl, ⟨%f, Ho⟩, Ht, Hk⟩
  iapply (wp_copyN X κ c (nOut h.succ) rfl (src := slotW h.succ) (dst := outW c h) (q := qOwn) (fs := ringFin X c) (outFin X c) (amt_outW h)
    (carry_outW X c h) (by rw [outW_view, slotW_view, payN_outW]))
  isplitr; · iexact Hc
  isplitl [Hl]; · rw [slotW_view]; iexact Hl
  isplitl [Ho]; · iexists f; rw [outW_view]; iexact Ho
  isplitl [Ht]; · iexact Ht
  iexact Hk

theorem outZWait_step (l : List Duty) (hl : ∀ x ∈ l, 0 < ix x) (K : P F) :
    iprop(ctx X κ c ∗ (crd c (kN (nOut 0)) ∗ hold c (nOut 0)) ∗ owing c l
        ∗ ((owing c l ∗ done c (nOut 0) ∗ outPt c (outZS c) (outFin X c) ∗ lPt c (lFin X c)) -∗ WP c K Q))
      ⊢ WP c (outZWaitI c K) Q := by
  iintro ⟨#Hc, ⟨Hcr, Hh⟩, HO, Hk⟩
  iapply (wp_waitN X κ c (nOut 0) l hl (src := lM) (dst := outZ c) amt_outZ)
  isplitr; · iexact Hc
  isplitl [Hcr]; · iexact Hcr
  isplitl [Hh]; · iexact Hh
  isplitl [HO]; · iexact HO
  rw [payN_outZ]
  iexact Hk

theorem outWWait_step (h : Fin 3) (l : List Duty) (hl : ∀ x ∈ l, 0 < ix x) (K : P F) :
    iprop(ctx X κ c ∗ (crd c (kN (nOut h.succ)) ∗ hold c (nOut h.succ)) ∗ owing c l
        ∗ ((owing c l ∗ done c (nOut h.succ) ∗ outPt c (outWS c h) (outFin X c) ∗ ringPt c (slotWS h.succ) qOwn (ringFin X c)) -∗ WP c K Q))
      ⊢ WP c (outWWaitI c h K) Q := by
  iintro ⟨#Hc, ⟨Hcr, Hh⟩, HO, Hk⟩
  iapply (wp_waitN X κ c (nOut h.succ) l hl (src := slotW h.succ) (dst := outW c h) (amt_outW h))
  isplitr; · iexact Hc
  isplitl [Hcr]; · iexact Hcr
  isplitl [Hh]; · iexact Hh
  isplitl [HO]; · iexact HO
  rw [payN_outW]
  iexact Hk

end Cert.KernelIdeal.Own

end
-- ==== Proof.KernelIdeal.Loops.lean ====
/-
  The barrier and the loops of the body, and the splitting of families over the semaphores into the loops' pieces.
-/
module

public import proofs.«01_k».proof.Proof.KernelIdeal.Moves

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open NK Duty

variable {F : FTy → Type} [FloatOps F]

local notation "𝕄" => MT nD τ sig ℕ (Elt F) ℕ UU ℕ

/-! ## Families -/

theorem bigSepL_both {I : Type} (A B : I → sProp 𝕄) :
    ∀ l : List I, bigSepL l (fun i => iprop(A i ∗ B i)) = iprop(bigSepL l A ∗ bigSepL l B)
  | [] => (equiv_iff.mp emp_sep).symm
  | i :: l => by
    rw [bigSepL_cons', bigSepL_cons', bigSepL_cons', bigSepL_both A B l]
    refine equiv_iff.mp ⟨?_, ?_⟩
    · show iprop((A i ∗ B i) ∗ bigSepL l A ∗ bigSepL l B) ⊢ iprop((A i ∗ bigSepL l A) ∗ B i ∗ bigSepL l B)
      exact sep_sep_sep_comm.1
    · show iprop((A i ∗ bigSepL l A) ∗ B i ∗ bigSepL l B) ⊢ iprop((A i ∗ B i) ∗ bigSepL l A ∗ bigSepL l B)
      exact sep_sep_sep_comm.1

theorem bigSepL_flat {I J : Type} (f : I → List J) (Φ : J → sProp 𝕄) :
    ∀ l : List I, bigSepL (l.flatMap f) Φ = bigSepL l fun i => bigSepL (f i) Φ
  | [] => rfl
  | i :: l => by rw [List.flatMap_cons, bigSepL_append, bigSepL_cons', bigSepL_flat f Φ l]

theorem bigSepL_map' {I J : Type} (f : I → J) (Φ : J → sProp 𝕄) :
    ∀ l : List I, bigSepL (l.map f) Φ = bigSepL l fun i => Φ (f i)
  | [] => rfl
  | i :: l => by rw [List.map_cons, bigSepL_cons', bigSepL_cons', bigSepL_map' f Φ l]

/-- A family over hops and blocks, hop by hop. -/
abbrev tri (Ψ : Fin 3 → Fin 16 → sProp (MT nD τ sig ℕ (Elt F) ℕ UU ℕ)) : sProp 𝕄 :=
  iprop((bigSepL all16 fun s => Ψ 0 s) ∗ (bigSepL all16 fun s => Ψ 1 s) ∗ (bigSepL all16 fun s => Ψ 2 s))

theorem bigSep_16 (Ψ : Fin 16 → sProp (MT nD τ sig ℕ (Elt F) ℕ UU ℕ)) : bigSep Finset.univ Ψ = bigSepL all16 Ψ :=
  bigSep_univ_eq_bigSepL all16 (by decide) (by decide) Ψ
theorem bigSep_4 (Ψ : Fin 4 → sProp (MT nD τ sig ℕ (Elt F) ℕ UU ℕ)) : bigSep Finset.univ Ψ = iprop(Ψ 0 ∗ Ψ 1 ∗ Ψ 2 ∗ Ψ 3) :=
  bigSep_univ_eq_bigSepL [0, 1, 2, 3] (by decide) (by decide) Ψ
theorem bigSep_HS (Ψ : HS → sProp (MT nD τ sig ℕ (Elt F) ℕ UU ℕ)) : bigSep Finset.univ Ψ = tri fun h s => Ψ (h, s) := by
  rw [bigSep_univ_prod, Ring.bigSep_fin3, bigSep_16, bigSep_16, bigSep_16]

/-- A family over the DMA semaphores. -/
theorem bigSep_NK (Φ : NK → sProp (MT nD τ sig ℕ (Elt F) ℕ UU ℕ)) :
    bigSep Finset.univ Φ
      = iprop((Φ nIn ∗ (Φ (nOut 0) ∗ Φ (nOut 1) ∗ Φ (nOut 2) ∗ Φ (nOut 3)) ∗ (Φ (nStS 0) ∗ Φ (nStS 1) ∗ Φ (nStS 2))
            ∗ (Φ (nStR 0) ∗ Φ (nStR 1) ∗ Φ (nStR 2)))
          ∗ ((tri fun h s => Φ (nRgS h s)) ∗ (tri fun h s => Φ (nRgR h s)))
          ∗ ((tri fun h s => Φ (nCrS h s)) ∗ (tri fun h s => Φ (nCrR h s)))) := by
  rw [bigSep_univ_equiv eNK, bigSep_univ_sum, bigSep_univ_sum, bigSep_univ_sum, bigSep_univ_sum, bigSep_univ_sum, bigSep_univ_sum,
    bigSep_univ_sum, bigSep_4, Ring.bigSep_fin3, Ring.bigSep_fin3, bigSep_HS, bigSep_HS, bigSep_HS, bigSep_HS,
    show (Finset.univ : Finset Unit) = {()} from rfl, bigSep_singleton]
  rfl
/-- A family over the duties. -/
theorem bigSep_Duty (Φ : Duty → sProp (MT nD τ sig ℕ (Elt F) ℕ UU ℕ)) :
    bigSep Finset.univ Φ
      = iprop((Φ (kBar 0) ∗ Φ (kBar 1) ∗ Φ (kBar 2) ∗ Φ (kBar 3)) ∗ bigSep Finset.univ fun k : NK => Φ (kN k)) := by
  rw [bigSep_univ_equiv eDuty, bigSep_univ_sum, bigSep_4]
  rfl

/-! ## The buffers in pieces -/

/-- A buffer's share on a set in disjoint pieces. -/
theorem pieces {ℓ : Loc nD τ sig} {T : Type} [Fintype T] (U : Finset (Idx ℓ)) (K : T → Finset (Idx ℓ)) (q : PosShare TreeShare)
    (f : Buf (Elt F) ℓ) (hU : ∀ i, i ∈ U ↔ ∃ t, i ∈ K t) (hd : ∀ t t', t ≠ t' → Disjoint (K t) (K t')) :
    (ℓ ↦[U]{q} f : sProp 𝕄) = bigSep Finset.univ fun t => ℓ ↦[K t]{q} f := by
  classical
  rw [← pointsTo_biUnion Finset.univ K (fun t _ t' _ h => hd t t' h)]
  congr 1
  ext i; rw [hU]; simp

theorem slotW_split (c : Dev nD) (k : Fin 4) (q : PosShare TreeShare) (f : Arr F S4x512x4096) :
    ringPt (F := F) c (slotWS k) q f = bigSepL all16 fun s => ringPt c (slotS k s) q f :=
  (pieces (ℓ := ringM.view.loc (c : Thread nD τ)) (slotWS k) (slotS k) q f
    (fun i => by rw [slotW_eq]; exact Finset.mem_biUnion.trans (by simp)) (fun s s' h => slot_disjoint k s s' h)).trans (bigSep_16 _)
theorem ring_split (c : Dev nD) (q : PosShare TreeShare) (f : Arr F S4x512x4096) :
    ringPt (F := F) c Finset.univ q f
      = iprop(ringPt c (slotWS 0) q f ∗ ringPt c (slotWS 1) q f ∗ ringPt c (slotWS 2) q f ∗ ringPt c (slotWS 3) q f) :=
  (pieces (ℓ := ringM.view.loc (c : Thread nD τ)) Finset.univ slotWS q f
    (fun i => (Finset.ext_iff.mp ring_eq i).trans (Finset.mem_biUnion.trans (by simp))) (fun k k' h => slotW_disjoint k k' h)).trans (bigSep_4 _)
theorem sr_split (c : Dev nD) (f : Arr F S3x2x512x1) :
    srPt (F := F) c Finset.univ f = iprop(srPt c (srS 0) f ∗ srPt c (srS 1) f ∗ srPt c (srS 2) f) :=
  (pieces (ℓ := srM.view.loc (c : Thread nD τ)) Finset.univ srS fullShare f
    (fun i => (Finset.ext_iff.mp sr_eq i).trans (Finset.mem_biUnion.trans (by simp))) (fun k k' h => srSlot_disjoint k k' h)).trans
    (Ring.bigSep_fin3 _)
theorem out_split (c : Dev nD) (f : Arr F S512x32768) :
    outPt (F := F) c Finset.univ f
      = iprop(outPt c (outZS c) f ∗ (outPt c (outWS c 0) f ∗ outPt c (outWS c 1) f ∗ outPt c (outWS c 2) f)
          ∗ tri fun h s => outPt c (outRS c h s) f) := by
  refine (pieces (ℓ := outM.view.loc (c : Thread nD τ)) Finset.univ (part c) fullShare f
    (fun i => (Finset.ext_iff.mp (out_eq c) i).trans (Finset.mem_biUnion.trans (by simp))) (fun k k' h => part_disjoint c k k' h)).trans ?_
  rw [bigSep_univ_sum, bigSep_univ_sum, Ring.bigSep_fin3, bigSep_HS, show (Finset.univ : Finset Unit) = {()} from rfl, bigSep_singleton]
  rfl

variable (X : Dev nD → Arr F S512x8192)
variable (κ : GSem nD τ sig → ℕ) (c : Dev nD) (Q : PUnit → sProp (MT nD τ sig ℕ (Elt F) ℕ UU ℕ))

/-! ## The barrier -/

/-- A signal, paying a duty of another device's barrier. -/
theorem sig_step (d : Fin 4) (p : Dev nD) (hp : tgt (kBar d) c = p) (l : List Duty) (K : P F) :
    iprop(ctx X κ c ∗ reached ER (cell p (kBar d)) 0 ∗ tok c (kBar d) ∗ payBar p d ∗ owing c (kBar d :: l)
        ∗ (owing c l -∗ WP c K Q))
      ⊢ WP c (sigI p K) Q := by
  subst hp
  unfold owing tok
  rw [show payBar (tgt (kBar d) c) d = (Rd X).payload (cell (tgt (kBar d) c) (kBar d)) 0 (kBar d) from rfl]
  iintro ⟨#Hc, #Hr, Ht, Hp, ⟨%W, HO⟩, Hk⟩
  iapply (Rounds.wp_signal 𝒱₀ ER (Rd X) (c : Thread nD τ) none (dst := ((tgt (kBar d) c : Dev nD) : Thread nD τ)) (sem := barrier0) (r := 0)
      (d := kBar d) (κ := κ (cell (tgt (kBar d) c) (kBar d))) (k' := 1) (mem_duties X (tgt (kBar d) c) (kBar d)) rfl (ix (kBar d))
      (owe c l) (owe_cons c (kBar d) l) (W := W)) $$ [HO Ht Hp]
  · isplitr; · iapply (ctx_inv X κ c _ (kBar d)); iexact Hc
    isplitl [HO]; · iexact HO
    isplitl [Ht]; · iexact Ht
    isplitl [Hp]; · iexact Hp
    iexact Hr
  iintro HO
  iapply Hk
  iexists W; iexact HO

/-- The credits of the four signals are the wait's. -/
theorem bar_credit :
    iprop(crd (F := F) c (kBar 0) ∗ crd c (kBar 1) ∗ crd c (kBar 2) ∗ crd c (kBar 3)) ⊢ cred (tallyAt (cell c (kBar 0)) 1 4) := by
  have e : (tallyAt (cell c (kBar 0)) 1 4 : CellTallies nD τ sig ℕ)
      = tallyAt (cell c (kBar 0)) 1 1 + (tallyAt (cell c (kBar 0)) 1 1 + (tallyAt (cell c (kBar 0)) 1 1 + tallyAt (cell c (kBar 0)) 1 1)) := by
    rw [tallyAt_add, tallyAt_add, tallyAt_add]
  rw [e]
  exact (sep_mono_right ((sep_mono_right (cred_add _ _).2).trans (cred_add _ _).2)).trans (cred_add _ _).2

theorem barWait_step (l : List Duty) (hl : ∀ x ∈ l, 1 < ix x) (K : P F) :
    iprop(ctx X κ c ∗ (crd c (kBar 0) ∗ crd c (kBar 1) ∗ crd c (kBar 2) ∗ crd c (kBar 3)) ∗ atPos ER (cell c (kBar 0)) 0 ∅ 0 ∗ owing c l
        ∗ ((owing c l ∗ semVal (cell c (kBar 0)) 0 ∗ payBar c 0 ∗ payBar c 1 ∗ payBar c 2 ∗ payBar c 3) -∗ WP c K Q))
      ⊢ WP c (barWaitI K) Q := by
  unfold owing
  iintro ⟨#Hc, Hcr, Hat, ⟨%W, HO⟩, Hk⟩
  ihave Hcr := (bar_credit c) $$ Hcr
  iapply (Rounds.wp_wait_rest_token 𝒱₀ ER (Rd X) (c : Thread nD τ) none (κ := κ (cell c (kBar 0))) (k' := 4)
      (wpE_semWait_eq 𝒱₀ (c : Thread nD τ) none Set.univ) (Set.mem_univ _) 1 (O := owe c l) (W := W)
      (R := 0) (m := 0) (T := ∅) ((Nat.zero_add _).trans (expect_bar X c 0).symm)) $$ [Hcr HO Hat]
  · isplitr; · iapply (ctx_inv X κ c c (kBar 0)); iexact Hc
    isplitl [Hcr]; · iexact Hcr
    isplitl [HO]; · iexact HO
    isplitr
    · iapply (mayWait c _ 1 (by decide) l hl)
      unfold ctx; icases Hc with ⟨-, H, -⟩; iexact H
    iexact Hat
  iintro ⟨HO, Hat, -, Hpay⟩
  ihave Hp := (Entails.of_eq (rest_bar X c 0)) $$ Hpay
  imod (Rounds.cell_close ER (Rd X) (g := cell c (kBar 0)) (κ := κ (cell c (kBar 0))) (R := 0 + 1) (Set.mem_univ _) id
    (fun r hr => duties_later X _ r hr)) $$ [Hat] with Hv
  · isplitr; · iapply (ctx_inv X κ c c (kBar 0)); iexact Hc
    iexact Hat
  iapply Hk
  isplitl [HO]; · iexists _; iexact HO
  isplitl [Hv]; · iexact Hv
  iexact Hp

/-! ## The loops -/

theorem lo_flat (n : ℕ) (h h' : Fin 3) (hn : n < 3 + h'.val) (hn' : n < 10) (l : List (Fin 16)) :
    ∀ x ∈ l.flatMap (fun s => [kN (nRgR h' s), kN (nCrR h s)]), n < ix x := fun x hx => by
  obtain ⟨s, -, hs⟩ := List.mem_flatMap.mp hx
  rcases List.mem_cons.mp hs with rfl | hs
  · exact hn
  · rw [List.mem_singleton.mp hs]; exact hn'
theorem lo_append (n : ℕ) {l l' : List Duty} (h : ∀ x ∈ l, n < ix x) (h' : ∀ x ∈ l', n < ix x) : ∀ x ∈ l ++ l', n < ix x :=
  fun x hx => (List.mem_append.mp hx).elim (h x) (h' x)
theorem lo_map (n : ℕ) (f : Fin 16 → Duty) (hf : ∀ s, n < ix (f s)) (l : List (Fin 16)) : ∀ x ∈ l.map f, n < ix x := fun x hx => by
  obtain ⟨s, -, rfl⟩ := List.mem_map.mp hx
  exact hf s

/-- The first sends round the ring. -/
theorem ring0_loop (rest : List Duty) (K : P F) :
    iprop(ctx X κ c ∗ (bigSepL all16 fun s => iprop(ringPt c (slotS (Fin.castSucc (0 : Fin 3)) s) qRing (ringFin X c) ∗ gapRing (F := F) (nxt c 1) (0, s)
          ∗ tok c (kN (nRgS 0 s)) ∗ tok c (kN (nRgR 0 s))))
        ∗ owing c (dueRing0 ++ rest)
        ∗ (((bigSepL all16 fun s => crd c (kN (nRgS 0 s))) ∗ owing c rest) -∗ WP c K Q))
      ⊢ WP c (seqs (ringSendI (nxt c 1) 0) all16 K) Q :=
  seqs_step (ctx X κ c) c (ringSendI (nxt c 1) 0) _ (fun s => crd c (kN (nRgS 0 s)))
    (fun l => owing c (l.map (fun s => kN (nRgR 0 s)) ++ rest)) Q
    (fun s l K => ringSend_step X κ c Q 0 s (l.map (fun s => kN (nRgR 0 s)) ++ rest) K) K all16

/-- A hop. -/
theorem hop_loop (h h' : Fin 3) (hh : h'.castSucc = h.succ) (hlt : h.val < h'.val) (rest : List Duty) (hr : ∀ x ∈ rest, 3 + h.val < ix x) (K : P F) :
    iprop(ctx X κ c ∗ (bigSepL all16 fun s => iprop((crd c (kN (nRgR h s)) ∗ hold c (nRgR h s))
          ∗ (gapRing (F := F) (nxt c 1) (h', s) ∗ tok c (kN (nRgS h' s)) ∗ tok c (kN (nRgR h' s)))
          ∗ (gapOut (F := F) (across c) (h, s) ∗ tok c (kN (nCrS h s)) ∗ tok c (kN (nCrR h s)))))
        ∗ owing c (dueHop h h' ++ rest)
        ∗ (((bigSepL all16 fun s => iprop(done c (nRgR h s) ∗ crd c (kN (nRgS h' s)) ∗ crd c (kN (nCrS h s)) ∗ ringPt c (slotS h.succ s) qOwn (ringFin X c)))
            ∗ owing c rest) -∗ WP c K Q))
      ⊢ WP c (seqs (hopI c (nxt c 1) (across c) h h') all16 K) Q :=
  seqs_step (ctx X κ c) c (hopI c (nxt c 1) (across c) h h') _
    (fun s => iprop(done c (nRgR h s) ∗ crd c (kN (nRgS h' s)) ∗ crd c (kN (nCrS h s)) ∗ ringPt c (slotS h.succ s) qOwn (ringFin X c)))
    (fun l => owing c (l.flatMap (fun s => [kN (nRgR h' s), kN (nCrR h s)]) ++ rest)) Q
    (fun s l K => hop_step X κ c Q h h' hh s (l.flatMap (fun s => [kN (nRgR h' s), kN (nCrR h s)]) ++ rest)
      (lo_append _ (lo_flat (3 + h.val) h h' (by omega) (by omega) (s :: l)) hr) K) K all16

/-- The last hop. -/
theorem last_loop (K : P F) :
    iprop(ctx X κ c ∗ (bigSepL all16 fun s => iprop((crd c (kN (nRgR 2 s)) ∗ hold c (nRgR 2 s))
          ∗ (gapOut (F := F) (across c) (2, s) ∗ tok c (kN (nCrS 2 s)) ∗ tok c (kN (nCrR 2 s)))))
        ∗ owing c dueLast
        ∗ (((bigSepL all16 fun s => iprop(done c (nRgR 2 s) ∗ ringPt c (slotS 3 s) qRing (ringFin X c) ∗ crd c (kN (nCrS 2 s)) ∗ ringPt c (slotS 3 s) qOwn (ringFin X c)))
            ∗ owing c []) -∗ WP c K Q))
      ⊢ WP c (seqs (lastI c (across c) 2) all16 K) Q :=
  seqs_step (ctx X κ c) c (lastI c (across c) 2) _
    (fun s => iprop(done c (nRgR 2 s) ∗ ringPt c (slotS 3 s) qRing (ringFin X c) ∗ crd c (kN (nCrS 2 s)) ∗ ringPt c (slotS 3 s) qOwn (ringFin X c)))
    (fun l => owing c (l.map (fun s => kN (nCrR 2 s)))) Q
    (fun s l K => last_step X κ c Q s (l.map (fun s => kN (nCrR 2 s))) (lo_map 5 (fun s => kN (nCrR 2 s)) (fun _ => (by decide : 5 < 10)) (s :: l)) K) K all16

/-- The drains, once nothing is owed. -/
theorem ringDrain_loop (h : Fin 3) (K : P F) :
    iprop(ctx X κ c ∗ (bigSepL all16 fun s => iprop(crd c (kN (nRgS h s)) ∗ hold c (nRgS h s))) ∗ owing c []
        ∗ (((bigSepL all16 fun s => iprop(done c (nRgS h s) ∗ ringPt c (slotS h.castSucc s) qRing (ringFin X c))) ∗ owing c []) -∗ WP c K Q))
      ⊢ WP c (seqs (ringDrainI h) all16 K) Q :=
  seqs_step (ctx X κ c) c (ringDrainI h) _ _ (fun _ => owing c []) Q
    (fun s _ K => ringDrain_step X κ c Q h [] (fun _ hx => absurd hx List.not_mem_nil) s K) K all16
theorem crossDrain_loop (h : Fin 3) (K : P F) :
    iprop(ctx X κ c ∗ (bigSepL all16 fun s => iprop(crd c (kN (nCrS h s)) ∗ hold c (nCrS h s))) ∗ owing c []
        ∗ (((bigSepL all16 fun s => iprop(done c (nCrS h s) ∗ ringPt c (slotS h.succ s) qCross (ringFin X c))) ∗ owing c []) -∗ WP c K Q))
      ⊢ WP c (seqs (crossDrainI c h) all16 K) Q :=
  seqs_step (ctx X κ c) c (crossDrainI c h) _ _ (fun _ => owing c []) Q
    (fun s _ K => crossDrain_step X κ c Q h [] (fun _ hx => absurd hx List.not_mem_nil) s K) K all16
theorem crossRecv_loop (h : Fin 3) (K : P F) :
    iprop(ctx X κ c ∗ (bigSepL all16 fun s => iprop(crd c (kN (nCrR h s)) ∗ hold c (nCrR h s))) ∗ owing c []
        ∗ (((bigSepL all16 fun s => iprop(done c (nCrR h s) ∗ outPt c (outRS c h s) (outFin X c))) ∗ owing c []) -∗ WP c K Q))
      ⊢ WP c (seqs (crossRecvI c h) all16 K) Q :=
  seqs_step (ctx X κ c) c (crossRecvI c h) _ _ (fun _ => owing c []) Q
    (fun s _ K => crossRecv_step X κ c Q h [] (fun _ hx => absurd hx List.not_mem_nil) s K) K all16

end Cert.KernelIdeal.Own

end
-- ==== Proof.KernelIdeal.Hops.lean ====
/-
  The part of the body that forwards the blocks: the loops with their resources family by family, and the part as a whole.
-/
module

public import proofs.«01_k».proof.Proof.KernelIdeal.Loops

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open NK Duty

variable {F : FTy → Type} [FloatOps F]

local notation "𝕄" => MT nD τ sig ℕ (Elt F) ℕ UU ℕ

variable (X : Dev nD → Arr F S512x8192)
variable (κ : GSem nD τ sig → ℕ) (c : Dev nD) (Q : PUnit → sProp (MT nD τ sig ℕ (Elt F) ℕ UU ℕ))

/-! ## The loops, family by family -/

/-- The first sends, from the whole of slot 0. -/
theorem ring0_all (rest : List Duty) (K : P F) :
    iprop(ctx X κ c ∗ (ringPt c (slotWS 0) qRing (ringFin X c) ∗ (bigSepL all16 fun s => gapRing (F := F) (nxt c 1) (0, s))
          ∗ (bigSepL all16 fun s => tok c (kN (nRgS 0 s))) ∗ (bigSepL all16 fun s => tok c (kN (nRgR 0 s))))
        ∗ owing c (dueRing0 ++ rest)
        ∗ (((bigSepL all16 fun s => crd c (kN (nRgS 0 s))) ∗ owing c rest) -∗ WP c K Q))
      ⊢ WP c (seqs (ringSendI (nxt c 1) 0) all16 K) Q := by
  have h := ring0_loop X κ c Q rest K
  simp only [bigSepL_both] at h
  rw [← slotW_split] at h
  exact h

/-- A hop; the blocks that arrive leave their share for the copy into the own result. -/
theorem hop_all (h h' : Fin 3) (hh : h'.castSucc = h.succ) (hlt : h.val < h'.val) (rest : List Duty) (hr : ∀ x ∈ rest, 3 + h.val < ix x) (K : P F) :
    iprop(ctx X κ c ∗ (((bigSepL all16 fun s => crd c (kN (nRgR h s))) ∗ (bigSepL all16 fun s => hold c (nRgR h s)))
          ∗ ((bigSepL all16 fun s => gapRing (F := F) (nxt c 1) (h', s)) ∗ (bigSepL all16 fun s => tok c (kN (nRgS h' s)))
            ∗ (bigSepL all16 fun s => tok c (kN (nRgR h' s))))
          ∗ ((bigSepL all16 fun s => gapOut (F := F) (across c) (h, s)) ∗ (bigSepL all16 fun s => tok c (kN (nCrS h s)))
            ∗ (bigSepL all16 fun s => tok c (kN (nCrR h s)))))
        ∗ owing c (dueHop h h' ++ rest)
        ∗ ((((bigSepL all16 fun s => done c (nRgR h s)) ∗ (bigSepL all16 fun s => crd c (kN (nRgS h' s)))
              ∗ (bigSepL all16 fun s => crd c (kN (nCrS h s))) ∗ ringPt c (slotWS h.succ) qOwn (ringFin X c))
            ∗ owing c rest) -∗ WP c K Q))
      ⊢ WP c (seqs (hopI c (nxt c 1) (across c) h h') all16 K) Q := by
  have h := hop_loop X κ c Q h h' hh hlt rest hr K
  simp only [bigSepL_both] at h
  rw [← slotW_split] at h
  exact h

/-- The last hop, whose blocks go no further round the ring. -/
theorem last_all (K : P F) :
    iprop(ctx X κ c ∗ (((bigSepL all16 fun s => crd c (kN (nRgR 2 s))) ∗ (bigSepL all16 fun s => hold c (nRgR 2 s)))
          ∗ ((bigSepL all16 fun s => gapOut (F := F) (across c) (2, s)) ∗ (bigSepL all16 fun s => tok c (kN (nCrS 2 s)))
            ∗ (bigSepL all16 fun s => tok c (kN (nCrR 2 s)))))
        ∗ owing c dueLast
        ∗ ((((bigSepL all16 fun s => done c (nRgR 2 s)) ∗ ringPt c (slotWS 3) qRing (ringFin X c) ∗ (bigSepL all16 fun s => crd c (kN (nCrS 2 s)))
              ∗ ringPt c (slotWS 3) qOwn (ringFin X c))
            ∗ owing c []) -∗ WP c K Q))
      ⊢ WP c (seqs (lastI c (across c) 2) all16 K) Q := by
  have h := last_loop X κ c Q K
  simp only [bigSepL_both] at h
  rw [← slotW_split, ← slotW_split] at h
  exact h

/-- The drains. -/
theorem ringDrain_all (h : Fin 3) (K : P F) :
    iprop(ctx X κ c ∗ ((bigSepL all16 fun s => crd c (kN (nRgS h s))) ∗ (bigSepL all16 fun s => hold c (nRgS h s))) ∗ owing c []
        ∗ ((((bigSepL all16 fun s => done c (nRgS h s)) ∗ ringPt c (slotWS h.castSucc) qRing (ringFin X c)) ∗ owing c []) -∗ WP c K Q))
      ⊢ WP c (seqs (ringDrainI h) all16 K) Q := by
  have h := ringDrain_loop X κ c Q h K
  simp only [bigSepL_both] at h
  rw [← slotW_split] at h
  exact h
theorem crossDrain_all (h : Fin 3) (K : P F) :
    iprop(ctx X κ c ∗ ((bigSepL all16 fun s => crd c (kN (nCrS h s))) ∗ (bigSepL all16 fun s => hold c (nCrS h s))) ∗ owing c []
        ∗ ((((bigSepL all16 fun s => done c (nCrS h s)) ∗ ringPt c (slotWS h.succ) qCross (ringFin X c)) ∗ owing c []) -∗ WP c K Q))
      ⊢ WP c (seqs (crossDrainI c h) all16 K) Q := by
  have h := crossDrain_loop X κ c Q h K
  simp only [bigSepL_both] at h
  rw [← slotW_split] at h
  exact h
theorem crossRecv_all (h : Fin 3) (K : P F) :
    iprop(ctx X κ c ∗ ((bigSepL all16 fun s => crd c (kN (nCrR h s))) ∗ (bigSepL all16 fun s => hold c (nCrR h s))) ∗ owing c []
        ∗ ((((bigSepL all16 fun s => done c (nCrR h s)) ∗ (bigSepL all16 fun s => outPt c (outRS c h s) (outFin X c))) ∗ owing c []) -∗ WP c K Q))
      ⊢ WP c (seqs (crossRecvI c h) all16 K) Q := by
  have h := crossRecv_loop X κ c Q h K
  simp only [bigSepL_both] at h
  exact h

/-- The end of the body. -/
theorem ret_step : Q ⟨⟩ ⊢ WP (F := F) c (Prog.ret ⟨⟩) Q := fupd_intro

/-! ## The ring slots in shares -/

/-- A ring slot in its three shares. -/
theorem slotW_thirds (k : Fin 4) (f : Arr F S4x512x4096) :
    ringPt (F := F) c (slotWS k) fullShare f
      = iprop(ringPt c (slotWS k) qRing f ∗ ringPt c (slotWS k) qCross f ∗ ringPt c (slotWS k) qOwn f) :=
  have h : ringPt (F := F) c (slotWS k) fullShare f
      ⊣⊢ iprop(ringPt c (slotWS k) qRing f ∗ ringPt c (slotWS k) qCross f ∗ ringPt c (slotWS k) qOwn f) := Ring.pointsTo_thirds fullShare _
  equiv_iff.mp ⟨h.1, h.2⟩

/-- The whole ring, out of the three shares of each slot. -/
theorem ring_join :
    iprop((ringPt c (slotWS 0) qRing (ringFin X c) ∗ ringPt c (slotWS 0) qCross (ringFin X c) ∗ ringPt c (slotWS 0) qOwn (ringFin X c))
        ∗ (ringPt c (slotWS 1) qRing (ringFin X c) ∗ ringPt c (slotWS 1) qCross (ringFin X c) ∗ ringPt c (slotWS 1) qOwn (ringFin X c))
        ∗ (ringPt c (slotWS 2) qRing (ringFin X c) ∗ ringPt c (slotWS 2) qCross (ringFin X c) ∗ ringPt c (slotWS 2) qOwn (ringFin X c))
        ∗ (ringPt c (slotWS 3) qRing (ringFin X c) ∗ ringPt c (slotWS 3) qCross (ringFin X c) ∗ ringPt c (slotWS 3) qOwn (ringFin X c)))
      ⊢ ringPt c Finset.univ fullShare (ringFin X c) := by
  rw [ring_split, slotW_thirds, slotW_thirds, slotW_thirds, slotW_thirds]

/-! ## The drains together -/

/-- What the last part waits for. -/
abbrev waits (c : Dev nD) (k : NK) : sProp 𝕄 := iprop(crd (F := F) c (kN k) ∗ hold c k)

theorem nil_lo (n : ℕ) : ∀ x ∈ ([] : List Duty), n < ix x := fun _ h => absurd h List.not_mem_nil

theorem drains_step :
    iprop(ctx X κ c
        ∗ ((tri fun h s => crd (F := F) c (kN (nRgS h s))) ∗ (tri fun h s => hold (F := F) c (nRgS h s)))
        ∗ ((tri fun h s => crd (F := F) c (kN (nCrS h s))) ∗ (tri fun h s => hold (F := F) c (nCrS h s)))
        ∗ ((tri fun h s => crd (F := F) c (kN (nCrR h s))) ∗ (tri fun h s => hold (F := F) c (nCrR h s)))
        ∗ (waits (F := F) c (nOut 0) ∗ waits (F := F) c (nOut 1) ∗ waits (F := F) c (nOut 2) ∗ waits (F := F) c (nOut 3))
        ∗ (ringPt c (slotWS 0) qCross (ringFin X c) ∗ ringPt c (slotWS 0) qOwn (ringFin X c) ∗ ringPt c (slotWS 3) qRing (ringFin X c))
        ∗ owing c []
        ∗ (((tri fun h s => done (F := F) c (nRgS h s)) ∗ (tri fun h s => done (F := F) c (nCrS h s)) ∗ (tri fun h s => done (F := F) c (nCrR h s))
            ∗ (done (F := F) c (nOut 0) ∗ done c (nOut 1) ∗ done c (nOut 2) ∗ done c (nOut 3))
            ∗ ringPt c Finset.univ fullShare (ringFin X c) ∗ outPt c Finset.univ (outFin X c) ∗ lPt c (lFin X c) ∗ owing c []) -∗ Q ⟨⟩))
      ⊢ WP c (drains c) Q := by
  unfold drains
  iintro ⟨#Hc, ⟨⟨Ca0, Ca1, Ca2⟩, ⟨Ha0, Ha1, Ha2⟩⟩, ⟨⟨Cb0, Cb1, Cb2⟩, ⟨Hb0, Hb1, Hb2⟩⟩, ⟨⟨Cc0, Cc1, Cc2⟩, ⟨Hc0, Hc1, Hc2⟩⟩,
    ⟨W0, W1, W2, W3⟩, ⟨R0c, R0o, R3r⟩, HO, Hk⟩
  iapply (ringDrain_all X κ c Q 0)
  isplitr; · iexact Hc
  isplitl [Ca0 Ha0]; · isplitl [Ca0] <;> iassumption
  isplitl [HO]; · iexact HO
  iintro ⟨⟨Da0, R0r⟩, HO⟩
  iapply (ringDrain_all X κ c Q 1)
  isplitr; · iexact Hc
  isplitl [Ca1 Ha1]; · isplitl [Ca1] <;> iassumption
  isplitl [HO]; · iexact HO
  iintro ⟨⟨Da1, R1r⟩, HO⟩
  iapply (ringDrain_all X κ c Q 2)
  isplitr; · iexact Hc
  isplitl [Ca2 Ha2]; · isplitl [Ca2] <;> iassumption
  isplitl [HO]; · iexact HO
  iintro ⟨⟨Da2, R2r⟩, HO⟩
  iapply (crossDrain_all X κ c Q 0)
  isplitr; · iexact Hc
  isplitl [Cb0 Hb0]; · isplitl [Cb0] <;> iassumption
  isplitl [HO]; · iexact HO
  iintro ⟨⟨Db0, R1c⟩, HO⟩
  iapply (crossDrain_all X κ c Q 1)
  isplitr; · iexact Hc
  isplitl [Cb1 Hb1]; · isplitl [Cb1] <;> iassumption
  isplitl [HO]; · iexact HO
  iintro ⟨⟨Db1, R2c⟩, HO⟩
  iapply (crossDrain_all X κ c Q 2)
  isplitr; · iexact Hc
  isplitl [Cb2 Hb2]; · isplitl [Cb2] <;> iassumption
  isplitl [HO]; · iexact HO
  iintro ⟨⟨Db2, R3c⟩, HO⟩
  iapply (outZWait_step X κ c Q [] (nil_lo 0))
  isplitr; · iexact Hc
  isplitl [W0]; · iexact W0
  isplitl [HO]; · iexact HO
  iintro ⟨HO, D0, Oz, Hl⟩
  iapply (outWWait_step X κ c Q 0 [] (nil_lo 0))
  isplitr; · iexact Hc
  isplitl [W1]; · iexact W1
  isplitl [HO]; · iexact HO
  iintro ⟨HO, D1, Ow0, R1o⟩
  iapply (outWWait_step X κ c Q 1 [] (nil_lo 0))
  isplitr; · iexact Hc
  isplitl [W2]; · iexact W2
  isplitl [HO]; · iexact HO
  iintro ⟨HO, D2, Ow1, R2o⟩
  iapply (outWWait_step X κ c Q 2 [] (nil_lo 0))
  isplitr; · iexact Hc
  isplitl [W3]; · iexact W3
  isplitl [HO]; · iexact HO
  iintro ⟨HO, D3, Ow2, R3o⟩
  iapply (crossRecv_all X κ c Q 0)
  isplitr; · iexact Hc
  isplitl [Cc0 Hc0]; · isplitl [Cc0] <;> iassumption
  isplitl [HO]; · iexact HO
  iintro ⟨⟨Dc0, Or0⟩, HO⟩
  iapply (crossRecv_all X κ c Q 1)
  isplitr; · iexact Hc
  isplitl [Cc1 Hc1]; · isplitl [Cc1] <;> iassumption
  isplitl [HO]; · iexact HO
  iintro ⟨⟨Dc1, Or1⟩, HO⟩
  iapply (crossRecv_all X κ c Q 2)
  isplitr; · iexact Hc
  isplitl [Cc2 Hc2]; · isplitl [Cc2] <;> iassumption
  isplitl [HO]; · iexact HO
  iintro ⟨⟨Dc2, Or2⟩, HO⟩
  iapply (ret_step c Q)
  iapply Hk
  isplitl [Da0 Da1 Da2]
  · isplitl [Da0]; · iexact Da0
    isplitl [Da1] <;> iassumption
  isplitl [Db0 Db1 Db2]
  · isplitl [Db0]; · iexact Db0
    isplitl [Db1] <;> iassumption
  isplitl [Dc0 Dc1 Dc2]
  · isplitl [Dc0]; · iexact Dc0
    isplitl [Dc1] <;> iassumption
  isplitl [D0 D1 D2 D3]
  · isplitl [D0]; · iexact D0
    isplitl [D1]; · iexact D1
    isplitl [D2]; · iexact D2
    iexact D3
  isplitl [R0r R0c R0o R1r R1c R1o R2r R2c R2o R3r R3c R3o]
  · iapply (ring_join X c)
    isplitl [R0r R0c R0o]
    · isplitl [R0r]; · iexact R0r
      isplitl [R0c] <;> iassumption
    isplitl [R1r R1c R1o]
    · isplitl [R1r]; · iexact R1r
      isplitl [R1c]; · iexact R1c
      iexact R1o
    isplitl [R2r R2c R2o]
    · isplitl [R2r]; · iexact R2r
      isplitl [R2c]; · iexact R2c
      iexact R2o
    isplitl [R3r]; · iexact R3r
    isplitl [R3c]; · iexact R3c
    iexact R3o
  isplitl [Oz Ow0 Ow1 Ow2 Or0 Or1 Or2]
  · rw [out_split]
    isplitl [Oz]; · iexact Oz
    isplitl [Ow0 Ow1 Ow2]
    · isplitl [Ow0]; · iexact Ow0
      isplitl [Ow1] <;> iassumption
    isplitl [Or0]; · iexact Or0
    isplitl [Or1] <;> iassumption
  isplitl [Hl] <;> iassumption

/-! ## The forwarding part -/

set_option maxHeartbeats 800000 in
/-- Forwarding round the ring and across, and the waits. -/
theorem hops_step :
    iprop(ctx X κ c ∗ ringPt c (slotWS 0) fullShare (ringFin X c) ∗ lPt c (lFin X c)
        ∗ ((∃ f, outPt (F := F) c (outZS c) f) ∗ (∃ f, outPt (F := F) c (outWS c 0) f) ∗ (∃ f, outPt (F := F) c (outWS c 1) f)
          ∗ (∃ f, outPt (F := F) c (outWS c 2) f))
        ∗ ((tri fun h s => gapRing (F := F) (nxt c 1) (h, s)) ∗ (tri fun h s => gapOut (F := F) (across c) (h, s)))
        ∗ ((tri fun h s => tok (F := F) c (kN (nRgS h s))) ∗ (tri fun h s => tok (F := F) c (kN (nRgR h s)))
          ∗ (tri fun h s => tok (F := F) c (kN (nCrS h s))) ∗ (tri fun h s => tok (F := F) c (kN (nCrR h s))))
        ∗ (tok (F := F) c (kN (nOut 0)) ∗ tok (F := F) c (kN (nOut 1)) ∗ tok (F := F) c (kN (nOut 2)) ∗ tok (F := F) c (kN (nOut 3)))
        ∗ ((tri fun h s => crd (F := F) c (kN (nRgR h s))) ∗ (tri fun h s => crd (F := F) c (kN (nCrR h s))))
        ∗ ((tri fun h s => hold (F := F) c (nRgS h s)) ∗ (tri fun h s => hold (F := F) c (nRgR h s))
          ∗ (tri fun h s => hold (F := F) c (nCrS h s)) ∗ (tri fun h s => hold (F := F) c (nCrR h s)))
        ∗ (hold (F := F) c (nOut 0) ∗ hold (F := F) c (nOut 1) ∗ hold (F := F) c (nOut 2) ∗ hold (F := F) c (nOut 3))
        ∗ owing c due5
        ∗ (((tri fun h s => done (F := F) c (nRgS h s)) ∗ (tri fun h s => done (F := F) c (nRgR h s))
            ∗ (tri fun h s => done (F := F) c (nCrS h s)) ∗ (tri fun h s => done (F := F) c (nCrR h s))
            ∗ (done (F := F) c (nOut 0) ∗ done c (nOut 1) ∗ done c (nOut 2) ∗ done c (nOut 3))
            ∗ ringPt c Finset.univ fullShare (ringFin X c) ∗ outPt c Finset.univ (outFin X c) ∗ lPt c (lFin X c) ∗ owing c []) -∗ Q ⟨⟩))
      ⊢ WP c (hops c (nxt c 1) (across c)) Q := by
  unfold hops due5
  rw [slotW_thirds]
  iintro ⟨#Hc, ⟨R0r, R0c, R0o⟩, Hl, ⟨Oz, Ow0, Ow1, Ow2⟩, ⟨⟨Gr0, Gr1, Gr2⟩, ⟨Go0, Go1, Go2⟩⟩,
    ⟨⟨Ts0, Ts1, Ts2⟩, ⟨Tr0, Tr1, Tr2⟩, ⟨Tx0, Tx1, Tx2⟩, ⟨Ty0, Ty1, Ty2⟩⟩, ⟨T0, T1, T2, T3⟩, ⟨⟨Cr0, Cr1, Cr2⟩, Cy⟩,
    ⟨Hs, ⟨Hr0, Hr1, Hr2⟩, Hx, Hy⟩, ⟨H0, H1, H2, H3⟩, HO, Hk⟩
  iapply (ring0_all X κ c Q _)
  isplitr; · iexact Hc
  isplitl [R0r Gr0 Ts0 Tr0]
  · isplitl [R0r]; · iexact R0r
    isplitl [Gr0]; · iexact Gr0
    isplitl [Ts0] <;> iassumption
  isplitl [HO]; · iexact HO
  iintro ⟨Cs0, HO⟩
  iapply (outZ_step X κ c Q)
  isplitr; · iexact Hc
  isplitl [Hl]; · iexact Hl
  isplitl [Oz]; · iexact Oz
  isplitl [T0]; · iexact T0
  iintro C0
  iapply (hop_all X κ c Q 0 1 rfl (by decide) (dueHop 1 2 ++ dueLast) (lo_append _ (lo_flat 3 1 2 (by decide) (by decide) all16)
    (lo_map 3 (fun s => kN (nCrR 2 s)) (fun _ => (by decide : 3 < 10)) all16)))
  isplitr; · iexact Hc
  isplitl [Cr0 Hr0 Gr1 Ts1 Tr1 Go0 Tx0 Ty0]
  · isplitl [Cr0 Hr0]; · isplitl [Cr0] <;> iassumption
    isplitl [Gr1 Ts1 Tr1]
    · isplitl [Gr1]; · iexact Gr1
      isplitl [Ts1] <;> iassumption
    isplitl [Go0]; · iexact Go0
    isplitl [Tx0] <;> iassumption
  isplitl [HO]; · iexact HO
  iintro ⟨⟨Dr0, Cs1, Cx0, R1o⟩, HO⟩
  iapply (outW_step X κ c Q 0)
  isplitr; · iexact Hc
  isplitl [R1o]; · iexact R1o
  isplitl [Ow0]; · iexact Ow0
  isplitl [T1]; · iexact T1
  iintro C1
  iapply (hop_all X κ c Q 1 2 rfl (by decide) dueLast (lo_map 4 (fun s => kN (nCrR 2 s)) (fun _ => (by decide : 4 < 10)) all16))
  isplitr; · iexact Hc
  isplitl [Cr1 Hr1 Gr2 Ts2 Tr2 Go1 Tx1 Ty1]
  · isplitl [Cr1 Hr1]; · isplitl [Cr1] <;> iassumption
    isplitl [Gr2 Ts2 Tr2]
    · isplitl [Gr2]; · iexact Gr2
      isplitl [Ts2] <;> iassumption
    isplitl [Go1]; · iexact Go1
    isplitl [Tx1] <;> iassumption
  isplitl [HO]; · iexact HO
  iintro ⟨⟨Dr1, Cs2, Cx1, R2o⟩, HO⟩
  iapply (outW_step X κ c Q 1)
  isplitr; · iexact Hc
  isplitl [R2o]; · iexact R2o
  isplitl [Ow1]; · iexact Ow1
  isplitl [T2]; · iexact T2
  iintro C2
  iapply (last_all X κ c Q)
  isplitr; · iexact Hc
  isplitl [Cr2 Hr2 Go2 Tx2 Ty2]
  · isplitl [Cr2 Hr2]; · isplitl [Cr2] <;> iassumption
    isplitl [Go2]; · iexact Go2
    isplitl [Tx2] <;> iassumption
  isplitl [HO]; · iexact HO
  iintro ⟨⟨Dr2, R3r, Cx2, R3o⟩, HO⟩
  iapply (outW_step X κ c Q 2)
  isplitr; · iexact Hc
  isplitl [R3o]; · iexact R3o
  isplitl [Ow2]; · iexact Ow2
  isplitl [T3]; · iexact T3
  iintro C3
  iapply (drains_step X κ c Q)
  isplitr; · iexact Hc
  isplitl [Cs0 Cs1 Cs2 Hs]
  · isplitl [Cs0 Cs1 Cs2]
    · isplitl [Cs0]; · iexact Cs0
      isplitl [Cs1] <;> iassumption
    iexact Hs
  isplitl [Cx0 Cx1 Cx2 Hx]
  · isplitl [Cx0 Cx1 Cx2]
    · isplitl [Cx0]; · iexact Cx0
      isplitl [Cx1] <;> iassumption
    iexact Hx
  isplitl [Cy Hy]; · isplitl [Cy] <;> iassumption
  isplitl [C0 C1 C2 C3 H0 H1 H2 H3]
  · isplitl [C0 H0]; · isplitl [C0] <;> iassumption
    isplitl [C1 H1]
    · isplitl [C1]; · iexact C1
      iexact H1
    isplitl [C2 H2]
    · isplitl [C2]; · iexact C2
      iexact H2
    isplitl [C3]; · iexact C3
    iexact H3
  isplitl [R0c R0o R3r]
  · isplitl [R0c]; · iexact R0c
    isplitl [R0o] <;> iassumption
  isplitl [HO]; · iexact HO
  iintro ⟨Ds, Dx, Dy, Do, HR, Hout, Hl, HO⟩
  iapply Hk
  isplitl [Ds]; · iexact Ds
  isplitl [Dr0 Dr1 Dr2]
  · isplitl [Dr0]; · iexact Dr0
    isplitl [Dr1] <;> iassumption
  isplitl [Dx]; · iexact Dx
  isplitl [Dy]; · iexact Dy
  isplitl [Do]; · iexact Do
  isplitl [HR]; · iexact HR
  isplitl [Hout]; · iexact Hout
  isplitl [Hl] <;> iassumption

end Cert.KernelIdeal.Own

end
-- ==== Proof.KernelIdeal.Compute.lean ====
/-
  The two computing parts of the body: exponentiating the own block and filling the statistics, and scaling the block and
  filling ring slot 0.
-/
module

public import proofs.«01_k».proof.Proof.KernelIdeal.Steps

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open NK Duty

variable {F : FTy → Type} [FloatOps F]

local notation "𝕄" => MT nD τ sig ℕ (Elt F) ℕ UU ℕ

variable (X : Dev nD → Arr F S512x8192)

/-! ## What the stores leave -/

/-- What a write through a view leaves at an element of the view. -/
theorem write_at {sp : Space} {s : Shape} {e : EltTy} (v : View sig .tc sp s e) (f : v.ty.Contents (Elt F)) (w : s.Idx → Elt F e)
    (x : s.Idx) (i : v.ty.Idx) (hx : v.emb x = i) :
    v.write (Elt F) f w Finset.univ i = _root_.cast (congrArg (Elt F) v.elt_eq.symm) (w x) := by
  subst hx; exact View.write_emb_of_mem _ _ (Finset.mem_univ x)

theorem rM_emb (i : S2x512x1.Idx) (h : (i 0).val = 0) : (stM.access rM).emb (ix3 (⟨0, Nat.one_pos⟩ : Fin 1) (i 1) (i 2)) = i := by
  funext a
  refine Fin.ext ((ValueKit.rect_emb_unit_val _ _ _ _ a).trans ?_)
  fin_cases a
  · exact h.symm
  · exact Nat.zero_add _
  · exact Nat.zero_add _
theorem rS_emb (i : S2x512x1.Idx) (h : (i 0).val = 1) : (stM.access rS).emb (ix3 (⟨0, Nat.one_pos⟩ : Fin 1) (i 1) (i 2)) = i := by
  funext a
  refine Fin.ext ((ValueKit.rect_emb_unit_val _ _ _ _ a).trans ?_)
  fin_cases a
  · exact h.symm
  · exact Nat.zero_add _
  · exact Nat.zero_add _
theorem rS_zero (x : S1x512x1.Idx) : (((stM.access rS).emb x : S2x512x1.Idx) 0).val = 1 :=
  (ValueKit.rect_emb_unit_val _ _ _ _ 0).trans (by
    have h : (x 0).val < 1 := (x 0).isLt
    show 1 + (x 0).val = 1; omega)
theorem rS_off (i : S2x512x1.Idx) (h : (i 0).val = 0) : i ∉ (stM.access rS).setOn Finset.univ := fun hm => by
  obtain ⟨x, -, e⟩ := Finset.mem_map.mp hm
  have := rS_zero x
  rw [e, h] at this
  exact absurd this (by decide)

/-- The two stores of the statistics leave them, whatever the buffer held. -/
theorem stFin_write (c : Dev nD) (f : Arr F S2x512x1) :
    (stM.access rS).write (Elt F) ((stM.access rM).write (Elt F) f (k0_pay5 (rowMax X c)) Finset.univ) (k0_pay6 (rowSum X c)) Finset.univ
      = stFin X c := by
  funext i
  have hi : (i 0).val < 2 := (i 0).isLt
  by_cases h : (i 0).val = 0
  · have w1 := View.write_of_not_mem (Val := Elt F) (v := stM.access rS)
      ((stM.access rM).write (Elt F) f (k0_pay5 (rowMax X c)) Finset.univ) (k0_pay6 (rowSum X c)) Finset.univ (rS_off i h)
    have w2 := write_at (stM.access rM) f (k0_pay5 (rowMax X c)) (ix3 (⟨0, Nat.one_pos⟩ : Fin 1) (i 1) (i 2)) i (rM_emb i h)
    have e : stFin X c i = k0_pay5 (rowMax X c) (ix3 (⟨0, Nat.one_pos⟩ : Fin 1) (i 1) (i 2)) := if_pos h
    rw [e]
    refine Eq.trans w1 (Eq.trans w2 ?_)
    exact cast_eq _ _
  · have e : stFin X c i = k0_pay6 (rowSum X c) (ix3 (⟨0, Nat.one_pos⟩ : Fin 1) (i 1) (i 2)) := if_neg h
    rw [e]
    have h1 : (i 0).val = 1 := by omega
    exact write_at (stM.access rS) ((stM.access rM).write (Elt F) f (k0_pay5 (rowMax X c)) Finset.univ) (k0_pay6 (rowSum X c))
      (ix3 (⟨0, Nat.one_pos⟩ : Fin 1) (i 1) (i 2)) i (rS_emb i h1)

theorem rSlot0_emb (i : S4x512x4096.Idx) (h : (i 0).val = 0) :
    (ringM.access rSlot0).emb (ix3 (⟨0, Nat.one_pos⟩ : Fin 1) (i 1) (i 2)) = i := by
  funext a
  refine Fin.ext ((ValueKit.rect_emb_unit_val _ _ _ _ a).trans ?_)
  fin_cases a
  · exact h.symm
  · exact Nat.zero_add _
  · exact Nat.zero_add _
theorem rA_emb (x : S512x4096.Idx) : ((lM.access rA).emb x : S512x8192.Idx) = ix2 (x 0) (⟨(x 1).val, by
    have h : (x 1).val < 4096 := (x 1).isLt; omega⟩ : Fin 8192) := by
  funext a
  refine Fin.ext ((ValueKit.rect_emb_unit_val _ _ _ _ a).trans ?_)
  fin_cases a <;> exact Nat.zero_add _
theorem rB_emb (x : S512x4096.Idx) : ((lM.access rB).emb x : S512x8192.Idx) = ix2 (x 0) (⟨4096 + (x 1).val, by
    have h : (x 1).val < 4096 := (x 1).isLt; omega⟩ : Fin 8192) := by
  funext a
  refine Fin.ext ((ValueKit.rect_emb_unit_val _ _ _ _ a).trans ?_)
  fin_cases a
  · exact Nat.zero_add _
  · rfl
theorem rB_off (x : S512x4096.Idx) : (lM.access rA).emb x ∉ (lM.access rB).setOn Finset.univ := fun hm => by
  obtain ⟨y, -, e⟩ := Finset.mem_map.mp hm
  rw [rA_emb, rB_emb] at e
  have e1 : 4096 + (y 1).val = (x 1).val := congrArg Fin.val (congrFun e 1)
  have h : (x 1).val < 4096 := (x 1).isLt
  omega

theorem pay12_at (v : Vec F S512x4096 .f32) (a : Fin 512) (b : Fin 4096) :
    k0_pay12 v (ix3 (⟨0, Nat.one_pos⟩ : Fin 1) a b) = v (ix2 a b) := shapeCast_ab_1ab_apply (a := 512) (b := 4096) v _ _ a b
theorem pay14_at (v : Vec F S512x4096 .f32) (a : Fin 512) (b : Fin 4096) :
    k0_pay14 v (ix3 (⟨0, Nat.one_pos⟩ : Fin 1) a b) = v (ix2 a b) := shapeCast_ab_1ab_apply (a := 512) (b := 4096) v _ _ a b

/-- A ring slot 0 filled with a half of the block is filled as it is to be: with the left half, -/
theorem fillA_write (c : Dev nD) (hc : c.val / 8 = 0) (f : Arr F S4x512x4096) (i : S4x512x4096.Idx) (hi : i ∈ slotWS 0) :
    (ringM.access rSlot0).write (Elt F) f (k0_pay12 ((lM.access rA).read (Elt F) (l3 X c))) Finset.univ i = ringFin X c i := by
  have h0 : (i 0).val = 0 := (mem_slotW 0 i).mp hi
  refine (write_at (ringM.access rSlot0) f (k0_pay12 ((lM.access rA).read (Elt F) (l3 X c))) _ i (rSlot0_emb i h0)).trans ?_
  have e1 : k0_pay12 ((lM.access rA).read (Elt F) (l3 X c)) (ix3 (⟨0, Nat.one_pos⟩ : Fin 1) (i 1) (i 2))
      = (lM.access rA).read (Elt F) (l3 X c) (ix2 (i 1) (i 2)) := pay12_at _ (i 1) (i 2)
  have e2 : (lM.access rA).read (Elt F) (l3 X c) (ix2 (i 1) (i 2)) = lFin X c ((lM.access rA).emb (ix2 (i 1) (i 2))) :=
    (View.write_of_not_mem (Val := Elt F) (v := lM.access rB) (l3 X c) _ _ (rB_off (ix2 (i 1) (i 2)))).symm
  have e3 : ringFin X c i = lFin X (back c (i 0)) (ix2 (i 1) (⟨4096 * (c.val / 8) + (i 2).val, by
    have := dev_lt c; have h : (i 2).val < 4096 := (i 2).isLt; omega⟩ : Fin 8192)) := rfl
  refine (show _ = _ from e1).trans (e2.trans ?_)
  rw [rA_emb, e3]
  refine lFin_congr X (congrArg Fin.val ?_) rfl ?_
  · rw [show i 0 = (⟨0, by decide⟩ : Fin 4) from Fin.ext h0]; exact (back_zero c).symm
  · show (i 2).val = 4096 * (c.val / 8) + (i 2).val
    rw [hc]; omega
/-- and with the right half. -/
theorem fillB_write (c : Dev nD) (hc : c.val / 8 = 1) (f : Arr F S4x512x4096) (i : S4x512x4096.Idx) (hi : i ∈ slotWS 0) :
    (ringM.access rSlot0).write (Elt F) f (k0_pay14 ((lM.access rB).read (Elt F) (lFin X c))) Finset.univ i = ringFin X c i := by
  have h0 : (i 0).val = 0 := (mem_slotW 0 i).mp hi
  refine (write_at (ringM.access rSlot0) f (k0_pay14 ((lM.access rB).read (Elt F) (lFin X c))) _ i (rSlot0_emb i h0)).trans ?_
  have e1 : k0_pay14 ((lM.access rB).read (Elt F) (lFin X c)) (ix3 (⟨0, Nat.one_pos⟩ : Fin 1) (i 1) (i 2))
      = (lM.access rB).read (Elt F) (lFin X c) (ix2 (i 1) (i 2)) := pay14_at _ (i 1) (i 2)
  have e3 : ringFin X c i = lFin X (back c (i 0)) (ix2 (i 1) (⟨4096 * (c.val / 8) + (i 2).val, by
    have := dev_lt c; have h : (i 2).val < 4096 := (i 2).isLt; omega⟩ : Fin 8192)) := rfl
  refine (show _ = _ from e1).trans (show lFin X c ((lM.access rB).emb (ix2 (i 1) (i 2))) = _ from ?_)
  rw [rB_emb, e3]
  refine lFin_congr X (congrArg Fin.val ?_) rfl ?_
  · rw [show i 0 = (⟨0, by decide⟩ : Fin 4) from Fin.ext h0]; exact (back_zero c).symm
  · show 4096 + (i 2).val = 4096 * (c.val / 8) + (i 2).val
    rw [hc]

theorem rSlot0_set : (ringM.access rSlot0).set = slotWS 0 := View.set_slice_whole _ _

/-! ## The loads and stores -/

variable (c : Dev nD) (Q : PUnit → sProp (MT nD τ sig ℕ (Elt F) ℕ UU ℕ))

/-- A load through a rectangle of a whole buffer, and a store through one. -/
theorem ld_step {sp : CoreSpace} {s : Shape} {e : EltTy} (m : Memref sig .tc sp s e) (r : Rect s) {hl : m.view.LoadsAt r.toLoadRect}
    (S : Finset (Idx (m.view.loc (c : Thread nD τ)))) (q : PosShare TreeShare) (f : Buf (Elt F) (m.view.loc (c : Thread nD τ)))
    (hS : (m.access r).set ⊆ S) (K : (r.shape.Idx → Elt F e) → P F) :
    iprop((m.view.loc (c : Thread nD τ) ↦[S]{q} f) ∗ ((m.view.loc (c : Thread nD τ) ↦[S]{q} f) -∗ WP c (K ((m.access r).read (Elt F) f)) Q))
      ⊢ WP c (.op (.load m r.toLoadRect hl) K) Q := by
  iintro ⟨H, Hk⟩
  iapply (wp_load_rect 𝒱₀ (c : Thread nD τ) none Set.univ (m := m) (r := r) (hl := hl) (k := K) (q := q) (f := f) hS) $$ [H]
  · iexact H
  iexact Hk
theorem sto_step {sp : CoreSpace} {s : Shape} {e : EltTy} (m : Memref sig .tc sp s e) (r : Rect s) (w : r.shape.Idx → Elt F e)
    {hx : (m.access r).Stores Finset.univ} {hm : (Finset.univ : Finset r.shape.Idx) = Finset.univ ∨ ∀ a, r.stride a = 1}
    (S : Finset (Idx (m.view.loc (c : Thread nD τ)))) (f : Buf (Elt F) (m.view.loc (c : Thread nD τ)))
    (hS : (m.access r).set ⊆ S) (K : P F) :
    iprop((m.view.loc (c : Thread nD τ) ↦[S]{fullShare} f)
        ∗ ((m.view.loc (c : Thread nD τ) ↦[S]{fullShare} ((m.access r).write (Elt F) f w Finset.univ)) -∗ WP c K Q))
      ⊢ WP c (.op (.store m r w Finset.univ hx hm) fun _ => K) Q := by
  iintro ⟨H, Hk⟩
  iapply (wp_store 𝒱₀ (c : Thread nD τ) none Set.univ (m := m) (r := r) (w := w) (hx := hx) (hm := hm) (k := fun _ => K) (f := f) hS) $$ [H]
  · iexact H
  iexact Hk

theorem l_ld (r : Rect S512x8192) {hl : lM.view.LoadsAt r.toLoadRect} (f : Arr F S512x8192) (K : Vec F r.shape .f32 → P F) :
    iprop(lPt c f ∗ (lPt c f -∗ WP c (K ((lM.access r).read (Elt F) f)) Q)) ⊢ WP c (.op (.load lM r.toLoadRect hl) K) Q :=
  ld_step c Q lM r Finset.univ fullShare f (Finset.subset_univ _) K
theorem l_st (r : Rect S512x8192) (w : Vec F r.shape .f32) {hx : (lM.access r).Stores Finset.univ}
    {hm : (Finset.univ : Finset r.shape.Idx) = Finset.univ ∨ ∀ a, r.stride a = 1} (f : Arr F S512x8192) (K : P F) :
    iprop(lPt c f ∗ (lPt c ((lM.access r).write (Elt F) f w Finset.univ) -∗ WP c K Q))
      ⊢ WP c (.op (.store lM r w Finset.univ hx hm) fun _ => K) Q :=
  sto_step c Q lM r w Finset.univ f (Finset.subset_univ _) K
theorem st_ld (r : Rect S2x512x1) {hl : stM.view.LoadsAt r.toLoadRect} (f : Arr F S2x512x1) (K : Vec F r.shape .f32 → P F) :
    iprop(stPt c fullShare f ∗ (stPt c fullShare f -∗ WP c (K ((stM.access r).read (Elt F) f)) Q)) ⊢ WP c (.op (.load stM r.toLoadRect hl) K) Q :=
  ld_step c Q stM r Finset.univ fullShare f (Finset.subset_univ _) K
theorem st_st (r : Rect S2x512x1) (w : Vec F r.shape .f32) {hx : (stM.access r).Stores Finset.univ}
    {hm : (Finset.univ : Finset r.shape.Idx) = Finset.univ ∨ ∀ a, r.stride a = 1} (f : Arr F S2x512x1) (K : P F) :
    iprop(stPt c fullShare f ∗ (stPt c fullShare ((stM.access r).write (Elt F) f w Finset.univ) -∗ WP c K Q))
      ⊢ WP c (.op (.store stM r w Finset.univ hx hm) fun _ => K) Q :=
  sto_step c Q stM r w Finset.univ f (Finset.subset_univ _) K
theorem row_ld (d : Fin 3) (j : Fin 2) (K : Vec F S1x1x512x1 .f32 → P F) :
    iprop(srPt c Finset.univ (srFin X c) ∗ (srPt c Finset.univ (srFin X c) -∗ WP c (K (row X c d j)) Q)) ⊢ WP c (ldRow d j K) Q :=
  ld_step c Q srM (rRow d j) Finset.univ fullShare (srFin X c) (Finset.subset_univ _) K

/-! ## The parts -/

/-- The exponentials, and the statistics. -/
theorem exp_step (K : FVec F S512x1 .f32 → FVec F S512x1 .f32 → P F) :
    iprop(lPt c (X c) ∗ (∃ f, stPt (F := F) c fullShare f)
        ∗ ((lPt c (l2 X c) ∗ stPt c fullShare (stFin X c)) -∗ WP c (K (rowMax X c) (rowSum X c)) Q))
      ⊢ WP c (expI K) Q := by
  iintro ⟨Hl, ⟨%f, Hs⟩, Hk⟩
  iapply (l_ld c Q rL (X c)); isplitl [Hl]; · iexact Hl
  iintro Hl
  iapply (l_ld c Q rA (X c)); isplitl [Hl]; · iexact Hl
  iintro Hl
  iapply (l_ld c Q rA (X c)); isplitl [Hl]; · iexact Hl
  iintro Hl
  iapply (l_st c Q rA _ (X c)); isplitl [Hl]; · iexact Hl
  iintro Hl
  iapply (l_ld c Q rB (l1 X c)); isplitl [Hl]; · iexact Hl
  iintro Hl
  iapply (l_ld c Q rB (l1 X c)); isplitl [Hl]; · iexact Hl
  iintro Hl
  iapply (l_st c Q rB _ (l1 X c)); isplitl [Hl]; · iexact Hl
  iintro Hl
  iapply (l_ld c Q rL (l2 X c)); isplitl [Hl]; · iexact Hl
  iintro Hl
  iapply (st_ld c Q rM f); isplitl [Hs]; · iexact Hs
  iintro Hs
  iapply (st_st c Q rM _ f); isplitl [Hs]; · iexact Hs
  iintro Hs
  iapply (st_ld c Q rS _); isplitl [Hs]; · iexact Hs
  iintro Hs
  iapply (st_st c Q rS _ _); isplitl [Hs]; · iexact Hs
  iintro Hs
  iapply Hk
  isplitl [Hl]; · iexact Hl
  rw [← stFin_write X c f]
  iexact Hs

/-- A store of ring slot 0, after a load of it. -/
theorem slot0_step (v : FVec F S1x512x4096 .f32) (f : Arr F S4x512x4096) (K : P F) :
    iprop(ringPt c (slotWS 0) fullShare f
        ∗ (ringPt c (slotWS 0) fullShare ((ringM.access rSlot0).write (Elt F) f v Finset.univ) -∗ WP c K Q))
      ⊢ WP c (ldSlot0 (stSlot0 v K)) Q := by
  iintro ⟨H, Hk⟩
  iapply (ld_step c Q ringM rSlot0 (slotWS 0) fullShare f (Finset.subset_of_eq rSlot0_set)); isplitl [H]; · iexact H
  iintro H
  iapply (sto_step c Q ringM rSlot0 v (slotWS 0) f (Finset.subset_of_eq rSlot0_set)); isplitl [H]; · iexact H
  iexact Hk

/-- Ring slot 0 after the first conditional fill, whichever the device. -/
theorem fillA_step (K : P F) :
    iprop(lPt c (l3 X c) ∗ (∃ f, ringPt (F := F) c (slotWS 0) fullShare f)
        ∗ ((lPt c (l3 X c) ∗ ∃ f, ⌜c.val / 8 = 0 → ∀ i ∈ slotWS 0, f i = ringFin X c i⌝ ∗ ringPt (F := F) c (slotWS 0) fullShare f) -∗ WP c K Q))
      ⊢ WP c (fillA c K) Q := by
  unfold fillA
  by_cases h : isX c 0#32 = 1#1
  · rw [if_pos h]
    iintro ⟨Hl, ⟨%f, Hr⟩, Hk⟩
    iapply (l_ld c Q rA (l3 X c)); isplitl [Hl]; · iexact Hl
    iintro Hl
    iapply (slot0_step c Q _ f); isplitl [Hr]; · iexact Hr
    iintro Hr
    iapply Hk
    isplitl [Hl]; · iexact Hl
    iexists _; isplitr
    · ipureintro; exact fun hc i hi => fillA_write X c hc f i hi
    iexact Hr
  · rw [if_neg h]
    iintro ⟨Hl, ⟨%f, Hr⟩, Hk⟩
    iapply Hk
    isplitl [Hl]; · iexact Hl
    iexists f; isplitr
    · ipureintro; exact fun hc => absurd ((isX_left c).mpr hc) h
    iexact Hr
/-- and after the second. -/
theorem fillB_step (K : P F) :
    iprop(lPt c (lFin X c) ∗ (∃ f, ⌜c.val / 8 = 0 → ∀ i ∈ slotWS 0, f i = ringFin X c i⌝ ∗ ringPt (F := F) c (slotWS 0) fullShare f)
        ∗ ((lPt c (lFin X c) ∗ ringPt c (slotWS 0) fullShare (ringFin X c)) -∗ WP c K Q))
      ⊢ WP c (fillB c K) Q := by
  unfold fillB
  by_cases h : isX c 1#32 = 1#1
  · rw [if_pos h]
    iintro ⟨Hl, ⟨%f, -, Hr⟩, Hk⟩
    iapply (l_ld c Q rB (lFin X c)); isplitl [Hl]; · iexact Hl
    iintro Hl
    iapply (slot0_step c Q _ f); isplitl [Hr]; · iexact Hr
    iintro Hr
    iapply Hk
    isplitl [Hl]; · iexact Hl
    ihave Hr' := (Entails.of_eq (pointsTo_congr (fillB_write X c ((isX_right c).mp h) f))) $$ Hr
    iexact Hr'
  · rw [if_neg h]
    iintro ⟨Hl, ⟨%f, %hf, Hr⟩, Hk⟩
    have hc : c.val / 8 = 0 := by
      have h1 : c.val / 8 ≠ 1 := fun e => h ((isX_right c).mpr e)
      have := dev_lt c; omega
    iapply Hk
    isplitl [Hl]; · iexact Hl
    ihave Hr' := (Entails.of_eq (pointsTo_congr (hf hc))) $$ Hr
    iexact Hr'

/-- The scaled block, and ring slot 0. -/
theorem scale_step (K : P F) :
    iprop(lPt c (l2 X c) ∗ srPt c Finset.univ (srFin X c) ∗ (∃ f, ringPt (F := F) c (slotWS 0) fullShare f)
        ∗ ((lPt c (lFin X c) ∗ srPt c Finset.univ (srFin X c) ∗ ringPt c (slotWS 0) fullShare (ringFin X c)) -∗ WP c K Q))
      ⊢ WP c (scaleI c (rowMax X c) (rowSum X c) K) Q := by
  iintro ⟨Hl, Hs, Hr, Hk⟩
  iapply (row_ld X c Q 0 0); isplitl [Hs]; · iexact Hs
  iintro Hs
  iapply (row_ld X c Q 1 0); isplitl [Hs]; · iexact Hs
  iintro Hs
  iapply (row_ld X c Q 2 0); isplitl [Hs]; · iexact Hs
  iintro Hs
  iapply (row_ld X c Q 0 1); isplitl [Hs]; · iexact Hs
  iintro Hs
  iapply (row_ld X c Q 0 0); isplitl [Hs]; · iexact Hs
  iintro Hs
  iapply (row_ld X c Q 1 1); isplitl [Hs]; · iexact Hs
  iintro Hs
  iapply (row_ld X c Q 1 0); isplitl [Hs]; · iexact Hs
  iintro Hs
  iapply (row_ld X c Q 2 1); isplitl [Hs]; · iexact Hs
  iintro Hs
  iapply (row_ld X c Q 2 0); isplitl [Hs]; · iexact Hs
  iintro Hs
  iapply (l_ld c Q rA (l2 X c)); isplitl [Hl]; · iexact Hl
  iintro Hl
  iapply (l_ld c Q rA (l2 X c)); isplitl [Hl]; · iexact Hl
  iintro Hl
  iapply (l_st c Q rA _ (l2 X c)); isplitl [Hl]; · iexact Hl
  iintro Hl
  iapply (fillA_step X c Q); isplitl [Hl]; · iexact Hl
  isplitl [Hr]; · iexact Hr
  iintro ⟨Hl, Hr⟩
  iapply (l_ld c Q rB (l3 X c)); isplitl [Hl]; · iexact Hl
  iintro Hl
  iapply (l_ld c Q rB (l3 X c)); isplitl [Hl]; · iexact Hl
  iintro Hl
  iapply (l_st c Q rB _ (l3 X c)); isplitl [Hl]; · iexact Hl
  iintro Hl
  iapply (fillB_step X c Q); isplitl [Hl]; · iexact Hl
  isplitl [Hr]; · iexact Hr
  iintro ⟨Hl, Hr⟩
  iapply Hk
  isplitl [Hl]; · iexact Hl
  isplitl [Hs]; · iexact Hs
  iexact Hr

end Cert.KernelIdeal.Own

end
-- ==== Proof.KernelIdeal.Body.lean ====
/-
  The body on one device `c`, from its launch resources to what it leaves: the barrier, the statistics, and the parts together.
-/
module

public import proofs.«01_k».proof.Proof.KernelIdeal.Hops
public import proofs.«01_k».proof.Proof.KernelIdeal.Compute

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open NK Duty

variable {F : FTy → Type} [FloatOps F]

local notation "𝕄" => MT nD τ sig ℕ (Elt F) ℕ UU ℕ

variable (X : Dev nD → Arr F S512x8192)
variable (κ : GSem nD τ sig → ℕ) (c : Dev nD) (Q : PUnit → sProp (MT nD τ sig ℕ (Elt F) ℕ UU ℕ))

/-! ## What the signals hand out -/

theorem bigSepL_lift {I : Type} (C : sProp 𝕄) [BI.Persistent C] (A B : I → sProp 𝕄) (h : ∀ i, iprop(C ∗ A i) ⊢ B i) :
    ∀ l : List I, iprop(C ∗ bigSepL l A) ⊢ bigSepL l B
  | [] => by iintro -; iempintro
  | i :: l => by
    rw [bigSepL_cons', bigSepL_cons']
    iintro ⟨#HC, HA, Hl⟩
    isplitl [HA]
    · iapply (h i); isplitr; · iexact HC
      iexact HA
    iapply (bigSepL_lift C A B h l); isplitr; · iexact HC
    iexact Hl

theorem gaps_st : iprop(ctx X κ c ∗ ∃ f, srPt (F := F) c Finset.univ f) ⊢ iprop(gapSt (F := F) c 0 ∗ gapSt (F := F) c 1 ∗ gapSt (F := F) c 2) := by
  iintro ⟨#Hc, ⟨%f, H⟩⟩
  ihave H := (Entails.of_eq (sr_split c f)) $$ H
  icases H with ⟨H0, H1, H2⟩
  unfold gapSt
  isplitl [H0]
  · isplitl [H0]; · iexists f; iexact H0
    iapply (ctx_reached X κ c (nStR 0)); iexact Hc
  isplitl [H1]
  · isplitl [H1]; · iexists f; iexact H1
    iapply (ctx_reached X κ c (nStR 1)); iexact Hc
  isplitl [H2]; · iexists f; iexact H2
  iapply (ctx_reached X κ c (nStR 2)); iexact Hc

theorem gapRing_of (f : Arr F S4x512x4096) (h : Fin 3) :
    iprop(ctx X κ c ∗ ringPt c (slotWS h.succ) fullShare f) ⊢ bigSepL all16 fun s => gapRing (F := F) c (h, s) := by
  rw [slotW_split]
  refine bigSepL_lift (ctx X κ c) _ _ (fun s => ?_) all16
  unfold gapRing
  iintro ⟨#Hc, H⟩
  isplitl [H]; · iexists f; iexact H
  iapply (ctx_reached X κ c (nRgR h s)); iexact Hc

theorem gaps_ring :
    iprop(ctx X κ c ∗ ∃ f, ringPt (F := F) c Finset.univ fullShare f)
      ⊢ iprop((∃ f, ringPt (F := F) c (slotWS 0) fullShare f) ∗ bigSep Finset.univ fun x : HS => gapRing (F := F) c x) := by
  rw [bigSep_HS]
  iintro ⟨#Hc, ⟨%f, H⟩⟩
  ihave H := (Entails.of_eq (ring_split c fullShare f)) $$ H
  icases H with ⟨H0, H1, H2, H3⟩
  isplitl [H0]; · iexists f; iexact H0
  isplitl [H1]
  · iapply (gapRing_of X κ c f 0); isplitr; · iexact Hc
    iexact H1
  isplitl [H2]
  · iapply (gapRing_of X κ c f 1); isplitr; · iexact Hc
    iexact H2
  iapply (gapRing_of X κ c f 2); isplitr; · iexact Hc
  iexact H3

theorem gapOut_of (f : Arr F S512x32768) (h : Fin 3) :
    iprop(ctx X κ c ∗ bigSepL all16 fun s => outPt c (outRS c h s) f) ⊢ bigSepL all16 fun s => gapOut (F := F) c (h, s) := by
  refine bigSepL_lift (ctx X κ c) _ _ (fun s => ?_) all16
  unfold gapOut
  iintro ⟨#Hc, H⟩
  isplitl [H]; · iexists f; iexact H
  iapply (ctx_reached X κ c (nCrR h s)); iexact Hc

theorem gaps_out :
    iprop(ctx X κ c ∗ ∃ f, outPt (F := F) c Finset.univ f)
      ⊢ iprop(((∃ f, outPt (F := F) c (outZS c) f) ∗ (∃ f, outPt (F := F) c (outWS c 0) f) ∗ (∃ f, outPt (F := F) c (outWS c 1) f)
            ∗ (∃ f, outPt (F := F) c (outWS c 2) f)) ∗ bigSep Finset.univ fun x : HS => gapOut (F := F) c x) := by
  rw [bigSep_HS]
  iintro ⟨#Hc, ⟨%f, H⟩⟩
  ihave H := (Entails.of_eq (out_split c f)) $$ H
  icases H with ⟨Hz, ⟨H0, H1, H2⟩, ⟨G0, G1, G2⟩⟩
  isplitl [Hz H0 H1 H2]
  · isplitl [Hz]; · iexists f; iexact Hz
    isplitl [H0]; · iexists f; iexact H0
    isplitl [H1]; · iexists f; iexact H1
    iexists f; iexact H2
  isplitl [G0]
  · iapply (gapOut_of X κ c f 0); isplitr; · iexact Hc
    iexact G0
  isplitl [G1]
  · iapply (gapOut_of X κ c f 1); isplitr; · iexact Hc
    iexact G1
  iapply (gapOut_of X κ c f 2); isplitr; · iexact Hc
  iexact G2

/-! ## The barrier -/

theorem tgt3 (c : Dev nD) : tgt (kBar 3) c = nxt c 1 := by revert c; decide
theorem tgt2 (c : Dev nD) : tgt (kBar 2) c = nxt c 2 := by revert c; decide
theorem tgt1 (c : Dev nD) : tgt (kBar 1) c = nxt c 3 := by revert c; decide
theorem tgt0 (c : Dev nD) : tgt (kBar 0) c = across c := rfl
theorem nxt13 (c : Dev nD) : nxt (nxt c 1) 3 = c := by revert c; decide
theorem nxt22 (c : Dev nD) : nxt (nxt c 2) 2 = c := by revert c; decide
theorem nxt31 (c : Dev nD) : nxt (nxt c 3) 1 = c := by revert c; decide

theorem pay3 : payBar (F := F) (nxt c 1) 3 = gapSt c 2 := by
  show gapSt (nxt (nxt c 1) 3) 2 = _; rw [nxt13]
theorem pay2 : payBar (F := F) (nxt c 2) 2 = gapSt c 1 := by
  show gapSt (nxt (nxt c 2) 2) 1 = _; rw [nxt22]
theorem pay1 : payBar (F := F) (nxt c 3) 1 = iprop(gapSt (F := F) c 0 ∗ bigSep Finset.univ fun x : HS => gapRing (F := F) c x) := by
  show iprop(gapSt (F := F) (nxt (nxt c 3) 1) 0 ∗ bigSep Finset.univ fun x : HS => gapRing (F := F) (nxt (nxt c 3) 1) x) = _; rw [nxt31]
theorem pay0 : payBar (F := F) (across c) 0 = bigSep Finset.univ fun x : HS => gapOut (F := F) c x := by
  show (bigSep Finset.univ fun x : HS => gapOut (F := F) (across (across c)) x) = _; rw [across_across]

/-- Every device's barrier is open. -/
abbrev barsOpen : sProp 𝕄 := bigSep Finset.univ fun n : Dev nD => reached ER (((n : Thread nD τ), .reg barrier0) : GSem nD τ sig) 0
theorem barsOpen_at (p : Dev nD) (d : Fin 4) : barsOpen (F := F) ⊢ reached ER (cell p (kBar d)) 0 :=
  bigSep_elim (Φ := fun n : Dev nD => (reached ER (((n : Thread nD τ), .reg barrier0) : GSem nD τ sig) 0 : sProp 𝕄)) (Finset.mem_univ p)

/-- The device hands out its memory and takes what the others hand to it. -/
theorem bar_phase (l : List Duty) (hl : ∀ x ∈ l, 1 < ix x) (K : P F) :
    iprop(ctx X κ c ∗ barsOpen (F := F) ∗ (tok (F := F) c (kBar 0) ∗ tok (F := F) c (kBar 1) ∗ tok (F := F) c (kBar 2) ∗ tok (F := F) c (kBar 3))
        ∗ (crd (F := F) c (kBar 0) ∗ crd c (kBar 1) ∗ crd c (kBar 2) ∗ crd c (kBar 3)) ∗ atPos ER (cell c (kBar 0)) 0 ∅ 0
        ∗ (∃ f, srPt (F := F) c Finset.univ f) ∗ (∃ f, ringPt (F := F) c Finset.univ fullShare f) ∗ (∃ f, outPt (F := F) c Finset.univ f)
        ∗ owing c (kBar 3 :: kBar 2 :: kBar 1 :: kBar 0 :: l)
        ∗ ((owing c l ∗ semVal (cell c (kBar 0)) 0
            ∗ (gapSt (F := F) (nxt c 1) 0 ∗ gapSt (F := F) (nxt c 2) 1 ∗ gapSt (F := F) (nxt c 3) 2)
            ∗ ((tri fun h s => gapRing (F := F) (nxt c 1) (h, s)) ∗ (tri fun h s => gapOut (F := F) (across c) (h, s)))
            ∗ (∃ f, ringPt (F := F) c (slotWS 0) fullShare f)
            ∗ ((∃ f, outPt (F := F) c (outZS c) f) ∗ (∃ f, outPt (F := F) c (outWS c 0) f) ∗ (∃ f, outPt (F := F) c (outWS c 1) f)
              ∗ (∃ f, outPt (F := F) c (outWS c 2) f))) -∗ WP c K Q))
      ⊢ WP c (sigI (nxt c 1) <| sigI (nxt c 2) <| sigI (nxt c 3) <| sigI (across c) <| barWaitI K) Q := by
  iintro ⟨#Hc, #Hb, ⟨T0, T1, T2, T3⟩, HC, Hat, Hsr, Hrg, Hout, HO, Hk⟩
  ihave Hst := (gaps_st X κ c) $$ [Hsr]
  · isplitr; · iexact Hc
    iexact Hsr
  icases Hst with ⟨S0, S1, S2⟩
  ihave Hrg := (gaps_ring X κ c) $$ [Hrg]
  · isplitr; · iexact Hc
    iexact Hrg
  icases Hrg with ⟨R0, HR⟩
  ihave Hout := (gaps_out X κ c) $$ [Hout]
  · isplitr; · iexact Hc
    iexact Hout
  icases Hout with ⟨HZ, HX⟩
  iapply (sig_step X κ c Q 3 (nxt c 1) (tgt3 c))
  isplitr; · iexact Hc
  isplitr; · iapply (barsOpen_at (nxt c 1) 3); iexact Hb
  isplitl [T3]; · iexact T3
  isplitl [S2]; · rw [pay3]; iexact S2
  isplitl [HO]; · iexact HO
  iintro HO
  iapply (sig_step X κ c Q 2 (nxt c 2) (tgt2 c))
  isplitr; · iexact Hc
  isplitr; · iapply (barsOpen_at (nxt c 2) 2); iexact Hb
  isplitl [T2]; · iexact T2
  isplitl [S1]; · rw [pay2]; iexact S1
  isplitl [HO]; · iexact HO
  iintro HO
  iapply (sig_step X κ c Q 1 (nxt c 3) (tgt1 c))
  isplitr; · iexact Hc
  isplitr; · iapply (barsOpen_at (nxt c 3) 1); iexact Hb
  isplitl [T1]; · iexact T1
  isplitl [S0 HR]
  · rw [pay1]; isplitl [S0] <;> iassumption
  isplitl [HO]; · iexact HO
  iintro HO
  iapply (sig_step X κ c Q 0 (across c) (tgt0 c))
  isplitr; · iexact Hc
  isplitr; · iapply (barsOpen_at (across c) 0); iexact Hb
  isplitl [T0]; · iexact T0
  isplitl [HX]; · rw [pay0]; iexact HX
  isplitl [HO]; · iexact HO
  iintro HO
  iapply (barWait_step X κ c Q l hl)
  isplitr; · iexact Hc
  isplitl [HC]; · iexact HC
  isplitl [Hat]; · iexact Hat
  isplitl [HO]; · iexact HO
  iintro ⟨HO, Hv, P0, P1, P2, P3⟩
  ihave P0 := (Entails.of_eq (show payBar (F := F) c 0 = tri fun h s => gapOut (F := F) (across c) (h, s) from bigSep_HS _)) $$ P0
  ihave P1 := (Entails.of_eq (show payBar (F := F) c 1 = iprop(gapSt (F := F) (nxt c 1) 0 ∗ tri fun h s => gapRing (F := F) (nxt c 1) (h, s)) from
    congrArg (fun R => iprop(gapSt (F := F) (nxt c 1) 0 ∗ R)) (bigSep_HS _))) $$ P1
  ihave P2 := (Entails.of_eq (show payBar (F := F) c 2 = gapSt (F := F) (nxt c 2) 1 from rfl)) $$ P2
  ihave P3 := (Entails.of_eq (show payBar (F := F) c 3 = gapSt (F := F) (nxt c 3) 2 from rfl)) $$ P3
  icases P1 with ⟨P1, PR⟩
  iapply Hk
  isplitl [HO]; · iexact HO
  isplitl [Hv]; · iexact Hv
  isplitl [P1 P2 P3]
  · isplitl [P1]; · iexact P1
    isplitl [P2]; · iexact P2
    iexact P3
  isplitl [PR P0]
  · isplitl [PR] <;> iassumption
  isplitl [R0]; · iexact R0
  iexact HZ

/-! ## The statistics and the scaling -/

theorem lo5 : ∀ x ∈ due5, 2 < ix x :=
  lo_append _ (lo_map 2 (fun s => kN (nRgR 0 s)) (fun _ => (by decide : 2 < 3)) all16)
    (lo_append _ (lo_flat 2 0 1 (by decide) (by decide) all16)
      (lo_append _ (lo_flat 2 1 2 (by decide) (by decide) all16) (lo_map 2 (fun s => kN (nCrR 2 s)) (fun _ => (by decide : 2 < 10)) all16)))
theorem lo3 : ∀ x ∈ due3, 1 < ix x := fun x hx => by
  rcases List.mem_cons.mp hx with rfl | hx; · decide
  rcases List.mem_cons.mp hx with rfl | hx; · decide
  rcases List.mem_cons.mp hx with rfl | hx; · decide
  exact Nat.lt_trans Nat.one_lt_two (lo5 x hx)
theorem loAll : ∀ x ∈ dueAll, 0 < ix x := fun x hx => by
  rcases List.mem_cons.mp hx with rfl | hx; · decide
  rcases List.mem_cons.mp hx with rfl | hx; · decide
  rcases List.mem_cons.mp hx with rfl | hx; · decide
  rcases List.mem_cons.mp hx with rfl | hx; · decide
  exact Nat.lt_trans Nat.one_pos (lo3 x hx)

theorem st_thirds (f : Arr F S2x512x1) :
    stPt (F := F) c fullShare f
      = iprop(stPt c (Ring.shares3 fullShare 0) f ∗ stPt c (Ring.shares3 fullShare 1) f ∗ stPt c (Ring.shares3 fullShare 2) f) :=
  have h : stPt (F := F) c fullShare f
      ⊣⊢ iprop(stPt c (Ring.shares3 fullShare 0) f ∗ stPt c (Ring.shares3 fullShare 1) f ∗ stPt c (Ring.shares3 fullShare 2) f) :=
    Ring.pointsTo_thirds fullShare _
  equiv_iff.mp ⟨h.1, h.2⟩

set_option maxHeartbeats 800000 in
theorem mid_phase (K : P F) :
    iprop(ctx X κ c ∗ lPt c (X c) ∗ (∃ f, stPt (F := F) c fullShare f)
        ∗ (gapSt (F := F) (nxt c 1) 0 ∗ gapSt (F := F) (nxt c 2) 1 ∗ gapSt (F := F) (nxt c 3) 2)
        ∗ ((tok (F := F) c (kN (nStS 0)) ∗ tok (F := F) c (kN (nStS 1)) ∗ tok (F := F) c (kN (nStS 2)))
          ∗ (tok (F := F) c (kN (nStR 0)) ∗ tok (F := F) c (kN (nStR 1)) ∗ tok (F := F) c (kN (nStR 2))))
        ∗ (crd (F := F) c (kN (nStR 0)) ∗ crd (F := F) c (kN (nStR 1)) ∗ crd (F := F) c (kN (nStR 2)))
        ∗ ((hold (F := F) c (nStS 0) ∗ hold (F := F) c (nStS 1) ∗ hold (F := F) c (nStS 2))
          ∗ (hold (F := F) c (nStR 0) ∗ hold (F := F) c (nStR 1) ∗ hold (F := F) c (nStR 2)))
        ∗ (∃ f, ringPt (F := F) c (slotWS 0) fullShare f) ∗ owing c due3
        ∗ ((owing c due5
            ∗ ((done (F := F) c (nStS 0) ∗ done (F := F) c (nStS 1) ∗ done (F := F) c (nStS 2))
              ∗ (done (F := F) c (nStR 0) ∗ done (F := F) c (nStR 1) ∗ done (F := F) c (nStR 2)))
            ∗ lPt c (lFin X c) ∗ stPt c fullShare (stFin X c) ∗ srPt c Finset.univ (srFin X c) ∗ ringPt c (slotWS 0) fullShare (ringFin X c)) -∗ WP c K Q))
      ⊢ WP c (expI fun v81 v98 => stSendI (nxt c 1) 0 <| stSendI (nxt c 2) 1 <| stSendI (nxt c 3) 2 <| stWaitI 0 <| stWaitI 1 <| stWaitI 2 <|
          scaleI c v81 v98 K) Q := by
  iintro ⟨#Hc, Hl, Hst, ⟨G0, G1, G2⟩, ⟨⟨Ts0, Ts1, Ts2⟩, ⟨Tr0, Tr1, Tr2⟩⟩, ⟨C0, C1, C2⟩, ⟨⟨Hs0, Hs1, Hs2⟩, ⟨Hr0, Hr1, Hr2⟩⟩, Hrg, HO, Hk⟩
  iapply (exp_step X c Q)
  isplitl [Hl]; · iexact Hl
  isplitl [Hst]; · iexact Hst
  iintro ⟨Hl, Hst⟩
  ihave Hst := (Entails.of_eq (st_thirds c (stFin X c))) $$ Hst
  icases Hst with ⟨S0, S1, S2⟩
  iapply (stSend_step X κ c Q 0)
  isplitr; · iexact Hc
  isplitl [S0]; · iexact S0
  isplitl [G0]; · iexact G0
  isplitl [Ts0]; · iexact Ts0
  isplitl [Tr0]; · iexact Tr0
  isplitl [HO]; · iexact HO
  iintro ⟨D0, HO⟩
  iapply (stSend_step X κ c Q 1)
  isplitr; · iexact Hc
  isplitl [S1]; · iexact S1
  isplitl [G1]; · iexact G1
  isplitl [Ts1]; · iexact Ts1
  isplitl [Tr1]; · iexact Tr1
  isplitl [HO]; · iexact HO
  iintro ⟨D1, HO⟩
  iapply (stSend_step X κ c Q 2)
  isplitr; · iexact Hc
  isplitl [S2]; · iexact S2
  isplitl [G2]; · iexact G2
  isplitl [Ts2]; · iexact Ts2
  isplitl [Tr2]; · iexact Tr2
  isplitl [HO]; · iexact HO
  iintro ⟨D2, HO⟩
  iapply (stWait_step X κ c Q 0 due5 lo5)
  isplitr; · iexact Hc
  isplitl [D0]; · iexact D0
  isplitl [Hs0]; · iexact Hs0
  isplitl [C0]; · iexact C0
  isplitl [Hr0]; · iexact Hr0
  isplitl [HO]; · iexact HO
  iintro ⟨HO, Es0, S0, Er0, R0⟩
  iapply (stWait_step X κ c Q 1 due5 lo5)
  isplitr; · iexact Hc
  isplitl [D1]; · iexact D1
  isplitl [Hs1]; · iexact Hs1
  isplitl [C1]; · iexact C1
  isplitl [Hr1]; · iexact Hr1
  isplitl [HO]; · iexact HO
  iintro ⟨HO, Es1, S1, Er1, R1⟩
  iapply (stWait_step X κ c Q 2 due5 lo5)
  isplitr; · iexact Hc
  isplitl [D2]; · iexact D2
  isplitl [Hs2]; · iexact Hs2
  isplitl [C2]; · iexact C2
  isplitl [Hr2]; · iexact Hr2
  isplitl [HO]; · iexact HO
  iintro ⟨HO, Es2, S2, Er2, R2⟩
  iapply (scale_step X c Q)
  isplitl [Hl]; · iexact Hl
  isplitl [R0 R1 R2]
  · rw [sr_split]
    isplitl [R0]; · iexact R0
    isplitl [R1] <;> iassumption
  isplitl [Hrg]; · iexact Hrg
  iintro ⟨Hl, Hsr, Hrg⟩
  iapply Hk
  isplitl [HO]; · iexact HO
  isplitl [Es0 Es1 Es2 Er0 Er1 Er2]
  · isplitl [Es0 Es1 Es2]
    · isplitl [Es0]; · iexact Es0
      isplitl [Es1] <;> iassumption
    isplitl [Er0]; · iexact Er0
    isplitl [Er1] <;> iassumption
  isplitl [Hl]; · iexact Hl
  isplitl [S0 S1 S2]
  · rw [st_thirds]
    isplitl [S0]; · iexact S0
    isplitl [S1] <;> iassumption
  isplitl [Hsr] <;> iassumption

/-! ## The body -/

/-- The credits of the duties by kind. -/
theorem credits_split :
    bigSepL dueAll (crd (F := F) c)
      = iprop(crd c (kBar 3) ∗ crd c (kBar 2) ∗ crd c (kBar 1) ∗ crd c (kBar 0) ∗ crd c (kN (nStR 0)) ∗ crd c (kN (nStR 1)) ∗ crd c (kN (nStR 2))
          ∗ (bigSepL all16 fun s => crd c (kN (nRgR 0 s)))
          ∗ ((bigSepL all16 fun s => crd c (kN (nRgR 1 s))) ∗ (bigSepL all16 fun s => crd c (kN (nCrR 0 s))))
          ∗ ((bigSepL all16 fun s => crd c (kN (nRgR 2 s))) ∗ (bigSepL all16 fun s => crd c (kN (nCrR 1 s))))
          ∗ (bigSepL all16 fun s => crd c (kN (nCrR 2 s)))) := by
  have hop : ∀ h h' : Fin 3, bigSepL (dueHop h h') (crd (F := F) c)
      = iprop((bigSepL all16 fun s => crd c (kN (nRgR h' s))) ∗ (bigSepL all16 fun s => crd c (kN (nCrR h s)))) := fun h h' => by
    unfold dueHop
    rw [bigSepL_flat, ← bigSepL_both]
    congr 1
  unfold dueAll due3 due5 dueRing0 dueLast
  rw [bigSepL_cons', bigSepL_cons', bigSepL_cons', bigSepL_cons', bigSepL_cons', bigSepL_cons', bigSepL_cons', bigSepL_append, bigSepL_append,
    bigSepL_append, hop, hop, bigSepL_map', bigSepL_map']

/-- What the body leaves. -/
abbrev left : sProp 𝕄 :=
  iprop((bigSep Finset.univ fun k : NK => done (F := F) c k) ∗ semVal (cell c (kBar 0)) 0 ∗ inPt c (X c) ∗ outPt c Finset.univ (outFin X c)
    ∗ lPt c (lFin X c) ∗ ringPt c Finset.univ fullShare (ringFin X c) ∗ stPt c fullShare (stFin X c) ∗ srPt c Finset.univ (srFin X c) ∗ owing c [])

set_option maxHeartbeats 1600000 in
/-- The body: from the tokens, credits, places and buffers of the launch to the result and every semaphore at zero. -/
theorem run_step :
    iprop(ctx X κ c ∗ barsOpen (F := F) ∗ (bigSep Finset.univ fun k : NK => hold (F := F) c k) ∗ atPos ER (cell c (kBar 0)) 0 ∅ 0
        ∗ (bigSep Finset.univ fun k : Duty => tok (F := F) c k) ∗ bigSepL dueAll (crd (F := F) c) ∗ owing c dueAll
        ∗ inPt c (X c) ∗ (∃ f, outPt (F := F) c Finset.univ f) ∗ (∃ f, lPt (F := F) c f) ∗ (∃ f, ringPt (F := F) c Finset.univ fullShare f)
        ∗ (∃ f, stPt (F := F) c fullShare f) ∗ (∃ f, srPt (F := F) c Finset.univ f)
        ∗ (left X c -∗ Q ⟨⟩))
      ⊢ WP c (run c) Q := by
  unfold left
  rw [bigSep_Duty, bigSep_NK, bigSep_NK, bigSep_NK, credits_split]
  show _ ⊢ WP c (stageI <| sigI (nxt c 1) <| sigI (nxt c 2) <| sigI (nxt c 3) <| sigI (across c) <| barWaitI <|
    expI fun v81 v98 => stSendI (nxt c 1) 0 <| stSendI (nxt c 2) 1 <| stSendI (nxt c 3) 2 <| stWaitI 0 <| stWaitI 1 <| stWaitI 2 <|
      scaleI c v81 v98 <| hops c (nxt c 1) (across c)) Q
  iintro ⟨#Hc, #Hb, ⟨⟨Hin, Ho, Hss, Hsr⟩, ⟨Hrs, Hrr⟩, ⟨Hcs, Hcr⟩⟩, Hat, ⟨Tb, ⟨Tin, To, Tss, Tsr⟩, ⟨Trs, Trr⟩, ⟨Tcs, Tcr⟩⟩,
    ⟨B3, B2, B1, B0, Z0, Z1, Z2, Cr0, ⟨Cr1, Cx0⟩, ⟨Cr2, Cx1⟩, Cx2⟩, HO, Mi, Mo, Ml, Mr, Ms, Mq, Hk⟩
  iapply (stage_step X κ c Q dueAll loAll)
  isplitr; · iexact Hc
  isplitl [Mi]; · iexact Mi
  isplitl [Ml]; · iexact Ml
  isplitl [Tin]; · iexact Tin
  isplitl [Hin]; · iexact Hin
  isplitl [HO]; · iexact HO
  iintro ⟨HO, Din, Mi, Ml⟩
  iapply (bar_phase X κ c Q due3 lo3)
  isplitr; · iexact Hc
  isplitr; · iexact Hb
  isplitl [Tb]; · iexact Tb
  isplitl [B0 B1 B2 B3]
  · isplitl [B0]; · iexact B0
    isplitl [B1]; · iexact B1
    isplitl [B2] <;> iassumption
  isplitl [Hat]; · iexact Hat
  isplitl [Mq]; · iexact Mq
  isplitl [Mr]; · iexact Mr
  isplitl [Mo]; · iexact Mo
  isplitl [HO]; · iexact HO
  iintro ⟨HO, Hv, HG, HGG, Mr, Mo⟩
  iapply (mid_phase X κ c Q)
  isplitr; · iexact Hc
  isplitl [Ml]; · iexact Ml
  isplitl [Ms]; · iexact Ms
  isplitl [HG]; · iexact HG
  isplitl [Tss Tsr]; · isplitl [Tss] <;> iassumption
  isplitl [Z0 Z1 Z2]
  · isplitl [Z0]; · iexact Z0
    isplitl [Z1] <;> iassumption
  isplitl [Hss Hsr]; · isplitl [Hss] <;> iassumption
  isplitl [Mr]; · iexact Mr
  isplitl [HO]; · iexact HO
  iintro ⟨HO, ⟨Dss, Dsr⟩, Ml, Ms, Mq, Mr⟩
  iapply (hops_step X κ c Q)
  isplitr; · iexact Hc
  isplitl [Mr]; · iexact Mr
  isplitl [Ml]; · iexact Ml
  isplitl [Mo]; · iexact Mo
  isplitl [HGG]; · iexact HGG
  isplitl [Trs Trr Tcs Tcr]
  · isplitl [Trs]; · iexact Trs
    isplitl [Trr]; · iexact Trr
    isplitl [Tcs] <;> iassumption
  isplitl [To]; · iexact To
  isplitl [Cr0 Cr1 Cr2 Cx0 Cx1 Cx2]
  · isplitl [Cr0 Cr1 Cr2]
    · isplitl [Cr0]; · iexact Cr0
      isplitl [Cr1] <;> iassumption
    isplitl [Cx0]; · iexact Cx0
    isplitl [Cx1] <;> iassumption
  isplitl [Hrs Hrr Hcs Hcr]
  · isplitl [Hrs]; · iexact Hrs
    isplitl [Hrr]; · iexact Hrr
    isplitl [Hcs] <;> iassumption
  isplitl [Ho]; · iexact Ho
  isplitl [HO]; · iexact HO
  iintro ⟨Drs, Drr, Dcs, Dcr, Do, Mr, Mo, Ml, HO⟩
  iapply Hk
  isplitl [Din Do Dss Dsr Drs Drr Dcs Dcr]
  · isplitl [Din Do Dss Dsr]
    · isplitl [Din]; · iexact Din
      isplitl [Do]; · iexact Do
      isplitl [Dss] <;> iassumption
    isplitl [Drs Drr]; · isplitl [Drs] <;> iassumption
    isplitl [Dcs] <;> iassumption
  isplitl [Hv]; · iexact Hv
  isplitl [Mi]; · iexact Mi
  isplitl [Mo]; · iexact Mo
  isplitl [Ml]; · iexact Ml
  isplitl [Mr]; · iexact Mr
  isplitl [Ms]; · iexact Ms
  isplitl [Mq] <;> iassumption

end Cert.KernelIdeal.Own

end
-- ==== Proof.KernelIdeal.Launch.lean ====
/-
  The launch: the host's product `x · W`, then the kernel. Before the kernel the barrier semaphores' invariants are made from
  their counters and the DMA semaphores' stand ready to be opened; where the kernel begins, each device opens its own.
-/
module

public import proofs.«01_k».proof.Proof.KernelIdeal.Body
public import proofs.«01_k».proof.Proof.Gen.KernelIdeal.Launch
public import proofs.«01_k».proof.Proof.Gen.KernelIdeal.Frame
public import Idealize.ShloMosaic.Lib.Quiescent

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (tallyL tallyL_pos)
open Cert.KernelIdeal Cert.KernelIdeal.Gen
open NK Duty

variable {F : FTy → Type} [FloatOps F]

local notation "𝕄" => MT nD τ sig ℕ (Elt F) ℕ UU ℕ

/-- The indices with a level, and the levels. -/
abbrev LL : GSem nD τ sig → Finset ℕ := SiteBlocks.L 16
abbrev lev : GSem nD τ sig → ℕ → ℕ := SiteBlocks.lv

/-! ## The launch credit -/

/-- The payments to a device's own semaphores. -/
def own (c : Dev nD) (k : Duty) : TalkSites.Pay nD τ sig := (cell c k, ix k, amt k)

/-- All devices' dues together, by the device they are paid to. -/
theorem sum_dues (l : List Duty) :
    (∑ d : Dev nD, tallyL (l.map (dueOf d))) = ∑ d : Dev nD, (tallyL (l.map (own d)) : CellTallies nD τ sig ℕ) := by
  induction l with
  | nil => rfl
  | cons k l ih =>
    simp only [List.map_cons, tallyL, Finset.sum_add_distrib]
    rw [ih]
    exact congrArg (· + _) (Equiv.sum_comp (tgt k) fun d => (TalkSites.Pay.tally (own d k) : CellTallies nD τ sig ℕ))

/-- The launch deals each device the credit of every payment to its own semaphores. -/
theorem credits (c : Dev nD) :
    (Pipeline.launchCred (fun d => owe d dueAll) c : sProp 𝕄) = bigSepL dueAll (crd (F := F) c) := by
  rw [Pipeline.launchCred_of_sum (fun d => owe d dueAll) (fun d => tallyL (dueAll.map (own d))) (sum_dues dueAll)
    (fun d g hg => by
      obtain ⟨i, hi⟩ := DFunLike.ne_iff.mp hg
      obtain ⟨x, hx, rfl, -⟩ := tallyL_pos (Nat.pos_of_ne_zero hi)
      obtain ⟨k, -, rfl⟩ := List.mem_map.mp hx
      rfl) c, TalkSites.cred_tallyL, bigSepL_map']
  rfl

/-! ## The buffers and the counters -/

/-- The buffers of the whole program. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

abbrev wholePt (c : Dev nD) (b : Ref sig .tc) (f : b.ty.Contents (Elt F)) : sProp 𝕄 := ((c : Thread nD τ).loc b) ↦{fullShare} f

theorem bufs_eq (c : Dev nD) (W : Valuation τ sig (Elt F)) : (StableHlo.held (c : Thread nD τ) bufs W : sProp 𝕄)
    = iprop(wholePt c main_arg0 (W main_arg0) ∗ wholePt c main_arg1 (W main_arg1) ∗ wholePt c main_v1 (W main_v1) ∗ wholePt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

theorem unscopedSem_iff (sm : SemLoc sig) : ¬ sm.isScoped .tc ↔ sm = SemLoc.reg barrier0 := by
  revert sm; decide +kernel

theorem unscopedSems0_eq (c : Dev nD) : (unscopedSems0 c : sProp 𝕄) = semVal (cell c (kBar 0)) 0 := by
  unfold unscopedSems0
  rw [show (Finset.univ.filter fun sm : SemLoc sig => ¬ sm.isScoped .tc) = {SemLoc.reg barrier0} from
    Finset.ext fun sm => by rw [Finset.mem_filter, Finset.mem_singleton, unscopedSem_iff]; exact and_iff_right (Finset.mem_univ _),
    BI.bigSep_singleton]

/-- The kernel's own semaphores. -/
def osem : NK → SemLoc sig := fun k => .dma (semN k)

theorem osem_facts : Pipeline.OwnSemFacts spec0 osem where
  isScoped k := by
    have h : ∀ s : DmaSem sig, (SemLoc.dma s : SemLoc sig).isScoped .tc := by decide +kernel
    exact h (semN k)
  inj a b e := semN_injective (by injection e)
  disj := fun _ w => w.elim0

/-! ## The contents along @main -/

variable (m : (ℓ : Loc nD τ sig) → Buf (Elt F) ℓ) (ρ : Dev nD → PrngReg)

/-- What the memory holds at the launch, after the host's product, and at the end. -/
def V₀ (c : Dev nD) : Valuation τ sig (Elt F) := fun b => m (c, b)
def V₁ (c : Dev nD) : Valuation τ sig (Elt F) := StableHlo.after hostOps0 (V₀ m c)
/-- The products, device by device: what the kernel works on. -/
def XX (c : Dev nD) : Arr F S512x8192 := V₁ m c main_v1
def V₂ (c : Dev nD) : Valuation τ sig (Elt F) :=
  Function.update (V₁ m c) (Proc.devRef .tc main_v2) (outFin (XX m) c : main_v2.ty.Contents (Elt F))

theorem V₂_out (c : Dev nD) : V₂ m c main_v2 = outFin (XX m) c := Function.update_self ..
theorem V₂_arg0 (c : Dev nD) : V₂ m c main_arg0 = V₁ m c main_arg0 := Function.update_of_ne (by decide) ..
theorem V₂_arg1 (c : Dev nD) : V₂ m c main_arg1 = V₁ m c main_arg1 := Function.update_of_ne (by decide) ..
theorem V₂_dot (c : Dev nD) : V₂ m c main_v1 = V₁ m c main_v1 := Function.update_of_ne (by decide) ..
theorem V₁_arg0 (c : Dev nD) : V₁ m c main_arg0 = m ((c : Thread nD τ).loc main_arg0) := V_main_arg0 m c
theorem V₁_arg1 (c : Dev nD) : V₁ m c main_arg1 = m ((c : Thread nD τ).loc main_arg1) := V_main_arg1 m c

/-- The product is the host's `dot_general` of the two arguments. -/
theorem XX_eq (c : Dev nD) : XX m c
    = Host.dotGeneral dot_S512x1024_S1024x8192_S512x8192_1_0_0_1_n_n none
        (m ((c : Thread nD τ).loc main_arg0) : main_arg0.ty.Contents (Elt F)) (m ((c : Thread nD τ).loc main_arg1) : main_arg1.ty.Contents (Elt F)) := by
  show StableHlo.after hostOps0 (V₀ m c) (Proc.devRef .tc main_v1) = _
  rw [hostOps0, StableHlo.after_cons, StableHlo.after_nil, StableHlo.binary_result]
  rfl

/-! ## What rides to the kernel -/

section Ride

variable (X : Dev nD → Arr F S512x8192)

/-- Round 0 of every barrier, the tokens and the credit. -/
def ride (c : Dev nD) : sProp 𝕄 :=
  iprop(fam.launched ER (Rd X) (fun _ => Finset.univ) c ∗ bigSepL dueAll (crd (F := F) c))
/-- With the DMA semaphores opened. -/
def entry (c : Dev nD) : sProp 𝕄 :=
  iprop((∃ κ, ctx X κ c) ∗ barsOpen (F := F) ∗ (bigSep Finset.univ fun k : NK => hold (F := F) c k) ∗ atPos ER (cell c (kBar 0)) 0 ∅ 0
        ∗ (bigSep Finset.univ fun k : Duty => tok (F := F) c k) ∗ bigSepL dueAll (crd (F := F) c))

/-- The invariants, under one name. -/
def invs (κ : GSem nD τ sig → ℕ) : sProp 𝕄 := fam.cellInvs ER (Rd X) κ

instance invs_persistent (κ : GSem nD τ sig → ℕ) : BI.Persistent (invs X κ) := by unfold invs; infer_instance

theorem ctx_intro (κ : GSem nD τ sig → ℕ) (c : Dev nD) :
    iprop(invs X κ ∗ levAts LL lev ∗ bigSep Finset.univ fun k : NK => reached ER (cell c (kN k)) 0) ⊢ ctx X κ c := by
  unfold invs ctx; exact .rfl
theorem invs_of (κ : GSem nD τ sig → ℕ) (c : Dev nD) (k : Duty) :
    invs X κ ⊢ cellInv ER (Rd X) (κ (cell c k)) (cell c k) := by unfold invs; exact invOf X κ c k

theorem dorm_sep (Φ : SemLoc sig → sProp 𝕄) :
    bigSep (fam.dorm 0) Φ = bigSep Finset.univ fun k : NK => Φ (.dma (semN k)) := bigSep_map _
theorem toks_sep (c : Dev nD) (Φ : GSem nD τ sig × ℕ × Duty → sProp 𝕄) :
    bigSep (fam.toks c 0) Φ = bigSep Finset.univ fun k : Duty => Φ (cell (tgt k c) k, 0, k) := bigSep_map _

theorem bar_at (c : Dev nD) : (((c : Thread nD τ), fam.bar) : GSem nD τ sig) = cell c (kBar 0) := rfl

/-- The device's position at its barrier, and that every barrier is open. -/
theorem pos_of (c : Dev nD) : (fam.barPos ER (Rd X) c 0 Finset.univ : sProp 𝕄)
    ⊢ iprop(atPos ER (cell c (kBar 0)) 0 ∅ 0 ∗ barsOpen (F := F)) := by
  unfold TalkSites.Fam.barPos
  have hb : (bigSep Finset.univ fun n : Dev nD => (reached ER (((n : Thread nD τ), fam.bar) : GSem nD τ sig) 0 : sProp 𝕄)) ⊢ barsOpen (F := F) :=
    bigSep_mono fun n _ => Entails.of_eq (congrArg (fun g => (reached ER g 0 : sProp 𝕄)) (bar_at n))
  rw [bar_at]
  iintro ⟨-, Ha, Hb⟩
  isplitl [Ha]; · iexact Ha
  iapply hb; iexact Hb

/-- The invariants, the rights to open, the tokens. -/
theorem rides_of (c : Dev nD) : (bigSep Finset.univ fun j : Fin 1 => fam.rides ER (Rd X) c j : sProp 𝕄)
    ⊢ iprop((∃ κ, invs X κ) ∗ (bigSep Finset.univ fun k : NK => openTok ER (cell c (kN k)))
        ∗ bigSep Finset.univ fun k : Duty => tok (F := F) c k) := by
  have hr : (bigSep Finset.univ fun j : Fin 1 => fam.rides ER (Rd X) c j) ⊢ (fam.rides ER (Rd X) c 0 : sProp 𝕄) :=
    bigSep_elim (Finset.mem_univ 0)
  refine hr.trans ?_
  unfold TalkSites.Fam.rides
  rw [dorm_sep, toks_sep]
  exact .rfl

/-- A device opens its DMA semaphores. -/
theorem open_all (κ : GSem nD τ sig → ℕ) (c : Dev nD) :
    iprop(invs X κ ∗ bigSep Finset.univ fun k : NK => iprop(openTok ER (cell c (kN k)) ∗ done (F := F) c k))
      ⊢ (|={Set.univ}=> iprop((bigSep Finset.univ fun k : NK => hold (F := F) c k) ∗ bigSep Finset.univ fun k : NK => reached ER (cell c (kN k)) 0) : sProp 𝕄) := by
  rw [← bigSep_sep']
  refine (bigSep_with_persistent (Ψ := fun k : NK => iprop(|={Set.univ}=> (hold (F := F) c k ∗ reached ER (cell c (kN k)) 0))) fun k _ => ?_).trans
    (bigSep_fupd Finset.univ fun k : NK => iprop(hold (F := F) c k ∗ reached ER (cell c (kN k)) 0))
  iintro ⟨#HI, Ho, Hv⟩
  iapply (Rounds.cell_open ER (Rd X) (g := cell c (kN k)) (Set.mem_univ (κ (cell c (kN k)))))
  isplitr; · iapply (invs_of X κ c (kN k)); iexact HI
  isplitl [Ho] <;> iassumption

theorem ownSems_eq (c : Dev nD) : (Pipeline.ownSems0 osem c : sProp 𝕄) = bigSep Finset.univ fun k : NK => done (F := F) c k := rfl

/-- A device opens its DMA semaphores, and has what stays with it throughout the body. -/
theorem open_ctx (κ : GSem nD τ sig → ℕ) (c : Dev nD) : iprop((invs X κ ∗ levAts LL lev) ∗ (bigSep Finset.univ fun k : NK => iprop(openTok ER (cell c (kN k)) ∗ done (F := F) c k)))
   ⊢ (|={Set.univ}=> iprop((∃ κ, ctx X κ c) ∗ (bigSep Finset.univ fun k : NK => hold (F := F) c k)) : sProp 𝕄) := by
  iintro ⟨⟨#HI, #Hlev⟩, H⟩
  imod (open_all X κ c) $$ [H] with ⟨Hh, #Hre⟩
  · isplitr; · iexact HI
    iexact H
  imodintro
  isplitr
  · iexists κ
    iapply (ctx_intro X κ c)
    isplitr; · iexact HI
    isplitr; · iexact Hlev
    iexact Hre
  iexact Hh

theorem launched_of (c : Dev nD) : (fam.launched ER (Rd X) (fun _ => Finset.univ) c : sProp 𝕄)
    ⊢ iprop((atPos ER (cell c (kBar 0)) 0 ∅ 0 ∗ barsOpen (F := F)) ∗ ((∃ κ, invs X κ) ∗ (bigSep Finset.univ fun k : NK => openTok ER (cell c (kN k)))
        ∗ bigSep Finset.univ fun k : Duty => tok (F := F) c k)) := by
  unfold TalkSites.Fam.launched
  iintro ⟨H1, H2⟩
  isplitl [H1]
  · iapply (pos_of X c); iexact H1
  · iapply (rides_of X c); iexact H2

theorem with_sems (c : Dev nD) :
    (iprop((bigSep Finset.univ fun k : NK => openTok ER (cell c (kN k))) ∗ Pipeline.ownSems0 osem c) : sProp 𝕄)
      ⊢ bigSep Finset.univ fun k : NK => iprop(openTok ER (cell c (kN k)) ∗ done (F := F) c k) := by
  rw [ownSems_eq]; exact Entails.of_eq (bigSep_sep' _ _ _).symm

theorem hopen (c : Dev nD) : iprop(ride X c ∗ Pipeline.ownSems0 osem c ∗ levAts LL lev) ⊢ (|={Set.univ}=> entry X c : sProp 𝕄) := by
  unfold ride
  iintro ⟨⟨Hl, Hc⟩, Hs, Hlev⟩
  ihave Hl' := (launched_of X c) $$ Hl
  icases Hl' with ⟨⟨Hat, Hb⟩, ⟨%κ, HI⟩, Hop, Htok⟩
  ihave Ho := (with_sems c) $$ [Hop Hs]
  · isplitl [Hop]; · iexact Hop
    iexact Hs
  imod (open_ctx X κ c) $$ [HI Hlev Ho] with ⟨Hx, Hh⟩
  · isplitl [HI Hlev]
    · isplitl [HI]; · iexact HI
      iexact Hlev
    iexact Ho
  imodintro
  unfold entry
  isplitl [Hx]; · iexact Hx
  isplitl [Hb]; · iexact Hb
  isplitl [Hh]; · iexact Hh
  isplitl [Hat]; · iexact Hat
  isplitl [Htok]; · iexact Htok
  iexact Hc

end Ride

end Cert.KernelIdeal.Own

end
-- ==== Proof.KernelIdeal.Region.lean ====
/-
  The kernel's region: what enters it on a device, what leaves it, and @main as the host's product followed by it.
-/
module

public import proofs.«01_k».proof.Proof.KernelIdeal.Launch

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (tallyL tallyL_pos)
open Cert.KernelIdeal Cert.KernelIdeal.Gen
open NK Duty

variable {F : FTy → Type} [FloatOps F]

local notation "𝕄" => MT nD τ sig ℕ (Elt F) ℕ UU ℕ

variable (m : (ℓ : Loc nD τ sig) → Buf (Elt F) ℓ) (ρ : Dev nD → PrngReg)

/-! ## The kernel's region -/

/-- The kernel's scratch buffers at some contents. -/
def scratch (c : Dev nD) : sProp 𝕄 :=
  iprop((∃ f, lPt (F := F) c f) ∗ (∃ f, ringPt (F := F) c Finset.univ fullShare f) ∗ (∃ f, stPt (F := F) c fullShare f) ∗ (∃ f, srPt (F := F) c Finset.univ f))

/-- The arguments, which the kernel does not touch. -/
def argPt (c : Dev nD) : sProp 𝕄 := iprop(wholePt c main_arg0 (V₁ m c main_arg0) ∗ wholePt c main_arg1 (V₁ m c main_arg1))

/-- What enters the kernel, and what it gives back. -/
def enter (c : Dev nD) : sProp 𝕄 :=
  iprop(entry (XX m) c ∗ argPt m c ∗ inPt c (XX m c) ∗ (∃ f, outPt (F := F) c Finset.univ f) ∗ scratch (F := F) c ∗ ∃ r, prngReg c r)
def leave (c : Dev nD) : sProp 𝕄 :=
  iprop(semVal (cell c (kBar 0)) 0 ∗ (bigSep Finset.univ fun k : NK => done (F := F) c k) ∗ argPt m c ∗ inPt c (XX m c)
    ∗ outPt c Finset.univ (outFin (XX m) c) ∗ scratch (F := F) c ∗ ∃ r, prngReg c r)

/-- The region's proof data: it owes everything before its one point, nothing after. -/
def dat (c : Dev nD) : Dat τ (Elt F) ℕ ℕ UU ℕ cfg0 c where
  A w := w.elim0
  after w := w.elim0
  Φ t := if t.val = 0 then enter m c else leave m c
  q w := w.elim0
  owed t := if t.val = 0 then owe c dueAll else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

theorem none_W {M : Type} [URA M] (Φ : Fin 0 → sProp M) : bigSep Finset.univ Φ = (BI.emp : sProp M) :=
  bigSep_univ_eq_bigSepL [] (by decide) (by decide) Φ

theorem owed_zero (c : Dev nD) : (pdats (F := F) m 0 c).owed 0 = owe c dueAll := by
  show (if ((0 : Fin (cfg0.N + 1)).val = 0) then owe c dueAll else 0) = _; exact if_pos rfl
theorem owed_first (c : Dev nD) : (dat (F := F) m c).owed t0_0.castSucc = owe c dueAll := by
  show (if (t0_0.castSucc : Fin (cfg0.N + 1)).val = 0 then owe c dueAll else 0) = _; exact if_pos rfl
theorem owed_last (c : Dev nD) : (pdats (F := F) m 0 c).owed (Fin.last _) = 0 := by
  show (if (Fin.last cfg0.N).val = 0 then owe c dueAll else 0) = 0
  rw [Fin.val_last, if_neg (by rw [show cfg0.N = 1 from N_0]; decide)]

theorem owesAt_intro {cfg : Pipeline.Cfg sig Λ₀} {c : Dev nD} (d : Dat τ (Elt F) ℕ ℕ UU ℕ cfg c) (t : Fin (cfg.N + 1))
    (O : CellTallies nD τ sig ℕ) (h0 : d.owed t = O) (W : Waits sig ℕ) (hr : d.recorded t = Set.univ) :
    (owes (c : Thread nD τ) O W : sProp 𝕄) ⊢ (d.owesAt 0 t : sProp 𝕄) := by
  unfold Dat.owesAt Pipeline.owesWithin Dat.bound; rw [h0, hr]
  iintro HO; iexists W; isplitr; · ipureintro; exact fun _ _ => Or.inl trivial
  iexact HO
theorem owesAt_elim {cfg : Pipeline.Cfg sig Λ₀} {c : Dev nD} (d : Dat τ (Elt F) ℕ ℕ UU ℕ cfg c) (t : Fin (cfg.N + 1))
    (O : CellTallies nD τ sig ℕ) (h0 : d.owed t = O) :
    (d.owesAt 0 t : sProp 𝕄) ⊢ iprop(∃ W, owes (c : Thread nD τ) O W) := by
  unfold Dat.owesAt Pipeline.owesWithin; rw [h0]
  iintro ⟨%W, -, HO⟩; iexists W; iexact HO

/-- The printed body reads its device and goes on as the flat sequence. -/
theorem body_WP (t : Fin cfg0.N) (c : Dev nD) (Q : PUnit → sProp (MT nD τ sig ℕ (Elt F) ℕ UU ℕ)) :
    WP c (run c) Q ⊢ WP c (bodyAt0 t) Q := by
  rw [body_reads]
  unfold WP
  rw [wp_deviceId, body_run]

/-- The body, in terms of what enters and leaves the region. -/
theorem enter_leave (c : Dev nD) (W : Waits sig ℕ) (Q : PUnit → sProp (MT nD τ sig ℕ (Elt F) ℕ UU ℕ)) :
    iprop(enter m c ∗ owes (c : Thread nD τ) (owe c dueAll) W
        ∗ ((leave m c ∗ ∃ W, owes (c : Thread nD τ) (0 : CellTallies nD τ sig ℕ) W) -∗ Q ⟨⟩)) ⊢ WP c (run c) Q := by
  unfold enter entry scratch
  iintro ⟨⟨⟨⟨%κ, Hx⟩, Hb, Hh, Hat, Ht, Hc⟩, Ha, Hi, Ho, ⟨Ml, Mr, Ms, Mq⟩, Hp⟩, HO, Hk⟩
  iapply (run_step (XX m) κ c Q)
  isplitl [Hx]; · iexact Hx
  isplitl [Hb]; · iexact Hb
  isplitl [Hh]; · iexact Hh
  isplitl [Hat]; · iexact Hat
  isplitl [Ht]; · iexact Ht
  isplitl [Hc]; · iexact Hc
  isplitl [HO]; · unfold owing; iexists W; iexact HO
  isplitl [Hi]; · iexact Hi
  isplitl [Ho]; · iexact Ho
  isplitl [Ml]; · iexact Ml
  isplitl [Mr]; · iexact Mr
  isplitl [Ms]; · iexact Ms
  isplitl [Mq]; · iexact Mq
  unfold left owing
  iintro ⟨Hd, Hv, Hi, Ho, Ml, Mr, Ms, Mq, HO⟩
  iapply Hk
  isplitr [HO]
  · unfold leave scratch
    isplitl [Hv]; · iexact Hv
    isplitl [Hd]; · iexact Hd
    isplitl [Ha]; · iexact Ha
    isplitl [Hi]; · iexact Hi
    isplitl [Ho]; · iexact Ho
    isplitr [Hp]
    · isplitl [Ml]; · iexists _; iexact Ml
      isplitl [Mr]; · iexists _; iexact Mr
      isplitl [Ms]; · iexists _; iexact Ms
      iexists _; iexact Mq
    iexact Hp
  iexact HO

/-- The region's body obligation. -/
theorem body0 (c : Dev nD) : BodyObligation (dat (F := F) m c) defs₀ 𝒱₀ 0 Set.univ := fun t => by
  obtain rfl := fin_N0 t
  rw [none_W, none_W]
  rw [show (dat m c).Φ t0_0.castSucc = enter m c from rfl, show (dat m c).Φ t0_0.succ = leave m c from rfl]
  iintro ⟨He, HO, -⟩
  ihave HO' := (owesAt_elim (dat m c) _ (owe c dueAll) (owed_first m c)) $$ HO
  icases HO' with ⟨%W, HO⟩
  iapply (body_WP t0_0 c _)
  iapply (enter_leave m c W _)
  isplitl [He]; · iexact He
  isplitl [HO]; · iexact HO
  iintro ⟨Hl, ⟨%W', HO⟩⟩
  isplitl [Hl]; · iexact Hl
  isplitl [HO]; · iapply (owesAt_intro (dat m c) t0_0.succ 0 (owed_last m c) W' rfl); iexact HO
  iempintro

/-! ## The segments -/

theorem bufs_sub : ∀ op ∈ (hostOps0 : List (HloOp τ sig (Elt F))), op.bufs ⊆ bufs := fun op h => by
  simp only [hostOps0, List.mem_singleton] at h; subst h
  show ({Proc.devRef .tc main_arg0, Proc.devRef .tc main_arg1, Proc.devRef .tc main_v1} : Finset (DevRef τ sig)) ⊆ bufs; decide
theorem ops_fresh : ∀ op ∈ (hostOps0 : List (HloOp τ sig (Elt F))), op.fresh = ∅ := List.forall_iff_forall_mem.mp hostOps0_fresh

/-- What rides along the host's product: the way to the kernel, and everything owed. -/
def along (c : Dev nD) : sProp 𝕄 :=
  iprop(ride (XX m) c ∗ (∃ r, prngReg c r) ∗ ∃ W, owes (c : Thread nD τ) (owe c dueAll) W)

def host0 : Pipeline.HostSeg (Name := ℕ) (U := UU) (pcfgs (F := F)) defs₀ 𝒱₀ LL lev :=
  Pipeline.HostSeg.ofOps _ _ _ _ _ bufs hostOps0 bufs_sub ops_fresh (V₀ m) (along m)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

theorem cutD (c : Dev nD) (t : Fin ((Pipeline.pin (pcfgs (F := F)) adm 0).N + 1)) (g : GSem nD τ sig) (i : ℕ) (h : 0 < (pdats (F := F) m 0 c).owed t g i) :
    i ∈ LL g ∧ (0 : ℕ) < lev g i := by
  have e : (pdats (F := F) m 0 c).owed t = if t.val = 0 then owe c dueAll else 0 := rfl
  rw [e] at h
  split at h
  · obtain ⟨x, hx, rfl, rfl⟩ := tallyL_pos h
    obtain ⟨k, hk, rfl⟩ := List.mem_map.mp hx
    exact ⟨SiteBlocks.mem_L' rfl (ix_lt k), loAll k hk⟩
  · exact absurd h (Nat.lt_irrefl 0)

theorem scratch_eq (c : Dev nD) :
    (Pipeline.scopedRest (Ix := ℕ) (Name := ℕ) (U := UU) (Lvl := ℕ) (Val := Elt F) (Pipeline.pin (pcfgs (F := F)) adm 0).spec c : sProp 𝕄) = scratch c :=
  scopedRest0_eq c

theorem held_of (c : Dev nD) : (StableHlo.held (c.tc : Thread nD τ) bufs (V₁ m c) : sProp 𝕄)
    ⊢ iprop(argPt m c ∗ inPt c (XX m c) ∗ ∃ f, outPt (F := F) c Finset.univ f) := by
  rw [bufs_eq]
  unfold argPt
  iintro ⟨H0, H1, H2, H3⟩
  isplitl [H0 H1]
  · isplitl [H0]; · iexact H0
    iexact H1
  isplitl [H2]; · iexact H2
  iexists _; iexact H3
theorem held_to (c : Dev nD) : iprop(argPt m c ∗ inPt c (XX m c) ∗ outPt c Finset.univ (outFin (XX m) c))
    ⊢ (StableHlo.held (c.tc : Thread nD τ) bufs (V₂ m c) : sProp 𝕄) := by
  rw [bufs_eq, V₂_out, V₂_arg0, V₂_arg1, V₂_dot]
  unfold argPt
  iintro ⟨⟨H0, H1⟩, H2, H3⟩
  isplitl [H0]; · iexact H0
  isplitl [H1]; · iexact H1
  isplitl [H2]; · iexact H2
  iexact H3

theorem hin (c : Dev nD) : iprop(Pipeline.scopedRest (Pipeline.pin (pcfgs (F := F)) adm 0).spec c ∗ (∃ r, prngReg c r)
      ∗ StableHlo.held (c.tc : Thread nD τ) bufs (V₁ m c) ∗ entry (XX m) c)
    ⊢ (pdats m 0 c).Φ 0 := by
  rw [show (pdats m 0 c).Φ 0 = enter m c from rfl, scratch_eq]
  unfold enter
  iintro ⟨Hs, Hp, Hh, He⟩
  ihave Hh' := (held_of m c) $$ Hh
  icases Hh' with ⟨Ha, Hi, Ho⟩
  isplitl [He]; · iexact He
  isplitl [Ha]; · iexact Ha
  isplitl [Hi]; · iexact Hi
  isplitl [Ho]; · iexact Ho
  isplitl [Hs]; · iexact Hs
  iexact Hp

/-- What comes back: the barrier's counter at zero. -/
def back0 (c : Dev nD) : sProp 𝕄 := semVal (cell c (kBar 0)) 0

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) bufs (V₂ m c) ∗ Pipeline.ownSems0 osem c ∗ back0 (F := F) c) := by
  rw [show (pdats m 0 c).Φ (Fin.last _) = leave m c from rfl, scratch_eq, ownSems_eq]
  unfold leave back0
  iintro ⟨Hv, Hd, Ha, Hi, Ho, Hs, Hp⟩
  isplitl [Hs]; · iexact Hs
  isplitl [Hp]; · iexact Hp
  isplitl [Ha Hi Ho]
  · iapply (held_to m c)
    isplitl [Ha]; · iexact Ha
    isplitl [Hi]; · iexact Hi
    iexact Ho
  isplitl [Hd]; · iexact Hd
  iexact Hv

set_option backward.isDefEq.respectTransparency.types false in
/-- The kernel's region. -/
def reg0 : Pipeline.RegionSeg (pcfgs (F := F)) adm (pdats m) 0 defs₀ 𝒱₀ LL lev 0 :=
  Pipeline.RegionSeg.ofTalk (pcfgs (F := F)) adm (pdats m) 0 defs₀ 𝒱₀ LL lev 0 osem ⟨osem_facts.isScoped, osem_facts.inj, fun _ w => w.elim0⟩
    bufs bufs (Finset.Subset.refl _) kitP rfl (fun c => (body0 m c).loose)
    (fun _ => 0) (fun c => owe c dueAll) (fun c => (owed_zero m c).trans (zero_add _).symm) (owed_last m) (fun _ => rfl) (fun _ w => w.elim0)
    (V₁ m) (V₂ m) (fun _ b hb => absurd hb (by rw [Finset.sdiff_self]; exact Finset.notMem_empty b))
    (ride (XX m)) back0 (entry (XX m)) back0 (hopen (XX m)) (hin m) (hout m)
    (fun c => by iintro H; imodintro; iexact H)
    (fun _ => 0)
    ⟨fun _ w => w.elim0, fun _ w => w.elim0, fun c t g i h => cutD m c t g i h⟩
    (fun _ => iprop(emp))
    (fun _ w => w.elim0) (fun _ w => w.elim0)

theorem held_arr (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

theorem reg0_pre (c : Dev nD) : iprop(StableHlo.held (c : Thread nD τ) bufs (V₁ m c) ∗ along m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ ride (XX m) c ∗ ∃ Wd, owes (c : Thread nD τ) (0 + owe c dueAll) Wd)
  rw [held_arr, zero_add]
  unfold along
  iintro ⟨Hh, Hr, Hp, HO⟩
  isplitr; · iempintro
  isplitl [Hp]; · iexact Hp
  isplitl [Hh]
  · isplitl [Hh]; · iexact Hh
    iempintro
  isplitl [Hr]; · iexact Hr
  iexact HO

/-- What is known of a device at the end. -/
abbrev atEnd (c : Dev nD) : sProp 𝕄 := iprop(StableHlo.held (c : Thread nD τ) bufs (V₂ m c) ∗ back0 (F := F) c)

theorem reg0_post (c : Dev nD) : (reg0 m).post c ⊢ iprop(atEnd m c ∗ ∃ W, owes (c : Thread nD τ) (0 : CellTallies nD τ sig ℕ) W) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ back0 c ∗ ∃ Wd, owes (c : Thread nD τ) (0 : CellTallies nD τ sig ℕ) Wd) ⊢ _
  rw [held_arr]
  iintro ⟨-, -, ⟨Hh, -⟩, Hb, HO⟩
  isplitr [HO]
  · isplitl [Hh]; · iexact Hh
    iexact Hb
  iexact HO

/-- @main as its segments. -/
def segs : List (Pipeline.Seg (pcfgs (F := F)) adm (pdats m) 0 defs₀ 𝒱₀ LL lev) := [.host (host0 m), .region (reg0 m)]

theorem main_eq (c : Dev nD) : main (F := F) c = Pipeline.Seg.run (segs m) :=
  main_segs adm (pdats m) 0 𝒱₀ LL lev (host0 m) (reg0 m) rfl c

end Cert.KernelIdeal.Own

end
-- ==== Proof.KernelIdeal.Run.lean ====
/-
  The run of @main on the sixteen devices, from any memory.
-/
module

public import proofs.«01_k».proof.Proof.KernelIdeal.Region
public import Idealize.ShloMosaic.Lib.Quiescent

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (tallyL tallyL_pos)
open Cert.KernelIdeal Cert.KernelIdeal.Gen
open NK Duty

variable {F : FTy → Type} [FloatOps F]

local notation "𝕄" => MT nD τ sig ℕ (Elt F) ℕ UU ℕ

variable (m : (ℓ : Loc nD τ sig) → Buf (Elt F) ℓ) (ρ : Dev nD → PrngReg)

/-! ## The launch -/

/-- The protocol's launch element. -/
abbrev launchEl : URounds (GSem nD τ sig) Duty := launchOf (fam.S) (fam.Sd) (fam.T)

/-- The whole program's: no staging cells, and the protocol's. -/
def u₀ : UU :=
  (initOf (Pipeline.cells (Pipeline.pin (pcfgs (F := F)) adm) cellOf_inj) (Pipeline.launchToks (Pipeline.pin (pcfgs (F := F)) adm) cellOf_inj), launchEl)

/-- A resource as one of every device: all of it on device 0. -/
def park (A : sProp 𝕄) (c : Dev nD) : sProp 𝕄 := if c = 0 then A else iprop(emp)
theorem park_all (A : sProp 𝕄) : bigSep Finset.univ (park (F := F) A) = A := by
  rw [bigSep_univ_at _ (0 : Dev nD), bigSep_congr (s := Finset.univ.erase (0 : Dev nD)) (Ψ := fun _ => (BI.emp : sProp 𝕄))
      fun c hc => by unfold park; rw [if_neg (Finset.ne_of_mem_erase hc)]; rfl, BI.bigSep_emp_const]
  unfold park; rw [if_pos rfl]
  exact BI.equiv_iff.mp sep_emp

/-- The launch element, parked until the launch's global step. -/
def G : Dev nD → sProp 𝕄 := park (BI.own (ER launchEl))

/-- The funding of the protocol's cells and tokens. -/
theorem funds (X : Dev nD → Arr F S512x8192) :
    SiteBlocks.Funds (ER : Emb (URounds (GSem nD τ sig) Duty) 𝕄) (fun c : Dev nD => semVal (cell c (kBar 0)) 0) (fun _ => 0) launchEl
      (fam.launched ER (Rd X) fun _ => Finset.univ) Set.univ :=
  fam.funds ER (Rd X) (fun _ _ h => h) (fun _ => Finset.univ)

/-- What of a device's launch holdings is not the protocol's. -/
def bundle (c : Dev nD) : sProp 𝕄 :=
  iprop(StableHlo.held (c : Thread nD τ) bufs (V₀ m c) ∗ bigSepL dueAll (crd (F := F) c)
    ∗ (∃ r, prngReg c r) ∗ ∃ W, owes (c : Thread nD τ) (owe c dueAll) W)

/-- The state of a device before @main. -/
abbrev atStart (c : Dev nD) : sProp 𝕄 := iprop(StableHlo.held (c : Thread nD τ) bufs (V₀ m c) ∗ along m c)

theorem atStart_of (c : Dev nD) :
    iprop(fam.launched ER (Rd (XX m)) (fun _ => Finset.univ) c ∗ bundle m c) ⊢ atStart m c := by
  unfold bundle atStart along ride
  iintro ⟨Hl, Hh, Hc, Hp, HO⟩
  isplitl [Hh]; · iexact Hh
  isplitl [Hl Hc]
  · isplitl [Hl]; · iexact Hl
    iexact Hc
  isplitl [Hp]; · iexact Hp
  iexact HO

theorem sort (c : Dev nD) : iprop(unscopedBufs c (fun b => m ((c : Thread nD τ).loc b)) ∗ unscopedSems0 c
        ∗ owes (c : Thread nD τ) (owe c dueAll) ∅ ∗ Pipeline.launchCred (fun d => owe d dueAll) c ∗ prngReg c (ρ c) ∗ G c)
      ⊢ (iprop(bundle m c ∗ ((semVal (cell c (kBar 0)) 0 ∗ Pipeline.launchCred (fun _ => 0) c) ∗ G c)) : sProp 𝕄) := by
  rw [show unscopedBufs c (fun b => m ((c : Thread nD τ).loc b)) = StableHlo.held (c : Thread nD τ) bufs (V₀ m c) from unscopedBufs_held c (V₀ m c),
    unscopedSems0_eq, credits, Pipeline.launchCred_of_sum (fun _ => 0) (fun _ => 0) rfl (fun _ _ h => absurd rfl h) c, cred_zero]
  unfold bundle
  iintro ⟨Hh, Hus, HO, Hcr, Hp, HG⟩
  isplitl [Hh HO Hcr Hp]
  · isplitl [Hh]; · iexact Hh
    isplitl [Hcr]; · iexact Hcr
    isplitl [Hp]; · iexists (ρ c); iexact Hp
    iexists ∅; iexact HO
  isplitl [Hus]
  · isplitl [Hus]; · iexact Hus
    iempintro
  iexact HG

/-- The launch's global step. -/
theorem init :
    iprop((bigSep Finset.univ fun c : Dev nD => iprop(unscopedBufs c (fun b => m ((c : Thread nD τ).loc b)) ∗ unscopedSems0 c
          ∗ owes (c : Thread nD τ) (owe c dueAll) ∅ ∗ Pipeline.launchCred (fun d => owe d dueAll) c ∗ prngReg c (ρ c) ∗ G c)) ∗ levAts LL lev)
      ⊢ (|={Set.univ}=> bigSep Finset.univ (atStart m) : sProp 𝕄) := by
  have hG : bigSep Finset.univ (G (F := F)) ⊢ BI.own (ER launchEl) := Entails.of_eq (park_all (BI.own (ER launchEl)))
  have hS : (bigSep Finset.univ fun c : Dev nD => iprop(unscopedBufs c (fun b => m ((c : Thread nD τ).loc b)) ∗ unscopedSems0 c
          ∗ owes (c : Thread nD τ) (owe c dueAll) ∅ ∗ Pipeline.launchCred (fun d => owe d dueAll) c ∗ prngReg c (ρ c) ∗ G c))
      ⊢ (bigSep Finset.univ fun c : Dev nD => iprop(bundle m c ∗ ((semVal (cell c (kBar 0)) 0 ∗ Pipeline.launchCred (fun _ => 0) c) ∗ G c)) : sProp 𝕄) :=
    bigSep_mono fun c _ => sort m ρ c
  have hE : (bigSep Finset.univ fun c : Dev nD => iprop(fam.launched ER (Rd (XX m)) (fun _ => Finset.univ) c ∗ bundle m c))
      ⊢ (bigSep Finset.univ (atStart m) : sProp 𝕄) := bigSep_mono fun c _ => atStart_of m c
  iintro ⟨H, -⟩
  ihave H' := hS $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := hG $$ HG
  imod (funds (XX m)) $$ [Hv Hu] with Hl
  · isplitl [Hv]; · iexact Hv
    iexact Hu
  imodintro
  iapply hE
  iapply (Entails.of_eq (bigSep_sep' _ _ _).symm)
  isplitl [Hl]; · iexact Hl
  iexact HB

set_option backward.isDefEq.respectTransparency.types false in
/-- The run: from any memory with every counter at zero, @main terminates on the sixteen devices, the arguments end
    unchanged, each device's result is `outFin` of the products, and every semaphore counter is at zero. -/
theorem run_main : θ_run defs (onTc (τ := τ) (main (F := F))) ⟨m, fun _ => 0, ρ⟩
    (fun r => (∀ c : Dev nD, r.2.mem ((c : Thread nD τ).loc main_v2) = outFin (XX m) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) 0 cellOf_inj EP defs₀ 𝒱₀ LL lev m ρ main (segs m)
    (fun c Q => by rw [main_eq m c])
    (by simp only [segs, Pipeline.Seg.pipes_host, Pipeline.Seg.pipes_region, Pipeline.Seg.pipes_nil]; decide)
    (O₀ := fun c => owe c dueAll) (hL := SiteBlocks.hL 16) (G := G) (u₀ := u₀ (F := F))
    (hu₀ := by
      have hG : BI.own (ER launchEl) ⊢ bigSep Finset.univ (G (F := F)) := Entails.of_eq (park_all (BI.own (ER launchEl))).symm
      unfold u₀
      iintro Hu
      ihave H := (ownU_pair _ _) $$ Hu
      icases H with ⟨HP, HX⟩
      imodintro
      isplitl [HP]; · iexact HP
      iapply hG; iexact HX)
    (T₀ := atStart m) (Tₙ := atEnd m)
    (hch := ⟨fun c => .rfl, fun c => reg0_pre m c, fun c => reg0_post m c⟩)
    (hinit := init m ρ)
    (QY := fun c s => (s.mem ((c : Thread nD τ).loc main_v2) = V₂ m c main_v2 ∧ s.mem ((c : Thread nD τ).loc main_arg0) = V₂ m c main_arg0
      ∧ s.mem ((c : Thread nD τ).loc main_arg1) = V₂ m c main_arg1) ∧ s.sem (cell c (kBar 0)) = 0)
    (hfin := fun c s' => by
      dsimp only [atEnd, back0]; rw [bufs_eq]
      iintro ⟨⟨⟨H0, H1, -, H3⟩, Hb0⟩, HSI⟩
      icombine HSI H0 gives %h0
      icombine HSI H1 gives %h1
      icombine HSI H3 gives %h3
      icombine HSI Hb0 gives %hb
      imodintro
      isplitr
      · ipureintro
        exact ⟨⟨Buf.eq_of_forall_mem_univ h3, Buf.eq_of_forall_mem_univ h0, Buf.eq_of_forall_mem_univ h1⟩, by simpa using hb⟩
      iexact HSI)
    (hQ := fun s h hs => ⟨fun c => by
        obtain ⟨⟨h3, h0, h1⟩, -⟩ := h c
        rw [V₂_out] at h3; rw [V₂_arg0, V₁_arg0] at h0; rw [V₂_arg1, V₁_arg1] at h1
        exact ⟨h3, h0, h1⟩,
      sem_eq_zero hs fun c sm hsm => by
        obtain rfl := (unscopedSem_iff sm).mp (by rw [hsm]; exact Bool.false_ne_true)
        exact (h c).2⟩)

end Cert.KernelIdeal.Own

end
-- ==== Proof.Value.Softmax.lean ====
/-
  The mathematics of a softmax taken in four blocks, over the extended reals: each block's maximum and sum of exponentials,
  put together, give the row's maximum and sum, as long as the row's entries are real numbers. And a row of 32768 columns
  read as four blocks of 8192.
-/
module

public import Idealize.ShloMosaic.PureOps.Ideal.Laws

@[expose] public section

noncomputable section

namespace Cert.Softmax

open Idealize.ShloMosaic
open scoped BigOperators

/-! ## Real numbers among the extended reals -/

/-- A sum of real numbers, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The greatest of some real numbers is one of them. -/
theorem sup_real {n : ℕ} [NeZero n] (f : Fin n → EReal) (h : ∀ k, ∃ r : ℝ, f k = r) : ∃ M : ℝ, (Finset.univ.sup f : EReal) = M := by
  obtain ⟨i, -, e⟩ := Finset.exists_mem_eq_sup Finset.univ ⟨0, Finset.mem_univ _⟩ f
  obtain ⟨r, hr⟩ := h i
  exact ⟨r, e.trans hr⟩

/-! ## The two softmaxes of a row -/

section Rows
variable {n : ℕ} (x : Fin 4 → Fin n → EReal)

/-- A block's maximum, and its sum of exponentials below that maximum. -/
def bMax (z : Fin 4) : EReal := Finset.univ.sup (x z)
def bSum (z : Fin 4) : EReal := ∑ k, Ideal.exp (x z k - bMax x z)
/-- The row's maximum, and the row's sum from those of the blocks. -/
def rMax : EReal := Finset.univ.sup (bMax x)
def rSum : EReal := ∑ z, bSum x z * Ideal.exp (bMax x z - rMax x)

/-- On a row of real numbers an exponential below the block's maximum, rescaled, is the softmax of the whole row. -/
theorem rescale [NeZero n] (hx : ∀ z k, ∃ r : ℝ, x z k = r) (z : Fin 4) (j : Fin n) :
    Ideal.exp (x z j - bMax x z) * Ideal.div (Ideal.exp (bMax x z - rMax x)) (rSum x)
      = Ideal.div (Ideal.exp (x z j - rMax x)) (∑ y, ∑ k, Ideal.exp (x y k - rMax x)) := by
  choose r hr using hx
  choose b hb using fun y => sup_real (x y) fun k => ⟨r y k, hr y k⟩
  obtain ⟨M, hM⟩ := sup_real (bMax x) fun y => ⟨b y, hb y⟩
  have eb : ∀ y, bMax x y = b y := hb
  have eM : rMax x = M := hM
  have e1 : ∀ y k, Ideal.exp (x y k - bMax x y) = (Real.exp (r y k - b y) : ℝ) := fun y k => by
    rw [hr, eb, ← EReal.coe_sub]; rfl
  have e2 : ∀ y, Ideal.exp (bMax x y - rMax x) = (Real.exp (b y - M) : ℝ) := fun y => by
    rw [eb, eM, ← EReal.coe_sub]; rfl
  have e3 : ∀ y k, Ideal.exp (x y k - rMax x) = (Real.exp (r y k - M) : ℝ) := fun y k => by
    rw [hr, eM, ← EReal.coe_sub]; rfl
  have e4 : ∀ y k, Real.exp (r y k - b y) * Real.exp (b y - M) = Real.exp (r y k - M) := fun y k => by
    rw [← Real.exp_add]; congr 1; ring
  have eS : (∑ y, ∑ k, Ideal.exp (x y k - rMax x)) = ((∑ y, ∑ k, Real.exp (r y k - M) : ℝ) : EReal) := by
    simp only [e3, coe_sum]
  have eT : rSum x = ((∑ y, ∑ k, Real.exp (r y k - M) : ℝ) : EReal) := by
    unfold rSum bSum
    simp only [e1, e2, coe_sum, ← EReal.coe_mul, Finset.sum_mul, e4]
  have hS : (∑ y : Fin 4, ∑ k : Fin n, Real.exp (r y k - M)) ≠ 0 := by
    refine ne_of_gt (Finset.sum_pos (fun y _ => Finset.sum_pos (fun k _ => Real.exp_pos _) ⟨0, Finset.mem_univ _⟩) ⟨0, Finset.mem_univ _⟩)
  rw [eT, eS, e1, e2, e3, Ideal.div_coe hS, Ideal.div_coe hS, ← mul_assoc, ← EReal.coe_mul, e4]

end Rows

/-! ## Four blocks, in whatever order they arrive -/

/-- The place `k` steps back from `z` round a ring of four. -/
def back4 (z k : Fin 4) : Fin 4 := ⟨(z.val + 4 - k.val) % 4, Nat.mod_lt _ (by decide)⟩

theorem back4_cases : ∀ z y : Fin 4, y = z ∨ y = back4 z 1 ∨ y = back4 z 2 ∨ y = back4 z 3 := by decide

/-- The maximum of four, taken round the ring from any of them. -/
theorem max_round (f : Fin 4 → EReal) (z : Fin 4) :
    max (max (max (f z) (f (back4 z 1))) (f (back4 z 2))) (f (back4 z 3)) = Finset.univ.sup f := by
  refine le_antisymm ?_ (Finset.sup_le fun y _ => ?_)
  · have h : ∀ y, f y ≤ Finset.univ.sup f := fun y => Finset.le_sup (Finset.mem_univ y)
    exact max_le (max_le (max_le (h _) (h _)) (h _)) (h _)
  · rcases back4_cases z y with e | e | e | e
    · exact (congrArg f e).le.trans ((le_max_left _ _).trans ((le_max_left _ _).trans (le_max_left _ _)))
    · exact (congrArg f e).le.trans ((le_max_right _ _).trans ((le_max_left _ _).trans (le_max_left _ _)))
    · exact (congrArg f e).le.trans ((le_max_right _ _).trans (le_max_left _ _))
    · exact (congrArg f e).le.trans (le_max_right _ _)

/-- The sum of four likewise. -/
theorem sum_round (f : Fin 4 → EReal) (z : Fin 4) : f z + f (back4 z 1) + f (back4 z 2) + f (back4 z 3) = ∑ y, f y := by
  rw [Fin.sum_univ_four]
  revert z
  refine Fin.forall_fin_succ.mpr ⟨?_, Fin.forall_fin_succ.mpr ⟨?_, Fin.forall_fin_two.mpr ⟨?_, ?_⟩⟩⟩
  · show f 0 + f 3 + f 2 + f 1 = _; abel
  · show f 1 + f 0 + f 3 + f 2 = _; abel
  · show f 2 + f 1 + f 0 + f 3 = _; abel
  · show f 3 + f 2 + f 1 + f 0 = _; abel

/-! ## A row of 32768 columns as four blocks -/

/-- Column `j` of block `z`. -/
def col (z : Fin 4) (j : Fin 8192) : Fin 32768 := ⟨8192 * z.val + j.val, by omega⟩
/-- The block and the column in it of a column of the row. -/
def colBlock (k : Fin 32768) : Fin 4 := ⟨k.val / 8192, by omega⟩
def colIn (k : Fin 32768) : Fin 8192 := ⟨k.val % 8192, Nat.mod_lt _ (by decide)⟩

theorem col_split (k : Fin 32768) : col (colBlock k) (colIn k) = k := Fin.ext (by show 8192 * (k.val / 8192) + k.val % 8192 = k.val; omega)

/-- The columns of the row are the pairs of a block and a column in it. -/
def cols : Fin 4 × Fin 8192 ≃ Fin 32768 where
  toFun p := col p.1 p.2
  invFun k := (colBlock k, colIn k)
  left_inv p := Prod.ext
    (Fin.ext (by have := p.2.isLt; show (8192 * p.1.val + p.2.val) / 8192 = p.1.val; omega))
    (Fin.ext (by have := p.2.isLt; show (8192 * p.1.val + p.2.val) % 8192 = p.2.val; omega))
  right_inv k := col_split k

/-- The row's sum is the sum over the blocks of their sums, -/
theorem sum_cols (f : Fin 32768 → EReal) : ∑ k, f k = ∑ z, ∑ j, f (col z j) := by
  rw [← Equiv.sum_comp cols f, Fintype.sum_prod_type]
  rfl

/-- and its maximum the greatest of their maxima. -/
theorem sup_cols (f : Fin 32768 → EReal) : Finset.univ.sup f = Finset.univ.sup fun z => Finset.univ.sup fun j => f (col z j) := by
  refine le_antisymm (Finset.sup_le fun k _ => ?_) (Finset.sup_le fun z _ => Finset.sup_le fun j _ => Finset.le_sup (Finset.mem_univ _))
  have h1 : f (col (colBlock k) (colIn k)) ≤ Finset.univ.sup fun j => f (col (colBlock k) j) :=
    Finset.le_sup (f := fun j => f (col (colBlock k) j)) (Finset.mem_univ (colIn k))
  have h2 : (Finset.univ.sup fun j => f (col (colBlock k) j)) ≤ Finset.univ.sup fun z => Finset.univ.sup fun j => f (col z j) :=
    Finset.le_sup (f := fun z => Finset.univ.sup fun j => f (col z j)) (Finset.mem_univ (colBlock k))
  rw [col_split] at h1
  exact h1.trans h2

end Cert.Softmax

end
-- ==== Proof.Value.Block.lean ====
/-
  What the kernel computes over the extended reals, entry by entry: the final block of each device is the exponentials below
  its own row maxima, rescaled by the row's maximum and sum over the four blocks.
-/
module

public import proofs.«01_k».proof.Proof.KernelIdeal.Compute
public import proofs.«01_k».proof.Proof.Value.Softmax
public import Idealize.ShloMosaic.Lib.ValueLayoutCasts
public import Idealize.ShloMosaic.Lib.ValueIdx

@[expose] public section

noncomputable section

namespace Cert.KernelIdeal.Own

open Idealize.ShloMosaic Idealize.ShloMosaic.ValueIdx Idealize.SL.Sem
open Cert.KernelIdeal Cert.KernelIdeal.Gen Cert.Softmax

/-! ## Layout -/

/-- A column of numbers, one a row, repeated along the rows. -/
theorem rep_at (v : Vec Ideal S512x1 .f32) (r : Fin 512) (j : Fin 4096) :
    broadcastTo S512x4096 v broadcasts_S512x1_S512x4096 (ix2 r j) = v (ix2 r (0 : Fin 1)) :=
  broadcastTo_apply v _ (ix2 r j) (ix2 r (0 : Fin 1)) fun a => by fin_cases a <;> rfl

/-- A received row of statistics as a column. -/
theorem strip_at (v : Vec Ideal S1x1x512x1 .f32) (r : Fin 512) (u : Fin 1) :
    shapeCast S512x1 v shapeCasts_S1x1x512x1_S512x1 (ix2 r u) = v (ix4 (⟨0, Nat.one_pos⟩ : Fin 1) (⟨0, Nat.one_pos⟩ : Fin 1) r u) :=
  congrArg v (reshapeEquiv_ix2_11ab _ r u)

/-- An index of the whole block, seen through the whole block, is itself. -/
theorem rL_emb (x : S512x8192.Idx) : ((lM.access rL).emb x : S512x8192.Idx) = x := by
  funext a
  refine Fin.ext ((ValueKit.rect_emb_unit_val _ _ _ _ a).trans ?_)
  fin_cases a <;> exact Nat.zero_add _

/-- The whole block read is the block. -/
theorem readL (f : Arr Ideal S512x8192) : (lM.access rL).read (Elt Ideal) f = f :=
  funext fun x => congrArg f (rL_emb x)

/-- The left half read, -/
theorem readA (f : Arr Ideal S512x8192) (r : Fin 512) (j : Fin 4096) :
    (lM.access rA).read (Elt Ideal) f (ix2 r j) = f (ix2 r (⟨j.val, by omega⟩ : Fin 8192)) :=
  congrArg f (rA_emb (ix2 r j))
/-- and the right half read. -/
theorem readB (f : Arr Ideal S512x8192) (r : Fin 512) (j : Fin 4096) :
    (lM.access rB).read (Elt Ideal) f (ix2 r j) = f (ix2 r (⟨4096 + j.val, by omega⟩ : Fin 8192)) :=
  congrArg f (rB_emb (ix2 r j))

/-- No index of the right half is in the left half. -/
theorem rA_off (r : Fin 512) (j : Fin 4096) :
    (ix2 r (⟨4096 + j.val, by omega⟩ : Fin 8192) : S512x8192.Idx) ∉ (lM.access rA).setOn Finset.univ := fun hm => by
  obtain ⟨y, -, e⟩ := Finset.mem_map.mp hm
  rw [rA_emb] at e
  have e1 : (y 1).val = 4096 + j.val := congrArg Fin.val (congrFun e 1)
  have h : (y 1).val < 4096 := (y 1).isLt
  omega

/-- A write of the left half leaves the right half, -/
theorem writeA_right (f : Arr Ideal S512x8192) (p : Vec Ideal S512x4096 .f32) (r : Fin 512) (j : Fin 4096) :
    ((lM.access rA).write (Elt Ideal) f p Finset.univ : Arr Ideal S512x8192) (ix2 r (⟨4096 + j.val, by omega⟩ : Fin 8192))
      = f (ix2 r (⟨4096 + j.val, by omega⟩ : Fin 8192)) :=
  View.write_of_not_mem (Val := Elt Ideal) (v := lM.access rA) f p _ (rA_off r j)
/-- and puts its values in the left half; -/
theorem writeA_left (f : Arr Ideal S512x8192) (p : Vec Ideal S512x4096 .f32) (r : Fin 512) (j : Fin 4096) :
    ((lM.access rA).write (Elt Ideal) f p Finset.univ : Arr Ideal S512x8192) (ix2 r (⟨j.val, by omega⟩ : Fin 8192)) = p (ix2 r j) :=
  write_at (lM.access rA) f p (ix2 r j) _ (rA_emb (ix2 r j))
/-- a write of the right half leaves the left half -/
theorem writeB_left (f : Arr Ideal S512x8192) (p : Vec Ideal S512x4096 .f32) (r : Fin 512) (j : Fin 4096) :
    ((lM.access rB).write (Elt Ideal) f p Finset.univ : Arr Ideal S512x8192) (ix2 r (⟨j.val, by omega⟩ : Fin 8192))
      = f (ix2 r (⟨j.val, by omega⟩ : Fin 8192)) :=
  View.write_of_not_mem (Val := Elt Ideal) (v := lM.access rB) f p _ ((rA_emb (ix2 r j)) ▸ rB_off (ix2 r j))
/-- and puts its values in the right half. -/
theorem writeB_right (f : Arr Ideal S512x8192) (p : Vec Ideal S512x4096 .f32) (r : Fin 512) (j : Fin 4096) :
    ((lM.access rB).write (Elt Ideal) f p Finset.univ : Arr Ideal S512x8192) (ix2 r (⟨4096 + j.val, by omega⟩ : Fin 8192)) = p (ix2 r j) :=
  write_at (lM.access rB) f p (ix2 r j) _ (rB_emb (ix2 r j))

/-- Both halves rewritten, each from what it held: every entry is rewritten from what it held. -/
theorem both_halves (f : Arr Ideal S512x8192) (g : EReal → Fin 512 → EReal) (pA pB : Vec Ideal S512x4096 .f32 → Vec Ideal S512x4096 .f32)
    (hA : ∀ v r j, pA v (ix2 r j) = g (v (ix2 r j)) r) (hB : ∀ v r j, pB v (ix2 r j) = g (v (ix2 r j)) r) (f1 : Arr Ideal S512x8192)
    (h1 : f1 = (lM.access rA).write (Elt Ideal) f (pA ((lM.access rA).read (Elt Ideal) f)) Finset.univ) (r : Fin 512) (k : Fin 8192) :
    ((lM.access rB).write (Elt Ideal) f1 (pB ((lM.access rB).read (Elt Ideal) f1)) Finset.univ : Arr Ideal S512x8192) (ix2 r k)
      = g (f (ix2 r k)) r := by
  have hk := k.isLt
  by_cases h : k.val < 4096
  · obtain ⟨j, e⟩ : ∃ j : Fin 4096, k = (⟨j.val, by have := j.isLt; omega⟩ : Fin 8192) := ⟨⟨k.val, h⟩, rfl⟩
    rw [e, writeB_left, h1, writeA_left, hA, readA]
  · obtain ⟨j, e⟩ : ∃ j : Fin 4096, k = (⟨4096 + j.val, by have := j.isLt; omega⟩ : Fin 8192) :=
      ⟨⟨k.val - 4096, by omega⟩, Fin.ext (by show k.val = 4096 + (k.val - 4096); omega)⟩
    rw [e, writeB_right, hB, readB, h1, writeA_right]

variable (X : Dev nD → Arr Ideal S512x8192)

/-! ## The block's own statistics -/

/-- A row of a device's block. -/
def bRow (c : Dev nD) (r : Fin 512) (k : Fin 8192) : EReal := X c (ix2 r k)
/-- Its maximum, and its sum of exponentials below that. -/
def mx (c : Dev nD) (r : Fin 512) : EReal := Finset.univ.sup (bRow X c r)
def sm (c : Dev nD) (r : Fin 512) : EReal := ∑ k, Ideal.exp (bRow X c r k - mx X c r)

/-- The index a row sum or maximum reads at column `k`. -/
theorem lift_row (r : Fin 512) (k : Fin 8192) : reduces_S512x8192_S512.lift (ix1 r) k = ix2 r k := by
  funext a
  refine Fin.ext ?_
  fin_cases a <;> rfl

/-- The accumulator of a maximum is the least extended real. -/
theorem ofBits_bot : Ideal.ofBits .f32 0xFF800000#32 = ⊥ := by simp [Ideal.ofBits, Ideal.ieee]

/-- One number a row as a column. -/
theorem col_at (v : Vec Ideal S512 .f32) (r : Fin 512) (u : Fin 1) :
    shapeCast S512x1 v shapeCasts_S512_S512x1 (ix2 r u) = v (ix1 r) :=
  shapeCast_apply v _ (ix2 r u) (ix1 r) (by
    have hu : u.val = 0 := by omega
    rw [Shape.rowMajor_val_two, Shape.rowMajor_val_one]
    show r.val = r.val * 1 + u.val
    omega)

/-- The row maxima, the exponentials of either half and the row sums, as the operations that give them. -/
theorem pay1_def (v : Vec Ideal S512x8192 .f32) :
    k0_pay1 v = shapeCast S512x1 (multiReduction (F := Ideal) .maximumf [1] S512 v 0xFF800000#32 reduces_S512x8192_S512 (.inl rfl) rfl)
      shapeCasts_S512_S512x1 := rfl
theorem pay2_def (w : Vec Ideal S512x8192 .f32) (v : Vec Ideal S512x4096 .f32) :
    k0_pay2 w v = shapeCast S512x4096 (exp (F := Ideal) (subf (F := Ideal) v (broadcastTo S512x4096 (k0_pay1 w) broadcasts_S512x1_S512x4096)))
      shapeCasts_S512x4096_S512x4096 := rfl
theorem pay3_def (w : Vec Ideal S512x8192 .f32) (v : Vec Ideal S512x4096 .f32) : k0_pay3 w v = k0_pay2 w v := rfl
theorem pay4_def (v : Vec Ideal S512x8192 .f32) :
    k0_pay4 v = shapeCast S512x1 (multiReduction (F := Ideal) .add [1] S512 v 0x00000000#32 reduces_S512x8192_S512 (.inl rfl) rfl)
      shapeCasts_S512_S512x1 := rfl

/-- The row maxima. -/
theorem pay1_at (v : Vec Ideal S512x8192 .f32) (r : Fin 512) (u : Fin 1) :
    k0_pay1 v (ix2 r u) = Finset.univ.sup fun k : Fin 8192 => (v (ix2 r k) : EReal) := by
  rw [pay1_def, col_at]
  have h := Ideal.multiReduction_maximumf_single (φ := .f32) (s := S512x8192) (t := S512) (a := 1) v 0xFF800000#32 reduces_S512x8192_S512
    (.inl rfl) rfl (ix1 r)
  have e : (FloatOps.ofBits .f32 0xFF800000#32 : Ideal .f32) = (⊥ : EReal) := ofBits_bot
  have e' : (v ∘ reduces_S512x8192_S512.lift (ix1 r) : Fin 8192 → Ideal .f32) = fun k => v (ix2 r k) :=
    funext fun k => congrArg v (lift_row r k)
  rw [e] at h
  refine Eq.trans h ?_
  exact congrArg (fun (g : Fin 8192 → EReal) => Finset.fold max ⊥ g Finset.univ) e'

/-- The row sums. -/
theorem pay4_at (v : Vec Ideal S512x8192 .f32) (r : Fin 512) (u : Fin 1) :
    k0_pay4 v (ix2 r u) = ∑ k : Fin 8192, (v (ix2 r k) : EReal) := by
  rw [pay4_def, col_at]
  refine (Ideal.multiReduction_add_single v 0x00000000#32 reduces_S512x8192_S512 (.inl rfl) rfl (ix1 r)).trans ?_
  have e' : (fun k => v (reduces_S512x8192_S512.lift (ix1 r) k) : Fin 8192 → EReal) = fun k => v (ix2 r k) :=
    funext fun k => congrArg v (lift_row r k)
  exact congrArg (fun (g : Fin 8192 → EReal) => Finset.sum Finset.univ g) e'

/-- The exponentials of either half. -/
theorem pay2_at (w : Vec Ideal S512x8192 .f32) (v : Vec Ideal S512x4096 .f32) (r : Fin 512) (j : Fin 4096) :
    k0_pay2 w v (ix2 r j) = Ideal.exp (v (ix2 r j) - k0_pay1 w (ix2 r (0 : Fin 1))) := by
  rw [pay2_def, shapeCast_self]
  exact congrArg (fun t : EReal => Ideal.exp ((v (ix2 r j) : EReal) - t)) (rep_at (k0_pay1 w) r j)
theorem pay3_at (w : Vec Ideal S512x8192 .f32) (v : Vec Ideal S512x4096 .f32) (r : Fin 512) (j : Fin 4096) :
    k0_pay3 w v (ix2 r j) = Ideal.exp (v (ix2 r j) - k0_pay1 w (ix2 r (0 : Fin 1))) := by
  rw [pay3_def]
  exact pay2_at w v r j

/-- The row maxima a device takes are those of its block. -/
theorem rowMax_at (c : Dev nD) (r : Fin 512) (u : Fin 1) : rowMax X c (ix2 r u) = mx X c r := by
  unfold rowMax lAll
  rw [readL]
  exact pay1_at _ r u

/-- After both halves, every entry is the exponential below its row maximum. -/
theorem l2_at (c : Dev nD) (r : Fin 512) (k : Fin 8192) : l2 X c (ix2 r k) = Ideal.exp (bRow X c r k - mx X c r) := by
  have e : k0_pay1 (lAll X c) (ix2 r (0 : Fin 1)) = mx X c r := rowMax_at X c r 0
  refine (both_halves (X c) (fun t r => Ideal.exp (t - k0_pay1 (lAll X c) (ix2 r (0 : Fin 1)))) (k0_pay2 (lAll X c)) (k0_pay3 (lAll X c))
    (pay2_at _) (pay3_at _) (l1 X c) rfl r k).trans ?_
  rw [e]
  rfl

/-- The row sums a device takes are those of these exponentials. -/
theorem rowSum_at (c : Dev nD) (r : Fin 512) (u : Fin 1) : rowSum X c (ix2 r u) = sm X c r := by
  unfold rowSum
  rw [readL, pay4_at]
  exact Finset.sum_congr rfl fun k _ => l2_at X c r k

/-! ## The statistics of all four -/

/-- Where a row of the received statistics lies. -/
theorem rRow_emb (d : Fin 3) (j : Fin 2) (r : Fin 512) (u : Fin 1) :
    ((srM.access (rRow d j)).emb (ix4 (⟨0, Nat.one_pos⟩ : Fin 1) (⟨0, Nat.one_pos⟩ : Fin 1) r u) : S3x2x512x1.Idx) = ix4 d j r u := by
  funext a
  refine Fin.ext ((ValueKit.rect_emb_unit_val _ _ _ _ a).trans ?_)
  fin_cases a
  · exact Nat.add_zero _
  · exact Nat.add_zero _
  · exact Nat.zero_add _
  · exact Nat.zero_add _

/-- A column under a leading axis of one. -/
theorem lead_at (v : Vec Ideal S512x1 .f32) (r : Fin 512) (u : Fin 1) :
    shapeCast S1x512x1 v shapeCasts_S512x1_S1x512x1 (ix3 (⟨0, Nat.one_pos⟩ : Fin 1) r u) = v (ix2 r u) :=
  shapeCast_apply v _ (ix3 (⟨0, Nat.one_pos⟩ : Fin 1) r u) (ix2 r u) (by
    rw [Shape.rowMajor_val_three, Shape.rowMajor_val_two]
    show r.val * 1 + u.val = (0 * 512 + r.val) * 1 + u.val
    omega)

/-- A received row is a row of what its sender sends: -/
theorem row_at (c : Dev nD) (d : Fin 3) (j : Fin 2) (r : Fin 512) (u : Fin 1) :
    row X c d j (ix4 (⟨0, Nat.one_pos⟩ : Fin 1) (⟨0, Nat.one_pos⟩ : Fin 1) r u) = stFin X (back c d.succ) (ix3 j r u) := by
  unfold row
  rw [View.read_apply, rRow_emb]
  rfl
/-- the first is its maxima, -/
theorem st_zero (c : Dev nD) (r : Fin 512) (u : Fin 1) : stFin X c (ix3 (0 : Fin 2) r u) = rowMax X c (ix2 r u) := by
  unfold stFin
  rw [if_pos (show ((ix3 (0 : Fin 2) r u : S2x512x1.Idx) 0).val = 0 from rfl)]
  exact lead_at (rowMax X c) r u
/-- the second its sums. -/
theorem st_one (c : Dev nD) (r : Fin 512) (u : Fin 1) : stFin X c (ix3 (1 : Fin 2) r u) = rowSum X c (ix2 r u) := by
  unfold stFin
  rw [if_neg (show ¬((ix3 (1 : Fin 2) r u : S2x512x1.Idx) 0).val = 0 from Nat.one_ne_zero)]
  exact lead_at (rowSum X c) r u

/-- A received row is that of its sender: maxima, -/
theorem row_max (c : Dev nD) (d : Fin 3) (r : Fin 512) (u : Fin 1) :
    shapeCast S512x1 (row X c d 0) shapeCasts_S1x1x512x1_S512x1 (ix2 r u) = mx X (back c d.succ) r := by
  rw [strip_at, row_at, st_zero, rowMax_at]
/-- and sums. -/
theorem row_sum (c : Dev nD) (d : Fin 3) (r : Fin 512) (u : Fin 1) :
    shapeCast S512x1 (row X c d 1) shapeCasts_S1x1x512x1_S512x1 (ix2 r u) = sm X (back c d.succ) r := by
  rw [strip_at, row_at, st_one, rowSum_at]

/-- The maximum and the sum as the device takes them, its own first, then back round the ring. -/
def gm (c : Dev nD) (r : Fin 512) : EReal := max (max (max (mx X c r) (mx X (back c 1) r)) (mx X (back c 2) r)) (mx X (back c 3) r)
def part4 (c b : Dev nD) (r : Fin 512) : EReal := sm X b r * Ideal.exp (mx X b r - gm X c r)

/-- The maximum over the four, entry by entry, -/
theorem pay7_at (a : FVec Ideal S512x1 .f32) (p q t : Vec Ideal S1x1x512x1 .f32) (i : S512x1.Idx) :
    k0_pay7 a p q t i = max (max (max (a i : EReal) (shapeCast S512x1 p shapeCasts_S1x1x512x1_S512x1 i))
      (shapeCast S512x1 q shapeCasts_S1x1x512x1_S512x1 i)) (shapeCast S512x1 t shapeCasts_S1x1x512x1_S512x1 i) := by
  unfold k0_pay7
  rw [maximumf_apply, maximumf_apply, maximumf_apply]
/-- three parts of the sum, -/
theorem pay8_at (a s : FVec Ideal S512x1 .f32) (p q t p1 p0 q1 q0 : Vec Ideal S1x1x512x1 .f32) (i : S512x1.Idx) :
    k0_pay8 a s p q t p1 p0 q1 q0 i = (s i : EReal) * Ideal.exp (a i - k0_pay7 a p q t i)
      + shapeCast S512x1 p1 shapeCasts_S1x1x512x1_S512x1 i * Ideal.exp (shapeCast S512x1 p0 shapeCasts_S1x1x512x1_S512x1 i - k0_pay7 a p q t i)
      + shapeCast S512x1 q1 shapeCasts_S1x1x512x1_S512x1 i * Ideal.exp (shapeCast S512x1 q0 shapeCasts_S1x1x512x1_S512x1 i - k0_pay7 a p q t i) := by
  unfold k0_pay8
  rw [addf_apply, addf_apply, mulf_apply, mulf_apply, mulf_apply]
  rfl
/-- the factor, -/
theorem pay10_eq (a g s t : FVec Ideal S512x1 .f32) (p : Vec Ideal S1x1x512x1 .f32) (i : S512x1.Idx) :
    k0_pay10 a g s t p i = Ideal.div (Ideal.exp (a i - g i))
      (s i + t i * Ideal.exp (shapeCast S512x1 p shapeCasts_S1x1x512x1_S512x1 i - g i)) := by
  unfold k0_pay10
  rw [divf_apply, addf_apply, mulf_apply]
  rfl
/-- and the scaling of the left half -/
theorem pay11_eq (a g s t : FVec Ideal S512x1 .f32) (p : Vec Ideal S1x1x512x1 .f32) (v : Vec Ideal S512x4096 .f32) (r : Fin 512) (j : Fin 4096) :
    k0_pay11 a g s t p v (ix2 r j) = (v (ix2 r j) : EReal) * k0_pay10 a g s t p (ix2 r (0 : Fin 1)) := by
  unfold k0_pay11
  rw [shapeCast_self, mulf_apply, rep_at]
/-- and of the right half. -/
theorem pay13_eq (a g s t : FVec Ideal S512x1 .f32) (p : Vec Ideal S1x1x512x1 .f32) (v : Vec Ideal S512x4096 .f32) (r : Fin 512) (j : Fin 4096) :
    k0_pay13 a g s t p v (ix2 r j) = (v (ix2 r j) : EReal) * k0_pay10 a g s t p (ix2 r (0 : Fin 1)) := by
  unfold k0_pay13
  rw [shapeCast_self, mulf_apply, rep_at]

/-- The maximum a device takes over the four. -/
theorem gMax_at (c : Dev nD) (r : Fin 512) (u : Fin 1) : gMax X c (ix2 r u) = gm X c r := by
  unfold gMax gm
  rw [pay7_at, rowMax_at, row_max, row_max, row_max]
  rfl

/-- Three parts of the sum it takes over the four. -/
theorem gSum_at (c : Dev nD) (r : Fin 512) (u : Fin 1) :
    gSum X c (ix2 r u) = part4 X c c r + part4 X c (back c 1) r + part4 X c (back c 2) r := by
  have e := gMax_at X c r u
  unfold gMax at e
  unfold gSum part4
  rw [pay8_at, e, rowSum_at, rowMax_at, row_max, row_max, row_sum, row_sum]
  rfl

/-- The factor that scales a row of the block. -/
def fac (c : Dev nD) (r : Fin 512) : EReal :=
  Ideal.div (Ideal.exp (mx X c r - gm X c r)) (part4 X c c r + part4 X c (back c 1) r + part4 X c (back c 2) r + part4 X c (back c 3) r)

/-- The factor, from what the device holds and receives. -/
theorem pay10_at (c : Dev nD) (r : Fin 512) (u : Fin 1) :
    k0_pay10 (rowMax X c) (gMax X c) (gSum X c) (k0_pay9 (row X c 2 1)) (row X c 2 0) (ix2 r u) = fac X c r := by
  have e : k0_pay9 (row X c 2 1) (ix2 r u) = sm X (back c (Fin.succ 2)) r := row_sum X c 2 r u
  rw [pay10_eq, e, rowMax_at, gMax_at, gSum_at, row_max]
  rfl

/-- The left half scaled by it, -/
theorem pay11_at (c : Dev nD) (v : Vec Ideal S512x4096 .f32) (r : Fin 512) (j : Fin 4096) :
    k0_pay11 (rowMax X c) (gMax X c) (gSum X c) (k0_pay9 (row X c 2 1)) (row X c 2 0) v (ix2 r j) = (v (ix2 r j) : EReal) * fac X c r := by
  rw [pay11_eq, pay10_at]
/-- and the right half. -/
theorem pay13_at (c : Dev nD) (v : Vec Ideal S512x4096 .f32) (r : Fin 512) (j : Fin 4096) :
    k0_pay13 (rowMax X c) (gMax X c) (gSum X c) (k0_pay9 (row X c 2 1)) (row X c 2 0) v (ix2 r j) = (v (ix2 r j) : EReal) * fac X c r := by
  rw [pay13_eq, pay10_at]

/-- An entry of a device's final block. -/
theorem lFin_at (c : Dev nD) (r : Fin 512) (k : Fin 8192) :
    lFin X c (ix2 r k) = Ideal.exp (bRow X c r k - mx X c r) * fac X c r := by
  refine (both_halves (l2 X c) (fun t r => t * fac X c r) _ _ (pay11_at X c) (pay13_at X c) (l3 X c) rfl r k).trans ?_
  exact congrArg (fun t : EReal => t * fac X c r) (l2_at X c r k)

/-! ## When the four blocks are those of one array -/

/-- If every device holds the column block its last coordinate names of one array of real numbers, an entry of its final
    block is that entry's softmax. -/
theorem lFin_softmax (Y : Fin 512 → Fin 32768 → EReal) (hY : ∀ r k, ∃ x : ℝ, Y r k = x)
    (hX : ∀ c r k, X c (ix2 r k) = Y r (col (⟨c.val % 4, Nat.mod_lt _ (by decide)⟩ : Fin 4) k)) (c : Dev nD) (r : Fin 512) (k : Fin 8192) :
    lFin X c (ix2 r k) = Ideal.div (Ideal.exp (Y r (col (⟨c.val % 4, Nat.mod_lt _ (by decide)⟩ : Fin 4) k) - Finset.univ.sup (Y r)))
      (∑ q, Ideal.exp (Y r q - Finset.univ.sup (Y r))) := by
  let z : Dev nD → Fin 4 := fun b => ⟨b.val % 4, Nat.mod_lt _ (by decide)⟩
  let x : Fin 4 → Fin 8192 → EReal := fun y j => Y r (col y j)
  have hrow : ∀ b, bRow X b r = x (z b) := fun b => funext fun j => hX b r j
  have hm : ∀ b, mx X b r = bMax x (z b) := fun b => by unfold mx bMax; rw [hrow]
  have hs : ∀ b, sm X b r = bSum x (z b) := fun b => by unfold sm bSum; rw [hm, hrow]
  have hz : ∀ d : Fin 4, z (back c d) = back4 (z c) d := fun d => by revert c d; decide
  have hg : gm X c r = rMax x := by
    unfold gm
    rw [hm, hm, hm, hm, hz, hz, hz]
    exact max_round (bMax x) (z c)
  have hp : ∀ b, part4 X c b r = bSum x (z b) * Ideal.exp (bMax x (z b) - rMax x) := fun b => by unfold part4; rw [hs, hm, hg]
  have hf : fac X c r = Ideal.div (Ideal.exp (bMax x (z c) - rMax x)) (rSum x) := by
    unfold fac
    rw [hm, hg, hp, hp, hp, hp, hz, hz, hz]
    exact congrArg (Ideal.div _) (sum_round (fun y => bSum x y * Ideal.exp (bMax x y - rMax x)) (z c))
  have hM : rMax x = Finset.univ.sup (Y r) := (sup_cols (Y r)).symm
  have hS : (∑ q, Ideal.exp (Y r q - Finset.univ.sup (Y r))) = ∑ y, ∑ j, Ideal.exp (x y j - rMax x) := by rw [sum_cols, hM]
  rw [lFin_at, hm, hf, hS, ← hM, show bRow X c r k = x (z c) k from congrFun (hrow c) k]
  exact rescale x (fun y j => hY r (col y j)) (z c) k

/-- Then the result is the array's softmax. -/
theorem outFin_softmax (Y : Fin 512 → Fin 32768 → EReal) (hY : ∀ r k, ∃ x : ℝ, Y r k = x)
    (hX : ∀ c r k, X c (ix2 r k) = Y r (col (⟨c.val % 4, Nat.mod_lt _ (by decide)⟩ : Fin 4) k)) (c : Dev nD) (r : Fin 512) (k : Fin 32768) :
    outFin X c (ix2 r k) = Ideal.div (Ideal.exp (Y r k - Finset.univ.sup (Y r))) (∑ q, Ideal.exp (Y r q - Finset.univ.sup (Y r))) := by
  have hk := k.isLt
  refine (lFin_softmax X Y hY hX (owner c k.val k.isLt) r (colIn k)).trans ?_
  have e : (⟨(owner c k.val k.isLt).val % 4, Nat.mod_lt _ (by decide)⟩ : Fin 4) = colBlock k := Fin.ext (by
    show (owner c k.val k.isLt).val % 4 = k.val / 8192
    unfold owner
    split
    · rename_i h; exact h.symm
    · show (8 * (k.val % 8192 / 4096) + 4 * (c.val / 4 % 2) + k.val / 8192) % 4 = _
      omega)
  rw [e, col_split]

end Cert.KernelIdeal.Own

end
-- ==== Proof.Value.Whole.lean ====
/-
  The reference over the extended reals, entry by entry: the softmax of the product's rows. And the kernel's blocks are blocks
  of that product, whose entries are real numbers when the arguments' are.
-/
module

public import proofs.«01_k».proof.Proof.Gen.ReferenceIdeal.Run
public import proofs.«01_k».proof.Proof.Gen.KernelIdeal
public import proofs.«01_k».proof.Defs
public import proofs.«01_k».proof.Proof.Value.Softmax
public import Idealize.ShloMosaic.Lib.IdealHost
public import Idealize.ShloMosaic.Lib.ValueIdx
public import Idealize.ShloMosaic.Lib.Pipeline.Value
public import Mathlib.Tactic.FinCases

@[expose] public section

noncomputable section

namespace Cert.Whole

open Idealize.ShloMosaic Idealize.ShloMosaic.ValueIdx Idealize.SL.Sem
open Cert.Softmax

/-! ## The reference's rows -/

section Reference
open Cert.ReferenceIdeal Cert.ReferenceIdeal.Gen

/-- The word that starts a maximum is the least extended real, -/
theorem bits_bot : Ideal.ofBits .f32 0xFF800000#32 = ⊥ := by simp [Ideal.ofBits, Ideal.ieee]
/-- and the word the precondition compares with is the greatest. -/
theorem bits_top : Ideal.ofBits .f32 0x7F800000#32 = ⊤ := by simp [Ideal.ofBits, Ideal.ieee]

/-- Reducing the columns of the array leaves its rows. -/
theorem reduces_row : S512x32768.Reduces [1] S512 := by decide

/-- The index a row sum or maximum reads at column `k`. -/
theorem lift_row (r : Fin 512) (k : Fin 32768) : reduces_row.lift (ix1 r) k = ix2 r k := by
  funext a
  refine Fin.ext ?_
  fin_cases a <;> rfl

/-- One number a row, repeated along it. -/
def rows (v : FVec Ideal S512 .f32) : FVec Ideal S512x32768 .f32 :=
  broadcastInDim S512x32768 ![0, 1] bcast_S512x1_S512x32768_0_1 (broadcastInDim S512x1 ![0] bcast_S512_S512x1_0 v)

/-- Every entry of a row is the number of that row. -/
theorem rows_at (v : FVec Ideal S512 .f32) (r : Fin 512) (k : Fin 32768) : rows v (ix2 r k) = v (ix1 r) := by
  unfold rows
  refine (broadcastInDim_apply _ _ _ (ix2 r k) (ix2 r (0 : Fin 1)) fun a => by fin_cases a <;> rfl).trans ?_
  exact broadcastInDim_apply _ _ _ (ix2 r (0 : Fin 1)) (ix1 r) fun a => by fin_cases a; rfl

/-- The maximum of each row, and the sum of each row. -/
def maxes (D : FVec Ideal S512x32768 .f32) : FVec Ideal S512 .f32 :=
  Host.reduce FloatOps.maximumf D (constant S_ .f32 0xFF800000#32) reducesTo_S512x32768_S512_d1 h_S_
def sums (D : FVec Ideal S512x32768 .f32) : FVec Ideal S512 .f32 :=
  Host.reduceAdd D (constant S_ .f32 0x00000000#32) reducesTo_S512x32768_S512_d1 h_S_

/-- The maximum of a row, among its entries, -/
theorem maxes_at (D : FVec Ideal S512x32768 .f32) (r : Fin 512) :
    maxes D (ix1 r) = Finset.univ.sup fun k : Fin 32768 => (D (ix2 r k) : EReal) := by
  have h := Host.reduce_eq_fold_single (FloatOps.maximumf (F := Ideal) (φ := .f32)) D (constant S_ .f32 0xFF800000#32)
    reducesTo_S512x32768_S512_d1 reduces_row h_S_ (ix1 r)
  have e : (constant S_ .f32 0xFF800000#32 : FVec Ideal S_ .f32) (Shape.Idx.first h_S_) = (⊥ : EReal) := bits_bot
  have e' : (fun k => D (reduces_row.lift (ix1 r) k) : Fin 32768 → Ideal .f32) = fun k => D (ix2 r k) :=
    funext fun k => congrArg D (lift_row r k)
  refine Eq.trans h ?_
  rw [e]
  exact congrArg (fun (g : Fin 32768 → EReal) => Finset.fold max ⊥ g Finset.univ) e'

/-- and the sum of a row. -/
theorem sums_at (D : FVec Ideal S512x32768 .f32) (r : Fin 512) : sums D (ix1 r) = ∑ k : Fin 32768, (D (ix2 r k) : EReal) := by
  have h := Ideal.hostReduceAdd_single reducesTo_S512x32768_S512_d1 reduces_row D
    ((constant S_ .f32 0x00000000#32 : FVec Ideal S_ .f32) (Shape.Idx.first h_S_)) (ix1 r)
  have e : (constant S_ .f32 0x00000000#32 : FVec Ideal S_ .f32) (Shape.Idx.first h_S_) = (0 : EReal) := Ideal.ofBits_zero_f32
  have e' : (fun k => D (reduces_row.lift (ix1 r) k) : Fin 32768 → EReal) = fun k => D (ix2 r k) :=
    funext fun k => congrArg D (lift_row r k)
  refine Eq.trans h ?_
  rw [e, zero_add]
  exact congrArg (fun (g : Fin 32768 → EReal) => Finset.sum Finset.univ g) e'

/-- The exponentials below the row maxima, and the reference's result from the product. -/
def exps (D : FVec Ideal S512x32768 .f32) : FVec Ideal S512x32768 .f32 := Host.exp (subf D (rows (maxes D)))
def refOut (D : FVec Ideal S512x32768 .f32) : FVec Ideal S512x32768 .f32 := Host.divf (exps D) (rows (sums (exps D)))

/-- An exponential below its row maximum. -/
theorem exps_at (D : FVec Ideal S512x32768 .f32) (r : Fin 512) (k : Fin 32768) :
    exps D (ix2 r k) = Ideal.exp (D (ix2 r k) - Finset.univ.sup fun k : Fin 32768 => (D (ix2 r k) : EReal)) := by
  have e : exps D (ix2 r k) = Ideal.exp (D (ix2 r k) - rows (maxes D) (ix2 r k)) := rfl
  rw [e, rows_at, maxes_at]

/-- An entry of the reference's result. -/
theorem refOut_at (D : FVec Ideal S512x32768 .f32) (r : Fin 512) (k : Fin 32768) :
    refOut D (ix2 r k) = Ideal.div (Ideal.exp (D (ix2 r k) - Finset.univ.sup fun k : Fin 32768 => (D (ix2 r k) : EReal)))
      (∑ q : Fin 32768, Ideal.exp (D (ix2 r q) - Finset.univ.sup fun k : Fin 32768 => (D (ix2 r k) : EReal))) := by
  unfold refOut
  rw [hostDivf_apply, rows_at, sums_at, exps_at]
  exact congrArg _ (Finset.sum_congr rfl fun q _ => exps_at D r q)

/-- The product's entries. -/
def prod (x : FVec Ideal S512x1024 .f32) (w : FVec Ideal S1024x32768 .f32) : FVec Ideal S512x32768 .f32 :=
  Host.dotGeneral dot_S512x1024_S1024x32768_S512x32768_1_0_0_1_n_n none x w

/-- An entry of the product is a sum over the contracted axis. -/
theorem prod_at (x : FVec Ideal S512x1024 .f32) (w : FVec Ideal S1024x32768 .f32) (r : Fin 512) (k : Fin 32768) :
    prod x w (ix2 r k) = ∑ i : Fin 1024, (x (ix2 r i) * w (ix2 i k) : EReal) := by
  let D := dot_S512x1024_S1024x32768_S512x32768_1_0_0_1_n_n
  let E := contrEquiv1 D 1024 rfl rfl
  have h := Ideal.dotGeneral_apply D none .single x w (ix2 r k)
  refine Eq.trans h ?_
  rw [← Equiv.sum_comp E.symm]
  refine Finset.sum_congr rfl fun i _ => ?_
  have hk := contrEquiv1_symm_val D 1024 rfl rfl i
  have el : D.lhsIdx (ix2 r k) (E.symm i) = ix2 r i := by
    funext a; apply Fin.ext
    match a with
    | ⟨0, _⟩ => rfl
    | ⟨1, _⟩ => exact hk
  have er : D.rhsIdx (ix2 r k) (E.symm i) = ix2 i k := by
    funext a; apply Fin.ext
    match a with
    | ⟨0, _⟩ => exact hk
    | ⟨1, _⟩ => rfl
  rw [el, er]

end Reference

/-! ## The kernel's blocks of the product -/

section Blocks
open Cert.KernelIdeal Cert.KernelIdeal.Gen

/-- A device's product. -/
def part (x : FVec Ideal S512x1024 .f32) (w : FVec Ideal S1024x8192 .f32) : FVec Ideal S512x8192 .f32 :=
  Host.dotGeneral dot_S512x1024_S1024x8192_S512x8192_1_0_0_1_n_n none x w

/-- An entry of a device's product is such a sum too. -/
theorem part_at (x : FVec Ideal S512x1024 .f32) (w : FVec Ideal S1024x8192 .f32) (r : Fin 512) (k : Fin 8192) :
    part x w (ix2 r k) = ∑ i : Fin 1024, (x (ix2 r i) * w (ix2 i k) : EReal) := by
  let D := dot_S512x1024_S1024x8192_S512x8192_1_0_0_1_n_n
  let E := contrEquiv1 D 1024 rfl rfl
  have h := Ideal.dotGeneral_apply D none .single x w (ix2 r k)
  refine Eq.trans h ?_
  rw [← Equiv.sum_comp E.symm]
  refine Finset.sum_congr rfl fun i _ => ?_
  have hk := contrEquiv1_symm_val D 1024 rfl rfl i
  have el : D.lhsIdx (ix2 r k) (E.symm i) = ix2 r i := by
    funext a; apply Fin.ext
    match a with
    | ⟨0, _⟩ => rfl
    | ⟨1, _⟩ => exact hk
  have er : D.rhsIdx (ix2 r k) (E.symm i) = ix2 i k := by
    funext a; apply Fin.ext
    match a with
    | ⟨0, _⟩ => exact hk
    | ⟨1, _⟩ => rfl
  rw [el, er]

/-- A device's block of the weights: the columns its last coordinate names. -/
theorem block_at (w : FVec Ideal Cert.ReferenceIdeal.S1024x32768 .f32) (c : Dev nD) (i : Fin 1024) (k : Fin 8192) :
    Layout.blockN ⟨2, ![1024, 8192]⟩ ⟨2, ![1024, 32768]⟩ (Layout.meshBlock [2, 2, 4] ![[], [2]] c) w (by decide) (ix2 i k)
      = w (ix2 i (col (⟨c.val % 4, Nat.mod_lt _ (by decide)⟩ : Fin 4) k)) := by
  rw [Layout.blockN_apply]
  refine congrArg w (funext fun a => Fin.ext ?_)
  rw [Layout.TilesN.idx_val]
  have h0 : ∀ c : Dev nD, ((Layout.meshBlock (n := nD) [2, 2, 4] ![[], [2]] c) 0).val = 0 := by decide
  have h1 : ∀ c : Dev nD, ((Layout.meshBlock (n := nD) [2, 2, 4] ![[], [2]] c) 1).val = c.val % 4 := by decide
  match a with
  | ⟨0, _⟩ =>
    refine Eq.trans (congrArg (fun t => t * 1024 + i.val) (h0 c)) ?_
    show 0 * 1024 + i.val = i.val
    omega
  | ⟨1, _⟩ =>
    refine Eq.trans (congrArg (fun t => t * 8192 + k.val) (h1 c)) ?_
    show c.val % 4 * 8192 + k.val = 8192 * (c.val % 4) + k.val
    omega

/-- So a device's product is its block of the whole product. -/
theorem part_prod (x : FVec Ideal S512x1024 .f32) (w : FVec Ideal Cert.ReferenceIdeal.S1024x32768 .f32) (c : Dev nD) (r : Fin 512) (k : Fin 8192) :
    part x (Layout.blockN ⟨2, ![1024, 8192]⟩ ⟨2, ![1024, 32768]⟩ (Layout.meshBlock [2, 2, 4] ![[], [2]] c) w) (ix2 r k)
      = prod x w (ix2 r (col (⟨c.val % 4, Nat.mod_lt _ (by decide)⟩ : Fin 4) k)) := by
  rw [part_at, prod_at]
  exact Finset.sum_congr rfl fun i _ => congrArg (fun t : EReal => (x (ix2 r i) : EReal) * t) (block_at w c i k)

end Blocks

/-! ## Real numbers -/

/-- An extended real of absolute value below infinity is a real number. -/
theorem real_of_abs (a : EReal) (h : Ideal.cmp .olt (max a (-a)) ⊤ = 1#1) : ∃ t : ℝ, a = t := by
  have h' : max a (-a) < ⊤ := by
    by_contra hn
    have e : Ideal.cmp .olt (max a (-a)) ⊤ = 0#1 := by
      show BitVec.ofBool (decide (max a (-a) < ⊤)) = 0#1
      rw [decide_eq_false hn]; rfl
    rw [e] at h
    exact absurd h (by decide)
  induction a using EReal.rec with
  | bot => exact absurd h' (by simp)
  | top => exact absurd h' (by simp)
  | coe t => exact ⟨t, rfl⟩

/-- A sum of products of real numbers is a real number. -/
theorem real_dot (f g : Fin 1024 → EReal) (hf : ∀ i, ∃ t : ℝ, f i = t) (hg : ∀ i, ∃ t : ℝ, g i = t) : ∃ t : ℝ, ∑ i, f i * g i = t := by
  choose a ha using hf
  choose b hb using hg
  refine ⟨∑ i, a i * b i, ?_⟩
  rw [← coe_sum]
  exact Finset.sum_congr rfl fun i _ => by rw [ha, hb, EReal.coe_mul]

section Finite
open Cert.KernelIdeal

/-- The shape facts of the precondition, on a device's blocks -/
theorem pre_kernel : Cert.Pre_finite_KernelIdeal.Facts := ⟨by decide, by decide⟩
/-- and on the whole arrays. -/
theorem pre_reference : Cert.Pre_finite_ReferenceIdeal.Facts := ⟨by decide, by decide⟩

/-- The precondition of a device's blocks says that their entries are real numbers. -/
theorem real_of_pre [Cert.Pre_finite_KernelIdeal.Facts] (x : FVec Ideal Cert.Pre_finite_KernelIdeal.S512x1024 .f32)
    (w : FVec Ideal Cert.Pre_finite_KernelIdeal.S1024x8192 .f32)
    (h : (Cert.Pre_finite_KernelIdeal.fn (F := Ideal) x w).1 = (fun _ => 1#1) ∧ (Cert.Pre_finite_KernelIdeal.fn (F := Ideal) x w).2 = (fun _ => 1#1)) :
    (∀ i, ∃ t : ℝ, x i = (t : EReal)) ∧ ∀ i, ∃ t : ℝ, w i = (t : EReal) := by
  refine ⟨fun i => real_of_abs (x i) ?_, fun i => real_of_abs (w i) ?_⟩
  · have e := congrFun h.1 i
    rw [← bits_top]
    exact e
  · have e := congrFun h.2 i
    rw [← bits_top]
    exact e

end Finite

end Cert.Whole

end
-- ==== Proof.lean ====
/-
  The proof of `Cert.Claim`: the three programs run to the end, leave their arguments alone and every semaphore at zero; the
  kernel over the extended reals is the printed one read there; and, on arguments whose entries are real numbers, it computes
  the reference's result on every device. The runs come from Proof/Kernel and Proof/KernelIdeal, the values from Proof/Value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import Idealize.ShloMosaic.Adequacy
public import proofs.«01_k».proof.Proof.Value.Block
public import proofs.«01_k».proof.Proof.Value.Whole
public import Idealize.ShloMosaic.Init

@[expose] public section

noncomputable section

namespace Cert.Proof

open Idealize.ShloMosaic Idealize.ShloMosaic.ValueIdx Idealize.SL.Sem

/-- The kernel as printed runs to the end, leaves its arguments alone and every semaphore at zero. -/
theorem frame_kernel : quiescent_Kernel (hKernel := Cert.Kernel.Gen.facts) := fun m g _ =>
  (θ_run _ _ _).mono (fun _ h => ⟨fun c => (h.1 c).2, h.2⟩) (Cert.Kernel.Own.run_main (F := Bits) m g)

/-- So does the kernel over the extended reals. -/
theorem frame_kernelIdeal : quiescent_KernelIdeal (hKernelIdeal := Cert.KernelIdeal.Gen.facts) := fun m g _ =>
  (θ_run _ _ _).mono (fun _ h => ⟨fun c => (h.1 c).2, h.2⟩) (Cert.KernelIdeal.Own.run_main (F := Ideal) m g)

/-- So does the reference, which has no semaphore at all. -/
theorem frame_referenceIdeal : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The reference's result from its arguments. -/
def result (m' : (ℓ : Loc Cert.ReferenceIdeal.nD Cert.ReferenceIdeal.τ Cert.ReferenceIdeal.sig) → Buf (Elt Ideal) ℓ) :
    FVec Ideal Cert.ReferenceIdeal.S512x32768 .f32 :=
  Cert.Whole.refOut (Cert.Whole.prod (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)))

/-- On arguments `x` and `w` that agree with the devices', every entry of which is a real number, the kernel's result on every
    device is the reference's. -/
theorem value (X : Dev Cert.KernelIdeal.nD → Cert.KernelIdeal.Own.Arr Ideal Cert.KernelIdeal.S512x8192)
    (x : FVec Ideal Cert.ReferenceIdeal.S512x1024 .f32) (w : FVec Ideal Cert.ReferenceIdeal.S1024x32768 .f32)
    (hX : ∀ c, X c = Cert.Whole.part x
      (Layout.blockN ⟨2, ![1024, 8192]⟩ ⟨2, ![1024, 32768]⟩ (Layout.meshBlock [2, 2, 4] ![[], [2]] c) w))
    (hx : ∀ i, ∃ t : ℝ, x i = (t : EReal))
    (hw : ∀ (c : Dev Cert.KernelIdeal.nD) (i : Cert.Pre_finite_KernelIdeal.S1024x8192.Idx), ∃ t : ℝ,
      (Layout.blockN ⟨2, ![1024, 8192]⟩ ⟨2, ![1024, 32768]⟩ (Layout.meshBlock [2, 2, 4] ![[], [2]] c) w : _ → Ideal .f32) i = (t : EReal))
    (c : Dev Cert.KernelIdeal.nD) : Cert.KernelIdeal.Own.outFin X c = Cert.Whole.refOut (Cert.Whole.prod x w) := by
  have hW : ∀ (i : Fin 1024) (k : Fin 32768), ∃ t : ℝ, w (ix2 i k) = (t : EReal) := fun i k => by
    have hk := k.isLt
    obtain ⟨t, ht⟩ := hw ⟨(Cert.Softmax.colBlock k).val, by have := (Cert.Softmax.colBlock k).isLt; show _ < 16; omega⟩ (ix2 i (Cert.Softmax.colIn k))
    refine ⟨t, ?_⟩
    rw [Cert.Whole.block_at] at ht
    have e : (⟨(Cert.Softmax.colBlock k).val % 4, Nat.mod_lt _ (by decide)⟩ : Fin 4) = Cert.Softmax.colBlock k :=
      Fin.ext (Nat.mod_eq_of_lt (Cert.Softmax.colBlock k).isLt)
    have e' : Cert.Softmax.col (⟨(Cert.Softmax.colBlock k).val % 4, Nat.mod_lt _ (by decide)⟩ : Fin 4) (Cert.Softmax.colIn k) = k := by
      rw [e, Cert.Softmax.col_split]
    rw [← ht]
    exact congrArg (fun q => w (ix2 i q)) e'.symm
  funext i
  obtain ⟨r, k, rfl⟩ : ∃ (r : Fin 512) (k : Fin 32768), i = ix2 r k := ⟨i 0, i 1, eq_ix2 i⟩
  rw [Cert.Whole.refOut_at]
  refine Cert.KernelIdeal.Own.outFin_softmax X (fun r k => Cert.Whole.prod x w (ix2 r k)) (fun r k => ?_) (fun c r k => ?_) c r k
  · rw [Cert.Whole.prod_at]
    exact Cert.Whole.real_dot _ _ (fun j => hx (ix2 r j)) (fun j => hW j k)
  · rw [hX c]
    exact Cert.Whole.part_prod x w c r k

/-- The kernel computes the reference's result over the extended reals, on arguments whose entries are real numbers. -/
theorem algebraic : algebraic_KernelIdeal_ReferenceIdeal_pre_finite_KernelIdeal (hKernelIdeal := Cert.KernelIdeal.Gen.facts)
    (hReferenceIdeal := Cert.ReferenceIdeal.Gen.facts) (hPre_finite_KernelIdeal := Cert.Whole.pre_kernel) := by
  intro m g m' g' hpre hagree
  have : Cert.Pre_finite_KernelIdeal.Facts := Cert.Whole.pre_kernel
  have hreal := fun c => Cert.Whole.real_of_pre _ _ (hpre c)
  have hv : ∀ c, Cert.KernelIdeal.Own.outFin (Cert.KernelIdeal.Own.XX m) c = result m' := fun c => by
    refine value _ _ _ (fun c => ?_) (fun i => ?_) (fun c i => ?_) c
    · rw [Cert.KernelIdeal.Own.XX_eq, (hagree c).1, (hagree c).2]
      rfl
    · rw [← (hagree 0).1]
      exact (hreal 0).1 i
    · rw [← (hagree c).2]
      exact (hreal c).2 i
  refine ⟨result m', (θ_run _ _ _).mono (fun _ h c => ⟨((h.1 c).1).trans (hv c), (h.1 c).2⟩) (Cert.KernelIdeal.Own.run_main (F := Ideal) m g),
    (θ_run _ _ _).mono (fun _ h => ⟨((h 0).1).trans rfl, (h 0).2⟩) (Cert.ReferenceIdeal.Value.run (F := Ideal) m' g')⟩

/-- All the claims of the certificate. -/
theorem claim : Cert.Claim := ⟨Cert.Kernel.Gen.facts, Cert.KernelIdeal.Gen.facts, Cert.ReferenceIdeal.Gen.facts,
  Cert.Whole.pre_kernel, Cert.Whole.pre_reference,
  frame_kernel, frame_kernelIdeal, fun m g _ => frame_kernelIdeal m g trivial,
  frame_referenceIdeal, fun m g _ => frame_referenceIdeal m g trivial, trivial, algebraic⟩

end Cert.Proof

end
